-- ==== Defs.lean ====
def Pre_Kernel [hPre_coords_patches : Cert.Pre_coords_patches.Facts] (m : (ℓ : Loc Cert.Kernel.nD Cert.Kernel.τ Cert.Kernel.sig) → Buf (Elt Bits) ℓ) : Prop :=
  ∀ c : Dev Cert.Kernel.nD,
    (Cert.Pre_coords_patches.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_coords_patches : Cert.Pre_coords_patches.Facts] (m : (ℓ : Loc Cert.KernelIdeal.nD Cert.KernelIdeal.τ Cert.KernelIdeal.sig) → Buf (Elt Ideal) ℓ) : Prop :=
  ∀ c : Dev Cert.KernelIdeal.nD,
    (Cert.Pre_coords_patches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_coords_patches [hPre_coords_patches : Cert.Pre_coords_patches.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_coords_patches.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_coords_patches : Cert.Pre_coords_patches.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_coords_patches : Cert.Pre_coords_patches.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_coords_patches [hReferenceIdeal : Cert.ReferenceIdeal.Facts] [hPre_coords_patches : Cert.Pre_coords_patches.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_coords_patches m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_coords_patches : Cert.Pre_coords_patches.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_coords_patches : Cert.Pre_coords_patches.Facts),
    quiescent_Kernel (hKernel := hKernel) (hPre_coords_patches := hPre_coords_patches)
    ∧ quiescent_KernelIdeal (hKernelIdeal := hKernelIdeal) (hPre_coords_patches := hPre_coords_patches)
    ∧ quiescent_ReferenceIdeal (hReferenceIdeal := hReferenceIdeal)
    ∧ quiescent_ReferenceIdeal_pre_coords_patches (hReferenceIdeal := hReferenceIdeal) (hPre_coords_patches := hPre_coords_patches)
    ∧ preserves_Kernel_KernelIdeal
    ∧ algebraic_KernelIdeal_ReferenceIdeal (hKernelIdeal := hKernelIdeal) (hReferenceIdeal := hReferenceIdeal) (hPre_coords_patches := hPre_coords_patches)
-- ==== Pre_coords_patches.lean ====
abbrev S4x1024x8 : Shape := ⟨3, ![4, 1024, 8]⟩
abbrev S1024x200x64 : Shape := ⟨3, ![1024, 200, 64]⟩
abbrev S1024x200 : Shape := ⟨2, ![1024, 200]⟩
abbrev S1024x200x64x2 : Shape := ⟨4, ![1024, 200, 64, 2]⟩
abbrev S1024x200x64x1 : Shape := ⟨4, ![1024, 200, 64, 1]⟩
abbrev S_ : Shape := ⟨0, ![]⟩
abbrev S1024x200x1x1 : Shape := ⟨4, ![1024, 200, 1, 1]⟩
abbrev S1024x200x63x1 : Shape := ⟨4, ![1024, 200, 63, 1]⟩

class Facts : Prop where
  slices_S1024x200x64x2_S1024x200x64x1_0_0_0_0 : S1024x200x64x2.Slices ![0, 0, 0, 0] S1024x200x64x1
  slices_S1024x200x64x2_S1024x200x64x1_0_0_0_1 : S1024x200x64x2.Slices ![0, 0, 0, 1] S1024x200x64x1
  bcast_S_S1024x200x64x1 : S_.BroadcastsInDim S1024x200x64x1 (![] : Fin 0 → Fin S1024x200x64x1.rank)
  slices_S1024x200x64x1_S1024x200x1x1_0_0_0_0 : S1024x200x64x1.Slices ![0, 0, 0, 0] S1024x200x1x1
  slices_S1024x200x64x1_S1024x200x63x1_0_0_0_0 : S1024x200x64x1.Slices ![0, 0, 0, 0] S1024x200x63x1
  concatenates_S1024x200x1x1_S1024x200x63x1_S1024x200x64x1_d2 : Shape.Concatenates [S1024x200x1x1, S1024x200x63x1] S1024x200x64x1 2

variable [Facts]

def fn {F : FTy → Type} [FloatOps F] (main_arg0 : FVec F S4x1024x8 .f32) (main_arg1 : FVec F S1024x200x64 .f32) (main_arg2 : FVec F S1024x200 .f32) (main_arg3 : IVec S1024x200x64x2 32) : IVec S1024x200x64x1 1 :=
  let main_v0 : IVec S1024x200x64x1 32 := (extractStridedSlice S1024x200x64x1 ![0, 0, 0, 0] · slices_S1024x200x64x2_S1024x200x64x1_0_0_0_0) main_arg3
  let main_v1 : IVec S1024x200x64x1 32 := (extractStridedSlice S1024x200x64x1 ![0, 0, 0, 1] · slices_S1024x200x64x2_S1024x200x64x1_0_0_0_1) main_arg3
  let main_v2 : IVec S1024x200x64x1 32 := iotaInDim S1024x200x64x1 32 2
  let main_c : IVec S_ 32 := constantI S_ 32 7#32
  let main_v3 : IVec S1024x200x64x1 32 := broadcastInDim S1024x200x64x1 ![] bcast_S_S1024x200x64x1 main_c
  let main_v4 : IVec S1024x200x64x1 32 := andi main_v2 main_v3
  let main_v5 : IVec S1024x200x1x1 32 := (extractStridedSlice S1024x200x1x1 ![0, 0, 0, 0] · slices_S1024x200x64x1_S1024x200x1x1_0_0_0_0) main_v0
  let main_v6 : IVec S1024x200x63x1 32 := (extractStridedSlice S1024x200x63x1 ![0, 0, 0, 0] · slices_S1024x200x64x1_S1024x200x63x1_0_0_0_0) main_v0
  let main_v7 : IVec S1024x200x64x1 32 := (fun a b => concatenate S1024x200x64x1 2 [⟨S1024x200x1x1, a⟩, ⟨S1024x200x63x1, b⟩] concatenates_S1024x200x1x1_S1024x200x63x1_S1024x200x64x1_d2) main_v5 main_v6
  let main_c_0 : IVec S_ 32 := constantI S_ 32 0#32
  let main_v8 : IVec S1024x200x64x1 32 := broadcastInDim S1024x200x64x1 ![] bcast_S_S1024x200x64x1 main_c_0
  let main_v9 : IVec S1024x200x64x1 1 := cmpi .sge main_v0 main_v8
  let main_c_1 : IVec S_ 32 := constantI S_ 32 1024#32
  let main_v10 : IVec S1024x200x64x1 32 := broadcastInDim S1024x200x64x1 ![] bcast_S_S1024x200x64x1 main_c_1
  let main_v11 : IVec S1024x200x64x1 1 := cmpi .slt main_v0 main_v10
  let main_v12 : IVec S1024x200x64x1 1 := andi main_v9 main_v11
  let main_v13 : IVec S1024x200x64x1 1 := cmpi .eq main_v1 main_v4
  let main_v14 : IVec S1024x200x64x1 1 := andi main_v12 main_v13
  let main_v15 : IVec S1024x200x64x1 1 := cmpi .eq main_v0 main_v7
  let main_c_2 : IVec S_ 32 := constantI S_ 32 0#32
  let main_v16 : IVec S1024x200x64x1 32 := broadcastInDim S1024x200x64x1 ![] bcast_S_S1024x200x64x1 main_c_2
  let main_v17 : IVec S1024x200x64x1 1 := cmpi .eq main_v4 main_v16
  let main_v18 : IVec S1024x200x64x1 1 := ori main_v15 main_v17
  let main_v19 : IVec S1024x200x64x1 1 := andi main_v14 main_v18
  main_v19
-- ==== Kernel.lean ====
abbrev S4x1024x8 : Shape := ⟨3, ![4, 1024, 8]⟩
abbrev S1024x200x64 : Shape := ⟨3, ![1024, 200, 64]⟩
abbrev S1024x200 : Shape := ⟨2, ![1024, 200]⟩
abbrev S1024x200x64x2 : Shape := ⟨4, ![1024, 200, 64, 2]⟩
abbrev S1024x200x8x1 : Shape := ⟨4, ![1024, 200, 8, 1]⟩
abbrev S1024x200x8 : Shape := ⟨3, ![1024, 200, 8]⟩
abbrev S1024x8x200 : Shape := ⟨3, ![1024, 8, 200]⟩
abbrev S1024x1600 : Shape := ⟨2, ![1024, 1600]⟩
abbrev S4x8x1024 : Shape := ⟨3, ![4, 8, 1024]⟩
abbrev S32768 : Shape := ⟨1, ![32768]⟩
abbrev S1024x64x200 : Shape := ⟨3, ![1024, 64, 200]⟩
abbrev S1024x12800 : Shape := ⟨2, ![1024, 12800]⟩
abbrev S4x1024x200 : Shape := ⟨3, ![4, 1024, 200]⟩
abbrev S12800 : Shape := ⟨1, ![12800]⟩
abbrev S1600 : Shape := ⟨1, ![1600]⟩
abbrev S200 : Shape := ⟨1, ![200]⟩
abbrev S4x32x200 : Shape := ⟨3, ![4, 32, 200]⟩
abbrev S_ : Shape := ⟨0, ![]⟩
abbrev S1x12800 : Shape := ⟨2, ![1, 12800]⟩
abbrev S1x1600 : Shape := ⟨2, ![1, 1600]⟩
abbrev S1x200 : Shape := ⟨2, ![1, 200]⟩
abbrev S16 : Shape := ⟨1, ![16]⟩
abbrev S1x1x16 : Shape := ⟨3, ![1, 1, 16]⟩
abbrev S1x32x200 : Shape := ⟨3, ![1, 32, 200]⟩
abbrev S32x200 : Shape := ⟨2, ![32, 200]⟩

abbrev nBuf : Table → Nat
  | .hbm => 15
  | .local .scVector .vmem => 8
  | _ => 0

abbrev bufTy : (tb : Table) → Fin (nBuf tb) → BufTy
  | .hbm, ⟨0, _⟩ => ⟨S4x1024x8, .f32⟩
  | .hbm, ⟨1, _⟩ => ⟨S1024x200x64, .f32⟩
  | .hbm, ⟨2, _⟩ => ⟨S1024x200, .f32⟩
  | .hbm, ⟨3, _⟩ => ⟨S1024x200x64x2, .i32⟩
  | .hbm, ⟨4, _⟩ => ⟨S1024x200x8x1, .i32⟩
  | .hbm, ⟨5, _⟩ => ⟨S1024x200x8, .i32⟩
  | .hbm, ⟨6, _⟩ => ⟨S1024x8x200, .i32⟩
  | .hbm, ⟨7, _⟩ => ⟨S1024x1600, .i32⟩
  | .hbm, ⟨8, _⟩ => ⟨S4x1024x8, .bf16⟩
  | .hbm, ⟨9, _⟩ => ⟨S4x1024x8, .f32⟩
  | .hbm, ⟨10, _⟩ => ⟨S4x8x1024, .f32⟩
  | .hbm, ⟨11, _⟩ => ⟨S32768, .f32⟩
  | .hbm, ⟨12, _⟩ => ⟨S1024x64x200, .f32⟩
  | .hbm, ⟨13, _⟩ => ⟨S1024x12800, .f32⟩
  | .hbm, ⟨14, _⟩ => ⟨S4x1024x200, .f32⟩
  | .local .scVector .vmem, ⟨0, _⟩ => ⟨S32768, .f32⟩
  | .local .scVector .vmem, ⟨1, _⟩ => ⟨S12800, .f32⟩
  | .local .scVector .vmem, ⟨2, _⟩ => ⟨S12800, .f32⟩
  | .local .scVector .vmem, ⟨3, _⟩ => ⟨S1600, .i32⟩
  | .local .scVector .vmem, ⟨4, _⟩ => ⟨S1600, .i32⟩
  | .local .scVector .vmem, ⟨5, _⟩ => ⟨S200, .f32⟩
  | .local .scVector .vmem, ⟨6, _⟩ => ⟨S200, .f32⟩
  | .local .scVector .vmem, ⟨7, _⟩ => ⟨S4x32x200, .f32⟩
  | _, _ => ⟨S4x1024x8, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v7_scv : Ref sig .scVector := ⟨.hbm, 11, rfl⟩
abbrev main_v3_scv : Ref sig .scVector := ⟨.hbm, 7, rfl⟩
abbrev main_v9_scv : Ref sig .scVector := ⟨.hbm, 13, rfl⟩
abbrev main_arg2_scv : Ref sig .scVector := ⟨.hbm, 2, rfl⟩
abbrev main_v10_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  ![v2.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3 : BitVec 32 := 0#32
  ![v2.toNat, 0]
@[reducible] def k0_t1_loop : Scf.Loop 32 :=
  let c0_i32_6 : BitVec 32 := 0#32
  let c16_i32 : BitVec 32 := 16#32
  let v15 : BitVec 32 := Scalar.addi c0_i32_6 c16_i32
  let c1_i32 : BitVec 32 := 1#32
  ⟨c0_i32_6, v15, c1_i32⟩
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_15 : BitVec 32 := 2#32
  let c0_i32_6 : BitVec 32 := 0#32
  let c1_i32 : BitVec 32 := 1#32
  let arg22 : BitVec 32 := Scf.iv c0_i32_6 c1_i32 k0_t1
  let v16 : BitVec 32 := Scalar.muli c2_i32_15 arg22
  let v17 : BitVec 32 := Scalar.addi v2 v16
  let c1_i32_16 : BitVec 32 := 1#32
  let v18 : BitVec 32 := Scalar.addi v17 c1_i32_16
  let c0_i32_17 : BitVec 32 := 0#32
  ![v18.toNat, 0]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_15 : BitVec 32 := 2#32
  let c0_i32_6 : BitVec 32 := 0#32
  let c1_i32 : BitVec 32 := 1#32
  let arg22 : BitVec 32 := Scf.iv c0_i32_6 c1_i32 k0_t1
  let v16 : BitVec 32 := Scalar.muli c2_i32_15 arg22
  let v17 : BitVec 32 := Scalar.addi v2 v16
  let c1_i32_16 : BitVec 32 := 1#32
  let v18 : BitVec 32 := Scalar.addi v17 c1_i32_16
  let c0_i32_19 : BitVec 32 := 0#32
  ![v18.toNat, 0]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_15 : BitVec 32 := 2#32
  let c0_i32_6 : BitVec 32 := 0#32
  let c1_i32 : BitVec 32 := 1#32
  let arg22 : BitVec 32 := Scf.iv c0_i32_6 c1_i32 k0_t1
  let v16 : BitVec 32 := Scalar.muli c2_i32_15 arg22
  let v17 : BitVec 32 := Scalar.addi v2 v16
  let c1_i32_16 : BitVec 32 := 1#32
  let v18 : BitVec 32 := Scalar.addi v17 c1_i32_16
  let c0_i32_21 : BitVec 32 := 0#32
  ![v18.toNat, 0]
def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_15 : BitVec 32 := 2#32
  let c0_i32_6 : BitVec 32 := 0#32
  let c1_i32 : BitVec 32 := 1#32
  let arg22 : BitVec 32 := Scf.iv c0_i32_6 c1_i32 k0_t1
  let v16 : BitVec 32 := Scalar.muli c2_i32_15 arg22
  let v17 : BitVec 32 := Scalar.addi v2 v16
  let c0_i32_23 : BitVec 32 := 0#32
  ![v17.toNat, 0]
def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_15 : BitVec 32 := 2#32
  let c0_i32_6 : BitVec 32 := 0#32
  let c1_i32 : BitVec 32 := 1#32
  let arg22 : BitVec 32 := Scf.iv c0_i32_6 c1_i32 k0_t1
  let v16 : BitVec 32 := Scalar.muli c2_i32_15 arg22
  let v17 : BitVec 32 := Scalar.addi v2 v16
  let c0_i32_25 : BitVec 32 := 0#32
  ![v17.toNat, 0]
def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_15 : BitVec 32 := 2#32
  let c0_i32_6 : BitVec 32 := 0#32
  let c1_i32 : BitVec 32 := 1#32
  let arg22 : BitVec 32 := Scf.iv c0_i32_6 c1_i32 k0_t1
  let v16 : BitVec 32 := Scalar.muli c2_i32_15 arg22
  let v17 : BitVec 32 := Scalar.addi v2 v16
  let c0_i32_27 : BitVec 32 := 0#32
  ![v17.toNat, 0]
@[reducible] def k0_t2_loop : Scf.Loop 32 :=
  let c0_i32_31 : BitVec 32 := 0#32
  let c13_i32 : BitVec 32 := 13#32
  let v44 : BitVec 32 := Scalar.addi c0_i32_31 c13_i32
  let c1_i32_32 : BitVec 32 := 1#32
  ⟨c0_i32_31, v44, c1_i32_32⟩
def k0_off10 (k0_t2 : Fin k0_t2_loop.trips) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v66 : Index := Scalar.indexCast v65
  ![v66.toNat]
def k0_off11 (k0_t2 : Fin k0_t2_loop.trips) : Fin 1 → Nat :=
  let c0_i32_50 : BitVec 32 := 0#32
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v69 : BitVec 32 := Scalar.addi c0_i32_50 v65
  let v70 : Index := Scalar.indexCast v69
  ![v70.toNat]
def k0_off12 (k0_t2 : Fin k0_t2_loop.trips) (c0_i32_51 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v72 : BitVec 32 := Scalar.addi c0_i32_51 v65
  let v73 : Index := Scalar.indexCast v72
  ![v73.toNat]

def k0_chk1 (v79 : IVec S16 32) : Prop :=
  (∀ a x, ((![v79] : Fin 1 → IVec S16 32) a x).toNat < S32768.size a)
theorem k0_idx1_inb : ∀ (v79 : IVec S16 32) (k0_hw1 : k0_chk1 v79), ∀ a x, ((![v79] : Fin 1 → IVec S16 32) a x).toNat < S32768.size a := fun v79 k0_hw1 => k0_hw1

def k0_chk2 (v82 : IVec S16 32) : Prop :=
  (∀ a x, ((![v82] : Fin 1 → IVec S16 32) a x).toNat < S32768.size a)
theorem k0_idx2_inb : ∀ (v82 : IVec S16 32) (k0_hw2 : k0_chk2 v82), ∀ a x, ((![v82] : Fin 1 → IVec S16 32) a x).toNat < S32768.size a := fun v82 k0_hw2 => k0_hw2

def k0_chk3 (v89 : IVec S16 32) : Prop :=
  (∀ a x, ((![v89] : Fin 1 → IVec S16 32) a x).toNat < S32768.size a)
theorem k0_idx3_inb : ∀ (v89 : IVec S16 32) (k0_hw3 : k0_chk3 v89), ∀ a x, ((![v89] : Fin 1 → IVec S16 32) a x).toNat < S32768.size a := fun v89 k0_hw3 => k0_hw3

def k0_chk4 (v92 : IVec S16 32) : Prop :=
  (∀ a x, ((![v92] : Fin 1 → IVec S16 32) a x).toNat < S32768.size a)
theorem k0_idx4_inb : ∀ (v92 : IVec S16 32) (k0_hw4 : k0_chk4 v92), ∀ a x, ((![v92] : Fin 1 → IVec S16 32) a x).toNat < S32768.size a := fun v92 k0_hw4 => k0_hw4

def k0_chk5 (v99 : IVec S16 32) : Prop :=
  (∀ a x, ((![v99] : Fin 1 → IVec S16 32) a x).toNat < S32768.size a)
theorem k0_idx5_inb : ∀ (v99 : IVec S16 32) (k0_hw5 : k0_chk5 v99), ∀ a x, ((![v99] : Fin 1 → IVec S16 32) a x).toNat < S32768.size a := fun v99 k0_hw5 => k0_hw5

def k0_chk6 (v102 : IVec S16 32) : Prop :=
  (∀ a x, ((![v102] : Fin 1 → IVec S16 32) a x).toNat < S32768.size a)
theorem k0_idx6_inb : ∀ (v102 : IVec S16 32) (k0_hw6 : k0_chk6 v102), ∀ a x, ((![v102] : Fin 1 → IVec S16 32) a x).toNat < S32768.size a := fun v102 k0_hw6 => k0_hw6

def k0_chk7 (v109 : IVec S16 32) : Prop :=
  (∀ a x, ((![v109] : Fin 1 → IVec S16 32) a x).toNat < S32768.size a)
theorem k0_idx7_inb : ∀ (v109 : IVec S16 32) (k0_hw7 : k0_chk7 v109), ∀ a x, ((![v109] : Fin 1 → IVec S16 32) a x).toNat < S32768.size a := fun v109 k0_hw7 => k0_hw7

def k0_chk8 (v112 : IVec S16 32) : Prop :=
  (∀ a x, ((![v112] : Fin 1 → IVec S16 32) a x).toNat < S32768.size a)
theorem k0_idx8_inb : ∀ (v112 : IVec S16 32) (k0_hw8 : k0_chk8 v112), ∀ a x, ((![v112] : Fin 1 → IVec S16 32) a x).toNat < S32768.size a := fun v112 k0_hw8 => k0_hw8
def k0_off13 (k0_t2 : Fin k0_t2_loop.trips) (c400_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v118 : BitVec 32 := Scalar.addi c400_i32 v65
  let v119 : Index := Scalar.indexCast v118
  ![v119.toNat]

def k0_chk9 (v125 : IVec S16 32) : Prop :=
  (∀ a x, ((![v125] : Fin 1 → IVec S16 32) a x).toNat < S32768.size a)
theorem k0_idx9_inb : ∀ (v125 : IVec S16 32) (k0_hw9 : k0_chk9 v125), ∀ a x, ((![v125] : Fin 1 → IVec S16 32) a x).toNat < S32768.size a := fun v125 k0_hw9 => k0_hw9

def k0_chk10 (v128 : IVec S16 32) : Prop :=
  (∀ a x, ((![v128] : Fin 1 → IVec S16 32) a x).toNat < S32768.size a)
theorem k0_idx10_inb : ∀ (v128 : IVec S16 32) (k0_hw10 : k0_chk10 v128), ∀ a x, ((![v128] : Fin 1 → IVec S16 32) a x).toNat < S32768.size a := fun v128 k0_hw10 => k0_hw10

def k0_chk11 (v135 : IVec S16 32) : Prop :=
  (∀ a x, ((![v135] : Fin 1 → IVec S16 32) a x).toNat < S32768.size a)
theorem k0_idx11_inb : ∀ (v135 : IVec S16 32) (k0_hw11 : k0_chk11 v135), ∀ a x, ((![v135] : Fin 1 → IVec S16 32) a x).toNat < S32768.size a := fun v135 k0_hw11 => k0_hw11

def k0_chk12 (v138 : IVec S16 32) : Prop :=
  (∀ a x, ((![v138] : Fin 1 → IVec S16 32) a x).toNat < S32768.size a)
theorem k0_idx12_inb : ∀ (v138 : IVec S16 32) (k0_hw12 : k0_chk12 v138), ∀ a x, ((![v138] : Fin 1 → IVec S16 32) a x).toNat < S32768.size a := fun v138 k0_hw12 => k0_hw12

def k0_chk13 (v145 : IVec S16 32) : Prop :=
  (∀ a x, ((![v145] : Fin 1 → IVec S16 32) a x).toNat < S32768.size a)
theorem k0_idx13_inb : ∀ (v145 : IVec S16 32) (k0_hw13 : k0_chk13 v145), ∀ a x, ((![v145] : Fin 1 → IVec S16 32) a x).toNat < S32768.size a := fun v145 k0_hw13 => k0_hw13

def k0_chk14 (v148 : IVec S16 32) : Prop :=
  (∀ a x, ((![v148] : Fin 1 → IVec S16 32) a x).toNat < S32768.size a)
theorem k0_idx14_inb : ∀ (v148 : IVec S16 32) (k0_hw14 : k0_chk14 v148), ∀ a x, ((![v148] : Fin 1 → IVec S16 32) a x).toNat < S32768.size a := fun v148 k0_hw14 => k0_hw14

def k0_chk15 (v155 : IVec S16 32) : Prop :=
  (∀ a x, ((![v155] : Fin 1 → IVec S16 32) a x).toNat < S32768.size a)
theorem k0_idx15_inb : ∀ (v155 : IVec S16 32) (k0_hw15 : k0_chk15 v155), ∀ a x, ((![v155] : Fin 1 → IVec S16 32) a x).toNat < S32768.size a := fun v155 k0_hw15 => k0_hw15

def k0_chk16 (v158 : IVec S16 32) : Prop :=
  (∀ a x, ((![v158] : Fin 1 → IVec S16 32) a x).toNat < S32768.size a)
theorem k0_idx16_inb : ∀ (v158 : IVec S16 32) (k0_hw16 : k0_chk16 v158), ∀ a x, ((![v158] : Fin 1 → IVec S16 32) a x).toNat < S32768.size a := fun v158 k0_hw16 => k0_hw16
def k0_off14 (k0_t2 : Fin k0_t2_loop.trips) (c800_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v164 : BitVec 32 := Scalar.addi c800_i32 v65
  let v165 : Index := Scalar.indexCast v164
  ![v165.toNat]

def k0_chk17 (v171 : IVec S16 32) : Prop :=
  (∀ a x, ((![v171] : Fin 1 → IVec S16 32) a x).toNat < S32768.size a)
theorem k0_idx17_inb : ∀ (v171 : IVec S16 32) (k0_hw17 : k0_chk17 v171), ∀ a x, ((![v171] : Fin 1 → IVec S16 32) a x).toNat < S32768.size a := fun v171 k0_hw17 => k0_hw17

def k0_chk18 (v174 : IVec S16 32) : Prop :=
  (∀ a x, ((![v174] : Fin 1 → IVec S16 32) a x).toNat < S32768.size a)
theorem k0_idx18_inb : ∀ (v174 : IVec S16 32) (k0_hw18 : k0_chk18 v174), ∀ a x, ((![v174] : Fin 1 → IVec S16 32) a x).toNat < S32768.size a := fun v174 k0_hw18 => k0_hw18

def k0_chk19 (v181 : IVec S16 32) : Prop :=
  (∀ a x, ((![v181] : Fin 1 → IVec S16 32) a x).toNat < S32768.size a)
theorem k0_idx19_inb : ∀ (v181 : IVec S16 32) (k0_hw19 : k0_chk19 v181), ∀ a x, ((![v181] : Fin 1 → IVec S16 32) a x).toNat < S32768.size a := fun v181 k0_hw19 => k0_hw19

def k0_chk20 (v184 : IVec S16 32) : Prop :=
  (∀ a x, ((![v184] : Fin 1 → IVec S16 32) a x).toNat < S32768.size a)
theorem k0_idx20_inb : ∀ (v184 : IVec S16 32) (k0_hw20 : k0_chk20 v184), ∀ a x, ((![v184] : Fin 1 → IVec S16 32) a x).toNat < S32768.size a := fun v184 k0_hw20 => k0_hw20

def k0_chk21 (v191 : IVec S16 32) : Prop :=
  (∀ a x, ((![v191] : Fin 1 → IVec S16 32) a x).toNat < S32768.size a)
theorem k0_idx21_inb : ∀ (v191 : IVec S16 32) (k0_hw21 : k0_chk21 v191), ∀ a x, ((![v191] : Fin 1 → IVec S16 32) a x).toNat < S32768.size a := fun v191 k0_hw21 => k0_hw21

def k0_chk22 (v194 : IVec S16 32) : Prop :=
  (∀ a x, ((![v194] : Fin 1 → IVec S16 32) a x).toNat < S32768.size a)
theorem k0_idx22_inb : ∀ (v194 : IVec S16 32) (k0_hw22 : k0_chk22 v194), ∀ a x, ((![v194] : Fin 1 → IVec S16 32) a x).toNat < S32768.size a := fun v194 k0_hw22 => k0_hw22

def k0_chk23 (v201 : IVec S16 32) : Prop :=
  (∀ a x, ((![v201] : Fin 1 → IVec S16 32) a x).toNat < S32768.size a)
theorem k0_idx23_inb : ∀ (v201 : IVec S16 32) (k0_hw23 : k0_chk23 v201), ∀ a x, ((![v201] : Fin 1 → IVec S16 32) a x).toNat < S32768.size a := fun v201 k0_hw23 => k0_hw23

def k0_chk24 (v204 : IVec S16 32) : Prop :=
  (∀ a x, ((![v204] : Fin 1 → IVec S16 32) a x).toNat < S32768.size a)
theorem k0_idx24_inb : ∀ (v204 : IVec S16 32) (k0_hw24 : k0_chk24 v204), ∀ a x, ((![v204] : Fin 1 → IVec S16 32) a x).toNat < S32768.size a := fun v204 k0_hw24 => k0_hw24
def k0_off15 (k0_t2 : Fin k0_t2_loop.trips) (c1200_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v210 : BitVec 32 := Scalar.addi c1200_i32 v65
  let v211 : Index := Scalar.indexCast v210
  ![v211.toNat]

def k0_chk25 (v217 : IVec S16 32) : Prop :=
  (∀ a x, ((![v217] : Fin 1 → IVec S16 32) a x).toNat < S32768.size a)
theorem k0_idx25_inb : ∀ (v217 : IVec S16 32) (k0_hw25 : k0_chk25 v217), ∀ a x, ((![v217] : Fin 1 → IVec S16 32) a x).toNat < S32768.size a := fun v217 k0_hw25 => k0_hw25

def k0_chk26 (v220 : IVec S16 32) : Prop :=
  (∀ a x, ((![v220] : Fin 1 → IVec S16 32) a x).toNat < S32768.size a)
theorem k0_idx26_inb : ∀ (v220 : IVec S16 32) (k0_hw26 : k0_chk26 v220), ∀ a x, ((![v220] : Fin 1 → IVec S16 32) a x).toNat < S32768.size a := fun v220 k0_hw26 => k0_hw26

def k0_chk27 (v227 : IVec S16 32) : Prop :=
  (∀ a x, ((![v227] : Fin 1 → IVec S16 32) a x).toNat < S32768.size a)
theorem k0_idx27_inb : ∀ (v227 : IVec S16 32) (k0_hw27 : k0_chk27 v227), ∀ a x, ((![v227] : Fin 1 → IVec S16 32) a x).toNat < S32768.size a := fun v227 k0_hw27 => k0_hw27

def k0_chk28 (v230 : IVec S16 32) : Prop :=
  (∀ a x, ((![v230] : Fin 1 → IVec S16 32) a x).toNat < S32768.size a)
theorem k0_idx28_inb : ∀ (v230 : IVec S16 32) (k0_hw28 : k0_chk28 v230), ∀ a x, ((![v230] : Fin 1 → IVec S16 32) a x).toNat < S32768.size a := fun v230 k0_hw28 => k0_hw28

def k0_chk29 (v237 : IVec S16 32) : Prop :=
  (∀ a x, ((![v237] : Fin 1 → IVec S16 32) a x).toNat < S32768.size a)
theorem k0_idx29_inb : ∀ (v237 : IVec S16 32) (k0_hw29 : k0_chk29 v237), ∀ a x, ((![v237] : Fin 1 → IVec S16 32) a x).toNat < S32768.size a := fun v237 k0_hw29 => k0_hw29

def k0_chk30 (v240 : IVec S16 32) : Prop :=
  (∀ a x, ((![v240] : Fin 1 → IVec S16 32) a x).toNat < S32768.size a)
theorem k0_idx30_inb : ∀ (v240 : IVec S16 32) (k0_hw30 : k0_chk30 v240), ∀ a x, ((![v240] : Fin 1 → IVec S16 32) a x).toNat < S32768.size a := fun v240 k0_hw30 => k0_hw30

def k0_chk31 (v247 : IVec S16 32) : Prop :=
  (∀ a x, ((![v247] : Fin 1 → IVec S16 32) a x).toNat < S32768.size a)
theorem k0_idx31_inb : ∀ (v247 : IVec S16 32) (k0_hw31 : k0_chk31 v247), ∀ a x, ((![v247] : Fin 1 → IVec S16 32) a x).toNat < S32768.size a := fun v247 k0_hw31 => k0_hw31

def k0_chk32 (v250 : IVec S16 32) : Prop :=
  (∀ a x, ((![v250] : Fin 1 → IVec S16 32) a x).toNat < S32768.size a)
theorem k0_idx32_inb : ∀ (v250 : IVec S16 32) (k0_hw32 : k0_chk32 v250), ∀ a x, ((![v250] : Fin 1 → IVec S16 32) a x).toNat < S32768.size a := fun v250 k0_hw32 => k0_hw32
def k0_off16 (k0_t2 : Fin k0_t2_loop.trips) : Fin 1 → Nat :=
  let c200_i32_53 : BitVec 32 := 200#32
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v256 : BitVec 32 := Scalar.addi c200_i32_53 v65
  let v257 : Index := Scalar.indexCast v256
  ![v257.toNat]
def k0_off17 (k0_t2 : Fin k0_t2_loop.trips) (c1600_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v259 : BitVec 32 := Scalar.addi c1600_i32 v65
  let v260 : Index := Scalar.indexCast v259
  ![v260.toNat]

def k0_chk33 (v266 : IVec S16 32) : Prop :=
  (∀ a x, ((![v266] : Fin 1 → IVec S16 32) a x).toNat < S32768.size a)
theorem k0_idx33_inb : ∀ (v266 : IVec S16 32) (k0_hw33 : k0_chk33 v266), ∀ a x, ((![v266] : Fin 1 → IVec S16 32) a x).toNat < S32768.size a := fun v266 k0_hw33 => k0_hw33

def k0_chk34 (v269 : IVec S16 32) : Prop :=
  (∀ a x, ((![v269] : Fin 1 → IVec S16 32) a x).toNat < S32768.size a)
theorem k0_idx34_inb : ∀ (v269 : IVec S16 32) (k0_hw34 : k0_chk34 v269), ∀ a x, ((![v269] : Fin 1 → IVec S16 32) a x).toNat < S32768.size a := fun v269 k0_hw34 => k0_hw34

def k0_chk35 (v276 : IVec S16 32) : Prop :=
  (∀ a x, ((![v276] : Fin 1 → IVec S16 32) a x).toNat < S32768.size a)
theorem k0_idx35_inb : ∀ (v276 : IVec S16 32) (k0_hw35 : k0_chk35 v276), ∀ a x, ((![v276] : Fin 1 → IVec S16 32) a x).toNat < S32768.size a := fun v276 k0_hw35 => k0_hw35

def k0_chk36 (v279 : IVec S16 32) : Prop :=
  (∀ a x, ((![v279] : Fin 1 → IVec S16 32) a x).toNat < S32768.size a)
theorem k0_idx36_inb : ∀ (v279 : IVec S16 32) (k0_hw36 : k0_chk36 v279), ∀ a x, ((![v279] : Fin 1 → IVec S16 32) a x).toNat < S32768.size a := fun v279 k0_hw36 => k0_hw36

def k0_chk37 (v286 : IVec S16 32) : Prop :=
  (∀ a x, ((![v286] : Fin 1 → IVec S16 32) a x).toNat < S32768.size a)
theorem k0_idx37_inb : ∀ (v286 : IVec S16 32) (k0_hw37 : k0_chk37 v286), ∀ a x, ((![v286] : Fin 1 → IVec S16 32) a x).toNat < S32768.size a := fun v286 k0_hw37 => k0_hw37

def k0_chk38 (v289 : IVec S16 32) : Prop :=
  (∀ a x, ((![v289] : Fin 1 → IVec S16 32) a x).toNat < S32768.size a)
theorem k0_idx38_inb : ∀ (v289 : IVec S16 32) (k0_hw38 : k0_chk38 v289), ∀ a x, ((![v289] : Fin 1 → IVec S16 32) a x).toNat < S32768.size a := fun v289 k0_hw38 => k0_hw38

def k0_chk39 (v296 : IVec S16 32) : Prop :=
  (∀ a x, ((![v296] : Fin 1 → IVec S16 32) a x).toNat < S32768.size a)
theorem k0_idx39_inb : ∀ (v296 : IVec S16 32) (k0_hw39 : k0_chk39 v296), ∀ a x, ((![v296] : Fin 1 → IVec S16 32) a x).toNat < S32768.size a := fun v296 k0_hw39 => k0_hw39

def k0_chk40 (v299 : IVec S16 32) : Prop :=
  (∀ a x, ((![v299] : Fin 1 → IVec S16 32) a x).toNat < S32768.size a)
theorem k0_idx40_inb : ∀ (v299 : IVec S16 32) (k0_hw40 : k0_chk40 v299), ∀ a x, ((![v299] : Fin 1 → IVec S16 32) a x).toNat < S32768.size a := fun v299 k0_hw40 => k0_hw40
def k0_off18 (k0_t2 : Fin k0_t2_loop.trips) (c2000_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v305 : BitVec 32 := Scalar.addi c2000_i32 v65
  let v306 : Index := Scalar.indexCast v305
  ![v306.toNat]

def k0_chk41 (v312 : IVec S16 32) : Prop :=
  (∀ a x, ((![v312] : Fin 1 → IVec S16 32) a x).toNat < S32768.size a)
theorem k0_idx41_inb : ∀ (v312 : IVec S16 32) (k0_hw41 : k0_chk41 v312), ∀ a x, ((![v312] : Fin 1 → IVec S16 32) a x).toNat < S32768.size a := fun v312 k0_hw41 => k0_hw41

def k0_chk42 (v315 : IVec S16 32) : Prop :=
  (∀ a x, ((![v315] : Fin 1 → IVec S16 32) a x).toNat < S32768.size a)
theorem k0_idx42_inb : ∀ (v315 : IVec S16 32) (k0_hw42 : k0_chk42 v315), ∀ a x, ((![v315] : Fin 1 → IVec S16 32) a x).toNat < S32768.size a := fun v315 k0_hw42 => k0_hw42

def k0_chk43 (v322 : IVec S16 32) : Prop :=
  (∀ a x, ((![v322] : Fin 1 → IVec S16 32) a x).toNat < S32768.size a)
theorem k0_idx43_inb : ∀ (v322 : IVec S16 32) (k0_hw43 : k0_chk43 v322), ∀ a x, ((![v322] : Fin 1 → IVec S16 32) a x).toNat < S32768.size a := fun v322 k0_hw43 => k0_hw43

def k0_chk44 (v325 : IVec S16 32) : Prop :=
  (∀ a x, ((![v325] : Fin 1 → IVec S16 32) a x).toNat < S32768.size a)
theorem k0_idx44_inb : ∀ (v325 : IVec S16 32) (k0_hw44 : k0_chk44 v325), ∀ a x, ((![v325] : Fin 1 → IVec S16 32) a x).toNat < S32768.size a := fun v325 k0_hw44 => k0_hw44

def k0_chk45 (v332 : IVec S16 32) : Prop :=
  (∀ a x, ((![v332] : Fin 1 → IVec S16 32) a x).toNat < S32768.size a)
theorem k0_idx45_inb : ∀ (v332 : IVec S16 32) (k0_hw45 : k0_chk45 v332), ∀ a x, ((![v332] : Fin 1 → IVec S16 32) a x).toNat < S32768.size a := fun v332 k0_hw45 => k0_hw45

def k0_chk46 (v335 : IVec S16 32) : Prop :=
  (∀ a x, ((![v335] : Fin 1 → IVec S16 32) a x).toNat < S32768.size a)
theorem k0_idx46_inb : ∀ (v335 : IVec S16 32) (k0_hw46 : k0_chk46 v335), ∀ a x, ((![v335] : Fin 1 → IVec S16 32) a x).toNat < S32768.size a := fun v335 k0_hw46 => k0_hw46

def k0_chk47 (v342 : IVec S16 32) : Prop :=
  (∀ a x, ((![v342] : Fin 1 → IVec S16 32) a x).toNat < S32768.size a)
theorem k0_idx47_inb : ∀ (v342 : IVec S16 32) (k0_hw47 : k0_chk47 v342), ∀ a x, ((![v342] : Fin 1 → IVec S16 32) a x).toNat < S32768.size a := fun v342 k0_hw47 => k0_hw47

def k0_chk48 (v345 : IVec S16 32) : Prop :=
  (∀ a x, ((![v345] : Fin 1 → IVec S16 32) a x).toNat < S32768.size a)
theorem k0_idx48_inb : ∀ (v345 : IVec S16 32) (k0_hw48 : k0_chk48 v345), ∀ a x, ((![v345] : Fin 1 → IVec S16 32) a x).toNat < S32768.size a := fun v345 k0_hw48 => k0_hw48
def k0_off19 (k0_t2 : Fin k0_t2_loop.trips) (c2400_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v351 : BitVec 32 := Scalar.addi c2400_i32 v65
  let v352 : Index := Scalar.indexCast v351
  ![v352.toNat]

def k0_chk49 (v358 : IVec S16 32) : Prop :=
  (∀ a x, ((![v358] : Fin 1 → IVec S16 32) a x).toNat < S32768.size a)
theorem k0_idx49_inb : ∀ (v358 : IVec S16 32) (k0_hw49 : k0_chk49 v358), ∀ a x, ((![v358] : Fin 1 → IVec S16 32) a x).toNat < S32768.size a := fun v358 k0_hw49 => k0_hw49

def k0_chk50 (v361 : IVec S16 32) : Prop :=
  (∀ a x, ((![v361] : Fin 1 → IVec S16 32) a x).toNat < S32768.size a)
theorem k0_idx50_inb : ∀ (v361 : IVec S16 32) (k0_hw50 : k0_chk50 v361), ∀ a x, ((![v361] : Fin 1 → IVec S16 32) a x).toNat < S32768.size a := fun v361 k0_hw50 => k0_hw50

def k0_chk51 (v368 : IVec S16 32) : Prop :=
  (∀ a x, ((![v368] : Fin 1 → IVec S16 32) a x).toNat < S32768.size a)
theorem k0_idx51_inb : ∀ (v368 : IVec S16 32) (k0_hw51 : k0_chk51 v368), ∀ a x, ((![v368] : Fin 1 → IVec S16 32) a x).toNat < S32768.size a := fun v368 k0_hw51 => k0_hw51

def k0_chk52 (v371 : IVec S16 32) : Prop :=
  (∀ a x, ((![v371] : Fin 1 → IVec S16 32) a x).toNat < S32768.size a)
theorem k0_idx52_inb : ∀ (v371 : IVec S16 32) (k0_hw52 : k0_chk52 v371), ∀ a x, ((![v371] : Fin 1 → IVec S16 32) a x).toNat < S32768.size a := fun v371 k0_hw52 => k0_hw52

def k0_chk53 (v378 : IVec S16 32) : Prop :=
  (∀ a x, ((![v378] : Fin 1 → IVec S16 32) a x).toNat < S32768.size a)
theorem k0_idx53_inb : ∀ (v378 : IVec S16 32) (k0_hw53 : k0_chk53 v378), ∀ a x, ((![v378] : Fin 1 → IVec S16 32) a x).toNat < S32768.size a := fun v378 k0_hw53 => k0_hw53

def k0_chk54 (v381 : IVec S16 32) : Prop :=
  (∀ a x, ((![v381] : Fin 1 → IVec S16 32) a x).toNat < S32768.size a)
theorem k0_idx54_inb : ∀ (v381 : IVec S16 32) (k0_hw54 : k0_chk54 v381), ∀ a x, ((![v381] : Fin 1 → IVec S16 32) a x).toNat < S32768.size a := fun v381 k0_hw54 => k0_hw54

def k0_chk55 (v388 : IVec S16 32) : Prop :=
  (∀ a x, ((![v388] : Fin 1 → IVec S16 32) a x).toNat < S32768.size a)
theorem k0_idx55_inb : ∀ (v388 : IVec S16 32) (k0_hw55 : k0_chk55 v388), ∀ a x, ((![v388] : Fin 1 → IVec S16 32) a x).toNat < S32768.size a := fun v388 k0_hw55 => k0_hw55

def k0_chk56 (v391 : IVec S16 32) : Prop :=
  (∀ a x, ((![v391] : Fin 1 → IVec S16 32) a x).toNat < S32768.size a)
theorem k0_idx56_inb : ∀ (v391 : IVec S16 32) (k0_hw56 : k0_chk56 v391), ∀ a x, ((![v391] : Fin 1 → IVec S16 32) a x).toNat < S32768.size a := fun v391 k0_hw56 => k0_hw56
def k0_off20 (k0_t2 : Fin k0_t2_loop.trips) (c2800_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v397 : BitVec 32 := Scalar.addi c2800_i32 v65
  let v398 : Index := Scalar.indexCast v397
  ![v398.toNat]

def k0_chk57 (v404 : IVec S16 32) : Prop :=
  (∀ a x, ((![v404] : Fin 1 → IVec S16 32) a x).toNat < S32768.size a)
theorem k0_idx57_inb : ∀ (v404 : IVec S16 32) (k0_hw57 : k0_chk57 v404), ∀ a x, ((![v404] : Fin 1 → IVec S16 32) a x).toNat < S32768.size a := fun v404 k0_hw57 => k0_hw57

def k0_chk58 (v407 : IVec S16 32) : Prop :=
  (∀ a x, ((![v407] : Fin 1 → IVec S16 32) a x).toNat < S32768.size a)
theorem k0_idx58_inb : ∀ (v407 : IVec S16 32) (k0_hw58 : k0_chk58 v407), ∀ a x, ((![v407] : Fin 1 → IVec S16 32) a x).toNat < S32768.size a := fun v407 k0_hw58 => k0_hw58

def k0_chk59 (v414 : IVec S16 32) : Prop :=
  (∀ a x, ((![v414] : Fin 1 → IVec S16 32) a x).toNat < S32768.size a)
theorem k0_idx59_inb : ∀ (v414 : IVec S16 32) (k0_hw59 : k0_chk59 v414), ∀ a x, ((![v414] : Fin 1 → IVec S16 32) a x).toNat < S32768.size a := fun v414 k0_hw59 => k0_hw59

def k0_chk60 (v417 : IVec S16 32) : Prop :=
  (∀ a x, ((![v417] : Fin 1 → IVec S16 32) a x).toNat < S32768.size a)
theorem k0_idx60_inb : ∀ (v417 : IVec S16 32) (k0_hw60 : k0_chk60 v417), ∀ a x, ((![v417] : Fin 1 → IVec S16 32) a x).toNat < S32768.size a := fun v417 k0_hw60 => k0_hw60

def k0_chk61 (v424 : IVec S16 32) : Prop :=
  (∀ a x, ((![v424] : Fin 1 → IVec S16 32) a x).toNat < S32768.size a)
theorem k0_idx61_inb : ∀ (v424 : IVec S16 32) (k0_hw61 : k0_chk61 v424), ∀ a x, ((![v424] : Fin 1 → IVec S16 32) a x).toNat < S32768.size a := fun v424 k0_hw61 => k0_hw61

def k0_chk62 (v427 : IVec S16 32) : Prop :=
  (∀ a x, ((![v427] : Fin 1 → IVec S16 32) a x).toNat < S32768.size a)
theorem k0_idx62_inb : ∀ (v427 : IVec S16 32) (k0_hw62 : k0_chk62 v427), ∀ a x, ((![v427] : Fin 1 → IVec S16 32) a x).toNat < S32768.size a := fun v427 k0_hw62 => k0_hw62

def k0_chk63 (v434 : IVec S16 32) : Prop :=
  (∀ a x, ((![v434] : Fin 1 → IVec S16 32) a x).toNat < S32768.size a)
theorem k0_idx63_inb : ∀ (v434 : IVec S16 32) (k0_hw63 : k0_chk63 v434), ∀ a x, ((![v434] : Fin 1 → IVec S16 32) a x).toNat < S32768.size a := fun v434 k0_hw63 => k0_hw63

def k0_chk64 (v437 : IVec S16 32) : Prop :=
  (∀ a x, ((![v437] : Fin 1 → IVec S16 32) a x).toNat < S32768.size a)
theorem k0_idx64_inb : ∀ (v437 : IVec S16 32) (k0_hw64 : k0_chk64 v437), ∀ a x, ((![v437] : Fin 1 → IVec S16 32) a x).toNat < S32768.size a := fun v437 k0_hw64 => k0_hw64
def k0_off21 (k0_t2 : Fin k0_t2_loop.trips) : Fin 1 → Nat :=
  let c400_i32_86 : BitVec 32 := 400#32
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v443 : BitVec 32 := Scalar.addi c400_i32_86 v65
  let v444 : Index := Scalar.indexCast v443
  ![v444.toNat]
def k0_off22 (k0_t2 : Fin k0_t2_loop.trips) (c3200_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v446 : BitVec 32 := Scalar.addi c3200_i32 v65
  let v447 : Index := Scalar.indexCast v446
  ![v447.toNat]

def k0_chk65 (v453 : IVec S16 32) : Prop :=
  (∀ a x, ((![v453] : Fin 1 → IVec S16 32) a x).toNat < S32768.size a)
theorem k0_idx65_inb : ∀ (v453 : IVec S16 32) (k0_hw65 : k0_chk65 v453), ∀ a x, ((![v453] : Fin 1 → IVec S16 32) a x).toNat < S32768.size a := fun v453 k0_hw65 => k0_hw65

def k0_chk66 (v456 : IVec S16 32) : Prop :=
  (∀ a x, ((![v456] : Fin 1 → IVec S16 32) a x).toNat < S32768.size a)
theorem k0_idx66_inb : ∀ (v456 : IVec S16 32) (k0_hw66 : k0_chk66 v456), ∀ a x, ((![v456] : Fin 1 → IVec S16 32) a x).toNat < S32768.size a := fun v456 k0_hw66 => k0_hw66

def k0_chk67 (v463 : IVec S16 32) : Prop :=
  (∀ a x, ((![v463] : Fin 1 → IVec S16 32) a x).toNat < S32768.size a)
theorem k0_idx67_inb : ∀ (v463 : IVec S16 32) (k0_hw67 : k0_chk67 v463), ∀ a x, ((![v463] : Fin 1 → IVec S16 32) a x).toNat < S32768.size a := fun v463 k0_hw67 => k0_hw67

def k0_chk68 (v466 : IVec S16 32) : Prop :=
  (∀ a x, ((![v466] : Fin 1 → IVec S16 32) a x).toNat < S32768.size a)
theorem k0_idx68_inb : ∀ (v466 : IVec S16 32) (k0_hw68 : k0_chk68 v466), ∀ a x, ((![v466] : Fin 1 → IVec S16 32) a x).toNat < S32768.size a := fun v466 k0_hw68 => k0_hw68

def k0_chk69 (v473 : IVec S16 32) : Prop :=
  (∀ a x, ((![v473] : Fin 1 → IVec S16 32) a x).toNat < S32768.size a)
theorem k0_idx69_inb : ∀ (v473 : IVec S16 32) (k0_hw69 : k0_chk69 v473), ∀ a x, ((![v473] : Fin 1 → IVec S16 32) a x).toNat < S32768.size a := fun v473 k0_hw69 => k0_hw69

def k0_chk70 (v476 : IVec S16 32) : Prop :=
  (∀ a x, ((![v476] : Fin 1 → IVec S16 32) a x).toNat < S32768.size a)
theorem k0_idx70_inb : ∀ (v476 : IVec S16 32) (k0_hw70 : k0_chk70 v476), ∀ a x, ((![v476] : Fin 1 → IVec S16 32) a x).toNat < S32768.size a := fun v476 k0_hw70 => k0_hw70

def k0_chk71 (v483 : IVec S16 32) : Prop :=
  (∀ a x, ((![v483] : Fin 1 → IVec S16 32) a x).toNat < S32768.size a)
theorem k0_idx71_inb : ∀ (v483 : IVec S16 32) (k0_hw71 : k0_chk71 v483), ∀ a x, ((![v483] : Fin 1 → IVec S16 32) a x).toNat < S32768.size a := fun v483 k0_hw71 => k0_hw71

def k0_chk72 (v486 : IVec S16 32) : Prop :=
  (∀ a x, ((![v486] : Fin 1 → IVec S16 32) a x).toNat < S32768.size a)
theorem k0_idx72_inb : ∀ (v486 : IVec S16 32) (k0_hw72 : k0_chk72 v486), ∀ a x, ((![v486] : Fin 1 → IVec S16 32) a x).toNat < S32768.size a := fun v486 k0_hw72 => k0_hw72
def k0_off23 (k0_t2 : Fin k0_t2_loop.trips) (c3600_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v492 : BitVec 32 := Scalar.addi c3600_i32 v65
  let v493 : Index := Scalar.indexCast v492
  ![v493.toNat]

def k0_chk73 (v499 : IVec S16 32) : Prop :=
  (∀ a x, ((![v499] : Fin 1 → IVec S16 32) a x).toNat < S32768.size a)
theorem k0_idx73_inb : ∀ (v499 : IVec S16 32) (k0_hw73 : k0_chk73 v499), ∀ a x, ((![v499] : Fin 1 → IVec S16 32) a x).toNat < S32768.size a := fun v499 k0_hw73 => k0_hw73

def k0_chk74 (v502 : IVec S16 32) : Prop :=
  (∀ a x, ((![v502] : Fin 1 → IVec S16 32) a x).toNat < S32768.size a)
theorem k0_idx74_inb : ∀ (v502 : IVec S16 32) (k0_hw74 : k0_chk74 v502), ∀ a x, ((![v502] : Fin 1 → IVec S16 32) a x).toNat < S32768.size a := fun v502 k0_hw74 => k0_hw74

def k0_chk75 (v509 : IVec S16 32) : Prop :=
  (∀ a x, ((![v509] : Fin 1 → IVec S16 32) a x).toNat < S32768.size a)
theorem k0_idx75_inb : ∀ (v509 : IVec S16 32) (k0_hw75 : k0_chk75 v509), ∀ a x, ((![v509] : Fin 1 → IVec S16 32) a x).toNat < S32768.size a := fun v509 k0_hw75 => k0_hw75

def k0_chk76 (v512 : IVec S16 32) : Prop :=
  (∀ a x, ((![v512] : Fin 1 → IVec S16 32) a x).toNat < S32768.size a)
theorem k0_idx76_inb : ∀ (v512 : IVec S16 32) (k0_hw76 : k0_chk76 v512), ∀ a x, ((![v512] : Fin 1 → IVec S16 32) a x).toNat < S32768.size a := fun v512 k0_hw76 => k0_hw76

def k0_chk77 (v519 : IVec S16 32) : Prop :=
  (∀ a x, ((![v519] : Fin 1 → IVec S16 32) a x).toNat < S32768.size a)
theorem k0_idx77_inb : ∀ (v519 : IVec S16 32) (k0_hw77 : k0_chk77 v519), ∀ a x, ((![v519] : Fin 1 → IVec S16 32) a x).toNat < S32768.size a := fun v519 k0_hw77 => k0_hw77

def k0_chk78 (v522 : IVec S16 32) : Prop :=
  (∀ a x, ((![v522] : Fin 1 → IVec S16 32) a x).toNat < S32768.size a)
theorem k0_idx78_inb : ∀ (v522 : IVec S16 32) (k0_hw78 : k0_chk78 v522), ∀ a x, ((![v522] : Fin 1 → IVec S16 32) a x).toNat < S32768.size a := fun v522 k0_hw78 => k0_hw78

def k0_chk79 (v529 : IVec S16 32) : Prop :=
  (∀ a x, ((![v529] : Fin 1 → IVec S16 32) a x).toNat < S32768.size a)
theorem k0_idx79_inb : ∀ (v529 : IVec S16 32) (k0_hw79 : k0_chk79 v529), ∀ a x, ((![v529] : Fin 1 → IVec S16 32) a x).toNat < S32768.size a := fun v529 k0_hw79 => k0_hw79

def k0_chk80 (v532 : IVec S16 32) : Prop :=
  (∀ a x, ((![v532] : Fin 1 → IVec S16 32) a x).toNat < S32768.size a)
theorem k0_idx80_inb : ∀ (v532 : IVec S16 32) (k0_hw80 : k0_chk80 v532), ∀ a x, ((![v532] : Fin 1 → IVec S16 32) a x).toNat < S32768.size a := fun v532 k0_hw80 => k0_hw80
def k0_off24 (k0_t2 : Fin k0_t2_loop.trips) (c4000_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v538 : BitVec 32 := Scalar.addi c4000_i32 v65
  let v539 : Index := Scalar.indexCast v538
  ![v539.toNat]

def k0_chk81 (v545 : IVec S16 32) : Prop :=
  (∀ a x, ((![v545] : Fin 1 → IVec S16 32) a x).toNat < S32768.size a)
theorem k0_idx81_inb : ∀ (v545 : IVec S16 32) (k0_hw81 : k0_chk81 v545), ∀ a x, ((![v545] : Fin 1 → IVec S16 32) a x).toNat < S32768.size a := fun v545 k0_hw81 => k0_hw81

def k0_chk82 (v548 : IVec S16 32) : Prop :=
  (∀ a x, ((![v548] : Fin 1 → IVec S16 32) a x).toNat < S32768.size a)
theorem k0_idx82_inb : ∀ (v548 : IVec S16 32) (k0_hw82 : k0_chk82 v548), ∀ a x, ((![v548] : Fin 1 → IVec S16 32) a x).toNat < S32768.size a := fun v548 k0_hw82 => k0_hw82

def k0_chk83 (v555 : IVec S16 32) : Prop :=
  (∀ a x, ((![v555] : Fin 1 → IVec S16 32) a x).toNat < S32768.size a)
theorem k0_idx83_inb : ∀ (v555 : IVec S16 32) (k0_hw83 : k0_chk83 v555), ∀ a x, ((![v555] : Fin 1 → IVec S16 32) a x).toNat < S32768.size a := fun v555 k0_hw83 => k0_hw83

def k0_chk84 (v558 : IVec S16 32) : Prop :=
  (∀ a x, ((![v558] : Fin 1 → IVec S16 32) a x).toNat < S32768.size a)
theorem k0_idx84_inb : ∀ (v558 : IVec S16 32) (k0_hw84 : k0_chk84 v558), ∀ a x, ((![v558] : Fin 1 → IVec S16 32) a x).toNat < S32768.size a := fun v558 k0_hw84 => k0_hw84

def k0_chk85 (v565 : IVec S16 32) : Prop :=
  (∀ a x, ((![v565] : Fin 1 → IVec S16 32) a x).toNat < S32768.size a)
theorem k0_idx85_inb : ∀ (v565 : IVec S16 32) (k0_hw85 : k0_chk85 v565), ∀ a x, ((![v565] : Fin 1 → IVec S16 32) a x).toNat < S32768.size a := fun v565 k0_hw85 => k0_hw85

def k0_chk86 (v568 : IVec S16 32) : Prop :=
  (∀ a x, ((![v568] : Fin 1 → IVec S16 32) a x).toNat < S32768.size a)
theorem k0_idx86_inb : ∀ (v568 : IVec S16 32) (k0_hw86 : k0_chk86 v568), ∀ a x, ((![v568] : Fin 1 → IVec S16 32) a x).toNat < S32768.size a := fun v568 k0_hw86 => k0_hw86

def k0_chk87 (v575 : IVec S16 32) : Prop :=
  (∀ a x, ((![v575] : Fin 1 → IVec S16 32) a x).toNat < S32768.size a)
theorem k0_idx87_inb : ∀ (v575 : IVec S16 32) (k0_hw87 : k0_chk87 v575), ∀ a x, ((![v575] : Fin 1 → IVec S16 32) a x).toNat < S32768.size a := fun v575 k0_hw87 => k0_hw87

def k0_chk88 (v578 : IVec S16 32) : Prop :=
  (∀ a x, ((![v578] : Fin 1 → IVec S16 32) a x).toNat < S32768.size a)
theorem k0_idx88_inb : ∀ (v578 : IVec S16 32) (k0_hw88 : k0_chk88 v578), ∀ a x, ((![v578] : Fin 1 → IVec S16 32) a x).toNat < S32768.size a := fun v578 k0_hw88 => k0_hw88
def k0_off25 (k0_t2 : Fin k0_t2_loop.trips) (c4400_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v584 : BitVec 32 := Scalar.addi c4400_i32 v65
  let v585 : Index := Scalar.indexCast v584
  ![v585.toNat]

def k0_chk89 (v591 : IVec S16 32) : Prop :=
  (∀ a x, ((![v591] : Fin 1 → IVec S16 32) a x).toNat < S32768.size a)
theorem k0_idx89_inb : ∀ (v591 : IVec S16 32) (k0_hw89 : k0_chk89 v591), ∀ a x, ((![v591] : Fin 1 → IVec S16 32) a x).toNat < S32768.size a := fun v591 k0_hw89 => k0_hw89

def k0_chk90 (v594 : IVec S16 32) : Prop :=
  (∀ a x, ((![v594] : Fin 1 → IVec S16 32) a x).toNat < S32768.size a)
theorem k0_idx90_inb : ∀ (v594 : IVec S16 32) (k0_hw90 : k0_chk90 v594), ∀ a x, ((![v594] : Fin 1 → IVec S16 32) a x).toNat < S32768.size a := fun v594 k0_hw90 => k0_hw90

def k0_chk91 (v601 : IVec S16 32) : Prop :=
  (∀ a x, ((![v601] : Fin 1 → IVec S16 32) a x).toNat < S32768.size a)
theorem k0_idx91_inb : ∀ (v601 : IVec S16 32) (k0_hw91 : k0_chk91 v601), ∀ a x, ((![v601] : Fin 1 → IVec S16 32) a x).toNat < S32768.size a := fun v601 k0_hw91 => k0_hw91

def k0_chk92 (v604 : IVec S16 32) : Prop :=
  (∀ a x, ((![v604] : Fin 1 → IVec S16 32) a x).toNat < S32768.size a)
theorem k0_idx92_inb : ∀ (v604 : IVec S16 32) (k0_hw92 : k0_chk92 v604), ∀ a x, ((![v604] : Fin 1 → IVec S16 32) a x).toNat < S32768.size a := fun v604 k0_hw92 => k0_hw92

def k0_chk93 (v611 : IVec S16 32) : Prop :=
  (∀ a x, ((![v611] : Fin 1 → IVec S16 32) a x).toNat < S32768.size a)
theorem k0_idx93_inb : ∀ (v611 : IVec S16 32) (k0_hw93 : k0_chk93 v611), ∀ a x, ((![v611] : Fin 1 → IVec S16 32) a x).toNat < S32768.size a := fun v611 k0_hw93 => k0_hw93

def k0_chk94 (v614 : IVec S16 32) : Prop :=
  (∀ a x, ((![v614] : Fin 1 → IVec S16 32) a x).toNat < S32768.size a)
theorem k0_idx94_inb : ∀ (v614 : IVec S16 32) (k0_hw94 : k0_chk94 v614), ∀ a x, ((![v614] : Fin 1 → IVec S16 32) a x).toNat < S32768.size a := fun v614 k0_hw94 => k0_hw94

def k0_chk95 (v621 : IVec S16 32) : Prop :=
  (∀ a x, ((![v621] : Fin 1 → IVec S16 32) a x).toNat < S32768.size a)
theorem k0_idx95_inb : ∀ (v621 : IVec S16 32) (k0_hw95 : k0_chk95 v621), ∀ a x, ((![v621] : Fin 1 → IVec S16 32) a x).toNat < S32768.size a := fun v621 k0_hw95 => k0_hw95

def k0_chk96 (v624 : IVec S16 32) : Prop :=
  (∀ a x, ((![v624] : Fin 1 → IVec S16 32) a x).toNat < S32768.size a)
theorem k0_idx96_inb : ∀ (v624 : IVec S16 32) (k0_hw96 : k0_chk96 v624), ∀ a x, ((![v624] : Fin 1 → IVec S16 32) a x).toNat < S32768.size a := fun v624 k0_hw96 => k0_hw96
def k0_off26 (k0_t2 : Fin k0_t2_loop.trips) : Fin 1 → Nat :=
  let c600_i32_119 : BitVec 32 := 600#32
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v630 : BitVec 32 := Scalar.addi c600_i32_119 v65
  let v631 : Index := Scalar.indexCast v630
  ![v631.toNat]
def k0_off27 (k0_t2 : Fin k0_t2_loop.trips) (c4800_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v633 : BitVec 32 := Scalar.addi c4800_i32 v65
  let v634 : Index := Scalar.indexCast v633
  ![v634.toNat]

def k0_chk97 (v640 : IVec S16 32) : Prop :=
  (∀ a x, ((![v640] : Fin 1 → IVec S16 32) a x).toNat < S32768.size a)
theorem k0_idx97_inb : ∀ (v640 : IVec S16 32) (k0_hw97 : k0_chk97 v640), ∀ a x, ((![v640] : Fin 1 → IVec S16 32) a x).toNat < S32768.size a := fun v640 k0_hw97 => k0_hw97

def k0_chk98 (v643 : IVec S16 32) : Prop :=
  (∀ a x, ((![v643] : Fin 1 → IVec S16 32) a x).toNat < S32768.size a)
theorem k0_idx98_inb : ∀ (v643 : IVec S16 32) (k0_hw98 : k0_chk98 v643), ∀ a x, ((![v643] : Fin 1 → IVec S16 32) a x).toNat < S32768.size a := fun v643 k0_hw98 => k0_hw98

def k0_chk99 (v650 : IVec S16 32) : Prop :=
  (∀ a x, ((![v650] : Fin 1 → IVec S16 32) a x).toNat < S32768.size a)
theorem k0_idx99_inb : ∀ (v650 : IVec S16 32) (k0_hw99 : k0_chk99 v650), ∀ a x, ((![v650] : Fin 1 → IVec S16 32) a x).toNat < S32768.size a := fun v650 k0_hw99 => k0_hw99

def k0_chk100 (v653 : IVec S16 32) : Prop :=
  (∀ a x, ((![v653] : Fin 1 → IVec S16 32) a x).toNat < S32768.size a)
theorem k0_idx100_inb : ∀ (v653 : IVec S16 32) (k0_hw100 : k0_chk100 v653), ∀ a x, ((![v653] : Fin 1 → IVec S16 32) a x).toNat < S32768.size a := fun v653 k0_hw100 => k0_hw100

def k0_chk101 (v660 : IVec S16 32) : Prop :=
  (∀ a x, ((![v660] : Fin 1 → IVec S16 32) a x).toNat < S32768.size a)
theorem k0_idx101_inb : ∀ (v660 : IVec S16 32) (k0_hw101 : k0_chk101 v660), ∀ a x, ((![v660] : Fin 1 → IVec S16 32) a x).toNat < S32768.size a := fun v660 k0_hw101 => k0_hw101

def k0_chk102 (v663 : IVec S16 32) : Prop :=
  (∀ a x, ((![v663] : Fin 1 → IVec S16 32) a x).toNat < S32768.size a)
theorem k0_idx102_inb : ∀ (v663 : IVec S16 32) (k0_hw102 : k0_chk102 v663), ∀ a x, ((![v663] : Fin 1 → IVec S16 32) a x).toNat < S32768.size a := fun v663 k0_hw102 => k0_hw102

def k0_chk103 (v670 : IVec S16 32) : Prop :=
  (∀ a x, ((![v670] : Fin 1 → IVec S16 32) a x).toNat < S32768.size a)
theorem k0_idx103_inb : ∀ (v670 : IVec S16 32) (k0_hw103 : k0_chk103 v670), ∀ a x, ((![v670] : Fin 1 → IVec S16 32) a x).toNat < S32768.size a := fun v670 k0_hw103 => k0_hw103

def k0_chk104 (v673 : IVec S16 32) : Prop :=
  (∀ a x, ((![v673] : Fin 1 → IVec S16 32) a x).toNat < S32768.size a)
theorem k0_idx104_inb : ∀ (v673 : IVec S16 32) (k0_hw104 : k0_chk104 v673), ∀ a x, ((![v673] : Fin 1 → IVec S16 32) a x).toNat < S32768.size a := fun v673 k0_hw104 => k0_hw104
def k0_off28 (k0_t2 : Fin k0_t2_loop.trips) (c5200_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v679 : BitVec 32 := Scalar.addi c5200_i32 v65
  let v680 : Index := Scalar.indexCast v679
  ![v680.toNat]

def k0_chk105 (v686 : IVec S16 32) : Prop :=
  (∀ a x, ((![v686] : Fin 1 → IVec S16 32) a x).toNat < S32768.size a)
theorem k0_idx105_inb : ∀ (v686 : IVec S16 32) (k0_hw105 : k0_chk105 v686), ∀ a x, ((![v686] : Fin 1 → IVec S16 32) a x).toNat < S32768.size a := fun v686 k0_hw105 => k0_hw105

def k0_chk106 (v689 : IVec S16 32) : Prop :=
  (∀ a x, ((![v689] : Fin 1 → IVec S16 32) a x).toNat < S32768.size a)
theorem k0_idx106_inb : ∀ (v689 : IVec S16 32) (k0_hw106 : k0_chk106 v689), ∀ a x, ((![v689] : Fin 1 → IVec S16 32) a x).toNat < S32768.size a := fun v689 k0_hw106 => k0_hw106

def k0_chk107 (v696 : IVec S16 32) : Prop :=
  (∀ a x, ((![v696] : Fin 1 → IVec S16 32) a x).toNat < S32768.size a)
theorem k0_idx107_inb : ∀ (v696 : IVec S16 32) (k0_hw107 : k0_chk107 v696), ∀ a x, ((![v696] : Fin 1 → IVec S16 32) a x).toNat < S32768.size a := fun v696 k0_hw107 => k0_hw107

def k0_chk108 (v699 : IVec S16 32) : Prop :=
  (∀ a x, ((![v699] : Fin 1 → IVec S16 32) a x).toNat < S32768.size a)
theorem k0_idx108_inb : ∀ (v699 : IVec S16 32) (k0_hw108 : k0_chk108 v699), ∀ a x, ((![v699] : Fin 1 → IVec S16 32) a x).toNat < S32768.size a := fun v699 k0_hw108 => k0_hw108

def k0_chk109 (v706 : IVec S16 32) : Prop :=
  (∀ a x, ((![v706] : Fin 1 → IVec S16 32) a x).toNat < S32768.size a)
theorem k0_idx109_inb : ∀ (v706 : IVec S16 32) (k0_hw109 : k0_chk109 v706), ∀ a x, ((![v706] : Fin 1 → IVec S16 32) a x).toNat < S32768.size a := fun v706 k0_hw109 => k0_hw109

def k0_chk110 (v709 : IVec S16 32) : Prop :=
  (∀ a x, ((![v709] : Fin 1 → IVec S16 32) a x).toNat < S32768.size a)
theorem k0_idx110_inb : ∀ (v709 : IVec S16 32) (k0_hw110 : k0_chk110 v709), ∀ a x, ((![v709] : Fin 1 → IVec S16 32) a x).toNat < S32768.size a := fun v709 k0_hw110 => k0_hw110

def k0_chk111 (v716 : IVec S16 32) : Prop :=
  (∀ a x, ((![v716] : Fin 1 → IVec S16 32) a x).toNat < S32768.size a)
theorem k0_idx111_inb : ∀ (v716 : IVec S16 32) (k0_hw111 : k0_chk111 v716), ∀ a x, ((![v716] : Fin 1 → IVec S16 32) a x).toNat < S32768.size a := fun v716 k0_hw111 => k0_hw111

def k0_chk112 (v719 : IVec S16 32) : Prop :=
  (∀ a x, ((![v719] : Fin 1 → IVec S16 32) a x).toNat < S32768.size a)
theorem k0_idx112_inb : ∀ (v719 : IVec S16 32) (k0_hw112 : k0_chk112 v719), ∀ a x, ((![v719] : Fin 1 → IVec S16 32) a x).toNat < S32768.size a := fun v719 k0_hw112 => k0_hw112
def k0_off29 (k0_t2 : Fin k0_t2_loop.trips) (c5600_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v725 : BitVec 32 := Scalar.addi c5600_i32 v65
  let v726 : Index := Scalar.indexCast v725
  ![v726.toNat]

def k0_chk113 (v732 : IVec S16 32) : Prop :=
  (∀ a x, ((![v732] : Fin 1 → IVec S16 32) a x).toNat < S32768.size a)
theorem k0_idx113_inb : ∀ (v732 : IVec S16 32) (k0_hw113 : k0_chk113 v732), ∀ a x, ((![v732] : Fin 1 → IVec S16 32) a x).toNat < S32768.size a := fun v732 k0_hw113 => k0_hw113

def k0_chk114 (v735 : IVec S16 32) : Prop :=
  (∀ a x, ((![v735] : Fin 1 → IVec S16 32) a x).toNat < S32768.size a)
theorem k0_idx114_inb : ∀ (v735 : IVec S16 32) (k0_hw114 : k0_chk114 v735), ∀ a x, ((![v735] : Fin 1 → IVec S16 32) a x).toNat < S32768.size a := fun v735 k0_hw114 => k0_hw114

def k0_chk115 (v742 : IVec S16 32) : Prop :=
  (∀ a x, ((![v742] : Fin 1 → IVec S16 32) a x).toNat < S32768.size a)
theorem k0_idx115_inb : ∀ (v742 : IVec S16 32) (k0_hw115 : k0_chk115 v742), ∀ a x, ((![v742] : Fin 1 → IVec S16 32) a x).toNat < S32768.size a := fun v742 k0_hw115 => k0_hw115

def k0_chk116 (v745 : IVec S16 32) : Prop :=
  (∀ a x, ((![v745] : Fin 1 → IVec S16 32) a x).toNat < S32768.size a)
theorem k0_idx116_inb : ∀ (v745 : IVec S16 32) (k0_hw116 : k0_chk116 v745), ∀ a x, ((![v745] : Fin 1 → IVec S16 32) a x).toNat < S32768.size a := fun v745 k0_hw116 => k0_hw116

def k0_chk117 (v752 : IVec S16 32) : Prop :=
  (∀ a x, ((![v752] : Fin 1 → IVec S16 32) a x).toNat < S32768.size a)
theorem k0_idx117_inb : ∀ (v752 : IVec S16 32) (k0_hw117 : k0_chk117 v752), ∀ a x, ((![v752] : Fin 1 → IVec S16 32) a x).toNat < S32768.size a := fun v752 k0_hw117 => k0_hw117

def k0_chk118 (v755 : IVec S16 32) : Prop :=
  (∀ a x, ((![v755] : Fin 1 → IVec S16 32) a x).toNat < S32768.size a)
theorem k0_idx118_inb : ∀ (v755 : IVec S16 32) (k0_hw118 : k0_chk118 v755), ∀ a x, ((![v755] : Fin 1 → IVec S16 32) a x).toNat < S32768.size a := fun v755 k0_hw118 => k0_hw118

def k0_chk119 (v762 : IVec S16 32) : Prop :=
  (∀ a x, ((![v762] : Fin 1 → IVec S16 32) a x).toNat < S32768.size a)
theorem k0_idx119_inb : ∀ (v762 : IVec S16 32) (k0_hw119 : k0_chk119 v762), ∀ a x, ((![v762] : Fin 1 → IVec S16 32) a x).toNat < S32768.size a := fun v762 k0_hw119 => k0_hw119

def k0_chk120 (v765 : IVec S16 32) : Prop :=
  (∀ a x, ((![v765] : Fin 1 → IVec S16 32) a x).toNat < S32768.size a)
theorem k0_idx120_inb : ∀ (v765 : IVec S16 32) (k0_hw120 : k0_chk120 v765), ∀ a x, ((![v765] : Fin 1 → IVec S16 32) a x).toNat < S32768.size a := fun v765 k0_hw120 => k0_hw120
def k0_off30 (k0_t2 : Fin k0_t2_loop.trips) (c6000_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v771 : BitVec 32 := Scalar.addi c6000_i32 v65
  let v772 : Index := Scalar.indexCast v771
  ![v772.toNat]

def k0_chk121 (v778 : IVec S16 32) : Prop :=
  (∀ a x, ((![v778] : Fin 1 → IVec S16 32) a x).toNat < S32768.size a)
theorem k0_idx121_inb : ∀ (v778 : IVec S16 32) (k0_hw121 : k0_chk121 v778), ∀ a x, ((![v778] : Fin 1 → IVec S16 32) a x).toNat < S32768.size a := fun v778 k0_hw121 => k0_hw121

def k0_chk122 (v781 : IVec S16 32) : Prop :=
  (∀ a x, ((![v781] : Fin 1 → IVec S16 32) a x).toNat < S32768.size a)
theorem k0_idx122_inb : ∀ (v781 : IVec S16 32) (k0_hw122 : k0_chk122 v781), ∀ a x, ((![v781] : Fin 1 → IVec S16 32) a x).toNat < S32768.size a := fun v781 k0_hw122 => k0_hw122

def k0_chk123 (v788 : IVec S16 32) : Prop :=
  (∀ a x, ((![v788] : Fin 1 → IVec S16 32) a x).toNat < S32768.size a)
theorem k0_idx123_inb : ∀ (v788 : IVec S16 32) (k0_hw123 : k0_chk123 v788), ∀ a x, ((![v788] : Fin 1 → IVec S16 32) a x).toNat < S32768.size a := fun v788 k0_hw123 => k0_hw123

def k0_chk124 (v791 : IVec S16 32) : Prop :=
  (∀ a x, ((![v791] : Fin 1 → IVec S16 32) a x).toNat < S32768.size a)
theorem k0_idx124_inb : ∀ (v791 : IVec S16 32) (k0_hw124 : k0_chk124 v791), ∀ a x, ((![v791] : Fin 1 → IVec S16 32) a x).toNat < S32768.size a := fun v791 k0_hw124 => k0_hw124

def k0_chk125 (v798 : IVec S16 32) : Prop :=
  (∀ a x, ((![v798] : Fin 1 → IVec S16 32) a x).toNat < S32768.size a)
theorem k0_idx125_inb : ∀ (v798 : IVec S16 32) (k0_hw125 : k0_chk125 v798), ∀ a x, ((![v798] : Fin 1 → IVec S16 32) a x).toNat < S32768.size a := fun v798 k0_hw125 => k0_hw125

def k0_chk126 (v801 : IVec S16 32) : Prop :=
  (∀ a x, ((![v801] : Fin 1 → IVec S16 32) a x).toNat < S32768.size a)
theorem k0_idx126_inb : ∀ (v801 : IVec S16 32) (k0_hw126 : k0_chk126 v801), ∀ a x, ((![v801] : Fin 1 → IVec S16 32) a x).toNat < S32768.size a := fun v801 k0_hw126 => k0_hw126

def k0_chk127 (v808 : IVec S16 32) : Prop :=
  (∀ a x, ((![v808] : Fin 1 → IVec S16 32) a x).toNat < S32768.size a)
theorem k0_idx127_inb : ∀ (v808 : IVec S16 32) (k0_hw127 : k0_chk127 v808), ∀ a x, ((![v808] : Fin 1 → IVec S16 32) a x).toNat < S32768.size a := fun v808 k0_hw127 => k0_hw127

def k0_chk128 (v811 : IVec S16 32) : Prop :=
  (∀ a x, ((![v811] : Fin 1 → IVec S16 32) a x).toNat < S32768.size a)
theorem k0_idx128_inb : ∀ (v811 : IVec S16 32) (k0_hw128 : k0_chk128 v811), ∀ a x, ((![v811] : Fin 1 → IVec S16 32) a x).toNat < S32768.size a := fun v811 k0_hw128 => k0_hw128
def k0_off31 (k0_t2 : Fin k0_t2_loop.trips) : Fin 1 → Nat :=
  let c800_i32_152 : BitVec 32 := 800#32
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v817 : BitVec 32 := Scalar.addi c800_i32_152 v65
  let v818 : Index := Scalar.indexCast v817
  ![v818.toNat]
def k0_off32 (k0_t2 : Fin k0_t2_loop.trips) (c6400_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v820 : BitVec 32 := Scalar.addi c6400_i32 v65
  let v821 : Index := Scalar.indexCast v820
  ![v821.toNat]

def k0_chk129 (v827 : IVec S16 32) : Prop :=
  (∀ a x, ((![v827] : Fin 1 → IVec S16 32) a x).toNat < S32768.size a)
theorem k0_idx129_inb : ∀ (v827 : IVec S16 32) (k0_hw129 : k0_chk129 v827), ∀ a x, ((![v827] : Fin 1 → IVec S16 32) a x).toNat < S32768.size a := fun v827 k0_hw129 => k0_hw129

def k0_chk130 (v830 : IVec S16 32) : Prop :=
  (∀ a x, ((![v830] : Fin 1 → IVec S16 32) a x).toNat < S32768.size a)
theorem k0_idx130_inb : ∀ (v830 : IVec S16 32) (k0_hw130 : k0_chk130 v830), ∀ a x, ((![v830] : Fin 1 → IVec S16 32) a x).toNat < S32768.size a := fun v830 k0_hw130 => k0_hw130

def k0_chk131 (v837 : IVec S16 32) : Prop :=
  (∀ a x, ((![v837] : Fin 1 → IVec S16 32) a x).toNat < S32768.size a)
theorem k0_idx131_inb : ∀ (v837 : IVec S16 32) (k0_hw131 : k0_chk131 v837), ∀ a x, ((![v837] : Fin 1 → IVec S16 32) a x).toNat < S32768.size a := fun v837 k0_hw131 => k0_hw131

def k0_chk132 (v840 : IVec S16 32) : Prop :=
  (∀ a x, ((![v840] : Fin 1 → IVec S16 32) a x).toNat < S32768.size a)
theorem k0_idx132_inb : ∀ (v840 : IVec S16 32) (k0_hw132 : k0_chk132 v840), ∀ a x, ((![v840] : Fin 1 → IVec S16 32) a x).toNat < S32768.size a := fun v840 k0_hw132 => k0_hw132

def k0_chk133 (v847 : IVec S16 32) : Prop :=
  (∀ a x, ((![v847] : Fin 1 → IVec S16 32) a x).toNat < S32768.size a)
theorem k0_idx133_inb : ∀ (v847 : IVec S16 32) (k0_hw133 : k0_chk133 v847), ∀ a x, ((![v847] : Fin 1 → IVec S16 32) a x).toNat < S32768.size a := fun v847 k0_hw133 => k0_hw133

def k0_chk134 (v850 : IVec S16 32) : Prop :=
  (∀ a x, ((![v850] : Fin 1 → IVec S16 32) a x).toNat < S32768.size a)
theorem k0_idx134_inb : ∀ (v850 : IVec S16 32) (k0_hw134 : k0_chk134 v850), ∀ a x, ((![v850] : Fin 1 → IVec S16 32) a x).toNat < S32768.size a := fun v850 k0_hw134 => k0_hw134

def k0_chk135 (v857 : IVec S16 32) : Prop :=
  (∀ a x, ((![v857] : Fin 1 → IVec S16 32) a x).toNat < S32768.size a)
theorem k0_idx135_inb : ∀ (v857 : IVec S16 32) (k0_hw135 : k0_chk135 v857), ∀ a x, ((![v857] : Fin 1 → IVec S16 32) a x).toNat < S32768.size a := fun v857 k0_hw135 => k0_hw135

def k0_chk136 (v860 : IVec S16 32) : Prop :=
  (∀ a x, ((![v860] : Fin 1 → IVec S16 32) a x).toNat < S32768.size a)
theorem k0_idx136_inb : ∀ (v860 : IVec S16 32) (k0_hw136 : k0_chk136 v860), ∀ a x, ((![v860] : Fin 1 → IVec S16 32) a x).toNat < S32768.size a := fun v860 k0_hw136 => k0_hw136
def k0_off33 (k0_t2 : Fin k0_t2_loop.trips) (c6800_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v866 : BitVec 32 := Scalar.addi c6800_i32 v65
  let v867 : Index := Scalar.indexCast v866
  ![v867.toNat]

def k0_chk137 (v873 : IVec S16 32) : Prop :=
  (∀ a x, ((![v873] : Fin 1 → IVec S16 32) a x).toNat < S32768.size a)
theorem k0_idx137_inb : ∀ (v873 : IVec S16 32) (k0_hw137 : k0_chk137 v873), ∀ a x, ((![v873] : Fin 1 → IVec S16 32) a x).toNat < S32768.size a := fun v873 k0_hw137 => k0_hw137

def k0_chk138 (v876 : IVec S16 32) : Prop :=
  (∀ a x, ((![v876] : Fin 1 → IVec S16 32) a x).toNat < S32768.size a)
theorem k0_idx138_inb : ∀ (v876 : IVec S16 32) (k0_hw138 : k0_chk138 v876), ∀ a x, ((![v876] : Fin 1 → IVec S16 32) a x).toNat < S32768.size a := fun v876 k0_hw138 => k0_hw138

def k0_chk139 (v883 : IVec S16 32) : Prop :=
  (∀ a x, ((![v883] : Fin 1 → IVec S16 32) a x).toNat < S32768.size a)
theorem k0_idx139_inb : ∀ (v883 : IVec S16 32) (k0_hw139 : k0_chk139 v883), ∀ a x, ((![v883] : Fin 1 → IVec S16 32) a x).toNat < S32768.size a := fun v883 k0_hw139 => k0_hw139

def k0_chk140 (v886 : IVec S16 32) : Prop :=
  (∀ a x, ((![v886] : Fin 1 → IVec S16 32) a x).toNat < S32768.size a)
theorem k0_idx140_inb : ∀ (v886 : IVec S16 32) (k0_hw140 : k0_chk140 v886), ∀ a x, ((![v886] : Fin 1 → IVec S16 32) a x).toNat < S32768.size a := fun v886 k0_hw140 => k0_hw140

def k0_chk141 (v893 : IVec S16 32) : Prop :=
  (∀ a x, ((![v893] : Fin 1 → IVec S16 32) a x).toNat < S32768.size a)
theorem k0_idx141_inb : ∀ (v893 : IVec S16 32) (k0_hw141 : k0_chk141 v893), ∀ a x, ((![v893] : Fin 1 → IVec S16 32) a x).toNat < S32768.size a := fun v893 k0_hw141 => k0_hw141

def k0_chk142 (v896 : IVec S16 32) : Prop :=
  (∀ a x, ((![v896] : Fin 1 → IVec S16 32) a x).toNat < S32768.size a)
theorem k0_idx142_inb : ∀ (v896 : IVec S16 32) (k0_hw142 : k0_chk142 v896), ∀ a x, ((![v896] : Fin 1 → IVec S16 32) a x).toNat < S32768.size a := fun v896 k0_hw142 => k0_hw142

def k0_chk143 (v903 : IVec S16 32) : Prop :=
  (∀ a x, ((![v903] : Fin 1 → IVec S16 32) a x).toNat < S32768.size a)
theorem k0_idx143_inb : ∀ (v903 : IVec S16 32) (k0_hw143 : k0_chk143 v903), ∀ a x, ((![v903] : Fin 1 → IVec S16 32) a x).toNat < S32768.size a := fun v903 k0_hw143 => k0_hw143

def k0_chk144 (v906 : IVec S16 32) : Prop :=
  (∀ a x, ((![v906] : Fin 1 → IVec S16 32) a x).toNat < S32768.size a)
theorem k0_idx144_inb : ∀ (v906 : IVec S16 32) (k0_hw144 : k0_chk144 v906), ∀ a x, ((![v906] : Fin 1 → IVec S16 32) a x).toNat < S32768.size a := fun v906 k0_hw144 => k0_hw144
def k0_off34 (k0_t2 : Fin k0_t2_loop.trips) (c7200_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v912 : BitVec 32 := Scalar.addi c7200_i32 v65
  let v913 : Index := Scalar.indexCast v912
  ![v913.toNat]

def k0_chk145 (v919 : IVec S16 32) : Prop :=
  (∀ a x, ((![v919] : Fin 1 → IVec S16 32) a x).toNat < S32768.size a)
theorem k0_idx145_inb : ∀ (v919 : IVec S16 32) (k0_hw145 : k0_chk145 v919), ∀ a x, ((![v919] : Fin 1 → IVec S16 32) a x).toNat < S32768.size a := fun v919 k0_hw145 => k0_hw145

def k0_chk146 (v922 : IVec S16 32) : Prop :=
  (∀ a x, ((![v922] : Fin 1 → IVec S16 32) a x).toNat < S32768.size a)
theorem k0_idx146_inb : ∀ (v922 : IVec S16 32) (k0_hw146 : k0_chk146 v922), ∀ a x, ((![v922] : Fin 1 → IVec S16 32) a x).toNat < S32768.size a := fun v922 k0_hw146 => k0_hw146

def k0_chk147 (v929 : IVec S16 32) : Prop :=
  (∀ a x, ((![v929] : Fin 1 → IVec S16 32) a x).toNat < S32768.size a)
theorem k0_idx147_inb : ∀ (v929 : IVec S16 32) (k0_hw147 : k0_chk147 v929), ∀ a x, ((![v929] : Fin 1 → IVec S16 32) a x).toNat < S32768.size a := fun v929 k0_hw147 => k0_hw147

def k0_chk148 (v932 : IVec S16 32) : Prop :=
  (∀ a x, ((![v932] : Fin 1 → IVec S16 32) a x).toNat < S32768.size a)
theorem k0_idx148_inb : ∀ (v932 : IVec S16 32) (k0_hw148 : k0_chk148 v932), ∀ a x, ((![v932] : Fin 1 → IVec S16 32) a x).toNat < S32768.size a := fun v932 k0_hw148 => k0_hw148

def k0_chk149 (v939 : IVec S16 32) : Prop :=
  (∀ a x, ((![v939] : Fin 1 → IVec S16 32) a x).toNat < S32768.size a)
theorem k0_idx149_inb : ∀ (v939 : IVec S16 32) (k0_hw149 : k0_chk149 v939), ∀ a x, ((![v939] : Fin 1 → IVec S16 32) a x).toNat < S32768.size a := fun v939 k0_hw149 => k0_hw149

def k0_chk150 (v942 : IVec S16 32) : Prop :=
  (∀ a x, ((![v942] : Fin 1 → IVec S16 32) a x).toNat < S32768.size a)
theorem k0_idx150_inb : ∀ (v942 : IVec S16 32) (k0_hw150 : k0_chk150 v942), ∀ a x, ((![v942] : Fin 1 → IVec S16 32) a x).toNat < S32768.size a := fun v942 k0_hw150 => k0_hw150

def k0_chk151 (v949 : IVec S16 32) : Prop :=
  (∀ a x, ((![v949] : Fin 1 → IVec S16 32) a x).toNat < S32768.size a)
theorem k0_idx151_inb : ∀ (v949 : IVec S16 32) (k0_hw151 : k0_chk151 v949), ∀ a x, ((![v949] : Fin 1 → IVec S16 32) a x).toNat < S32768.size a := fun v949 k0_hw151 => k0_hw151

def k0_chk152 (v952 : IVec S16 32) : Prop :=
  (∀ a x, ((![v952] : Fin 1 → IVec S16 32) a x).toNat < S32768.size a)
theorem k0_idx152_inb : ∀ (v952 : IVec S16 32) (k0_hw152 : k0_chk152 v952), ∀ a x, ((![v952] : Fin 1 → IVec S16 32) a x).toNat < S32768.size a := fun v952 k0_hw152 => k0_hw152
def k0_off35 (k0_t2 : Fin k0_t2_loop.trips) (c7600_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v958 : BitVec 32 := Scalar.addi c7600_i32 v65
  let v959 : Index := Scalar.indexCast v958
  ![v959.toNat]

def k0_chk153 (v965 : IVec S16 32) : Prop :=
  (∀ a x, ((![v965] : Fin 1 → IVec S16 32) a x).toNat < S32768.size a)
theorem k0_idx153_inb : ∀ (v965 : IVec S16 32) (k0_hw153 : k0_chk153 v965), ∀ a x, ((![v965] : Fin 1 → IVec S16 32) a x).toNat < S32768.size a := fun v965 k0_hw153 => k0_hw153

def k0_chk154 (v968 : IVec S16 32) : Prop :=
  (∀ a x, ((![v968] : Fin 1 → IVec S16 32) a x).toNat < S32768.size a)
theorem k0_idx154_inb : ∀ (v968 : IVec S16 32) (k0_hw154 : k0_chk154 v968), ∀ a x, ((![v968] : Fin 1 → IVec S16 32) a x).toNat < S32768.size a := fun v968 k0_hw154 => k0_hw154

def k0_chk155 (v975 : IVec S16 32) : Prop :=
  (∀ a x, ((![v975] : Fin 1 → IVec S16 32) a x).toNat < S32768.size a)
theorem k0_idx155_inb : ∀ (v975 : IVec S16 32) (k0_hw155 : k0_chk155 v975), ∀ a x, ((![v975] : Fin 1 → IVec S16 32) a x).toNat < S32768.size a := fun v975 k0_hw155 => k0_hw155

def k0_chk156 (v978 : IVec S16 32) : Prop :=
  (∀ a x, ((![v978] : Fin 1 → IVec S16 32) a x).toNat < S32768.size a)
theorem k0_idx156_inb : ∀ (v978 : IVec S16 32) (k0_hw156 : k0_chk156 v978), ∀ a x, ((![v978] : Fin 1 → IVec S16 32) a x).toNat < S32768.size a := fun v978 k0_hw156 => k0_hw156

def k0_chk157 (v985 : IVec S16 32) : Prop :=
  (∀ a x, ((![v985] : Fin 1 → IVec S16 32) a x).toNat < S32768.size a)
theorem k0_idx157_inb : ∀ (v985 : IVec S16 32) (k0_hw157 : k0_chk157 v985), ∀ a x, ((![v985] : Fin 1 → IVec S16 32) a x).toNat < S32768.size a := fun v985 k0_hw157 => k0_hw157

def k0_chk158 (v988 : IVec S16 32) : Prop :=
  (∀ a x, ((![v988] : Fin 1 → IVec S16 32) a x).toNat < S32768.size a)
theorem k0_idx158_inb : ∀ (v988 : IVec S16 32) (k0_hw158 : k0_chk158 v988), ∀ a x, ((![v988] : Fin 1 → IVec S16 32) a x).toNat < S32768.size a := fun v988 k0_hw158 => k0_hw158

def k0_chk159 (v995 : IVec S16 32) : Prop :=
  (∀ a x, ((![v995] : Fin 1 → IVec S16 32) a x).toNat < S32768.size a)
theorem k0_idx159_inb : ∀ (v995 : IVec S16 32) (k0_hw159 : k0_chk159 v995), ∀ a x, ((![v995] : Fin 1 → IVec S16 32) a x).toNat < S32768.size a := fun v995 k0_hw159 => k0_hw159

def k0_chk160 (v998 : IVec S16 32) : Prop :=
  (∀ a x, ((![v998] : Fin 1 → IVec S16 32) a x).toNat < S32768.size a)
theorem k0_idx160_inb : ∀ (v998 : IVec S16 32) (k0_hw160 : k0_chk160 v998), ∀ a x, ((![v998] : Fin 1 → IVec S16 32) a x).toNat < S32768.size a := fun v998 k0_hw160 => k0_hw160
def k0_off36 (k0_t2 : Fin k0_t2_loop.trips) : Fin 1 → Nat :=
  let c1000_i32_185 : BitVec 32 := 1000#32
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1004 : BitVec 32 := Scalar.addi c1000_i32_185 v65
  let v1005 : Index := Scalar.indexCast v1004
  ![v1005.toNat]
def k0_off37 (k0_t2 : Fin k0_t2_loop.trips) (c8000_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1007 : BitVec 32 := Scalar.addi c8000_i32 v65
  let v1008 : Index := Scalar.indexCast v1007
  ![v1008.toNat]

def k0_chk161 (v1014 : IVec S16 32) : Prop :=
  (∀ a x, ((![v1014] : Fin 1 → IVec S16 32) a x).toNat < S32768.size a)
theorem k0_idx161_inb : ∀ (v1014 : IVec S16 32) (k0_hw161 : k0_chk161 v1014), ∀ a x, ((![v1014] : Fin 1 → IVec S16 32) a x).toNat < S32768.size a := fun v1014 k0_hw161 => k0_hw161

def k0_chk162 (v1017 : IVec S16 32) : Prop :=
  (∀ a x, ((![v1017] : Fin 1 → IVec S16 32) a x).toNat < S32768.size a)
theorem k0_idx162_inb : ∀ (v1017 : IVec S16 32) (k0_hw162 : k0_chk162 v1017), ∀ a x, ((![v1017] : Fin 1 → IVec S16 32) a x).toNat < S32768.size a := fun v1017 k0_hw162 => k0_hw162

def k0_chk163 (v1024 : IVec S16 32) : Prop :=
  (∀ a x, ((![v1024] : Fin 1 → IVec S16 32) a x).toNat < S32768.size a)
theorem k0_idx163_inb : ∀ (v1024 : IVec S16 32) (k0_hw163 : k0_chk163 v1024), ∀ a x, ((![v1024] : Fin 1 → IVec S16 32) a x).toNat < S32768.size a := fun v1024 k0_hw163 => k0_hw163

def k0_chk164 (v1027 : IVec S16 32) : Prop :=
  (∀ a x, ((![v1027] : Fin 1 → IVec S16 32) a x).toNat < S32768.size a)
theorem k0_idx164_inb : ∀ (v1027 : IVec S16 32) (k0_hw164 : k0_chk164 v1027), ∀ a x, ((![v1027] : Fin 1 → IVec S16 32) a x).toNat < S32768.size a := fun v1027 k0_hw164 => k0_hw164

def k0_chk165 (v1034 : IVec S16 32) : Prop :=
  (∀ a x, ((![v1034] : Fin 1 → IVec S16 32) a x).toNat < S32768.size a)
theorem k0_idx165_inb : ∀ (v1034 : IVec S16 32) (k0_hw165 : k0_chk165 v1034), ∀ a x, ((![v1034] : Fin 1 → IVec S16 32) a x).toNat < S32768.size a := fun v1034 k0_hw165 => k0_hw165

def k0_chk166 (v1037 : IVec S16 32) : Prop :=
  (∀ a x, ((![v1037] : Fin 1 → IVec S16 32) a x).toNat < S32768.size a)
theorem k0_idx166_inb : ∀ (v1037 : IVec S16 32) (k0_hw166 : k0_chk166 v1037), ∀ a x, ((![v1037] : Fin 1 → IVec S16 32) a x).toNat < S32768.size a := fun v1037 k0_hw166 => k0_hw166

def k0_chk167 (v1044 : IVec S16 32) : Prop :=
  (∀ a x, ((![v1044] : Fin 1 → IVec S16 32) a x).toNat < S32768.size a)
theorem k0_idx167_inb : ∀ (v1044 : IVec S16 32) (k0_hw167 : k0_chk167 v1044), ∀ a x, ((![v1044] : Fin 1 → IVec S16 32) a x).toNat < S32768.size a := fun v1044 k0_hw167 => k0_hw167

def k0_chk168 (v1047 : IVec S16 32) : Prop :=
  (∀ a x, ((![v1047] : Fin 1 → IVec S16 32) a x).toNat < S32768.size a)
theorem k0_idx168_inb : ∀ (v1047 : IVec S16 32) (k0_hw168 : k0_chk168 v1047), ∀ a x, ((![v1047] : Fin 1 → IVec S16 32) a x).toNat < S32768.size a := fun v1047 k0_hw168 => k0_hw168
def k0_off38 (k0_t2 : Fin k0_t2_loop.trips) (c8400_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1053 : BitVec 32 := Scalar.addi c8400_i32 v65
  let v1054 : Index := Scalar.indexCast v1053
  ![v1054.toNat]

def k0_chk169 (v1060 : IVec S16 32) : Prop :=
  (∀ a x, ((![v1060] : Fin 1 → IVec S16 32) a x).toNat < S32768.size a)
theorem k0_idx169_inb : ∀ (v1060 : IVec S16 32) (k0_hw169 : k0_chk169 v1060), ∀ a x, ((![v1060] : Fin 1 → IVec S16 32) a x).toNat < S32768.size a := fun v1060 k0_hw169 => k0_hw169

def k0_chk170 (v1063 : IVec S16 32) : Prop :=
  (∀ a x, ((![v1063] : Fin 1 → IVec S16 32) a x).toNat < S32768.size a)
theorem k0_idx170_inb : ∀ (v1063 : IVec S16 32) (k0_hw170 : k0_chk170 v1063), ∀ a x, ((![v1063] : Fin 1 → IVec S16 32) a x).toNat < S32768.size a := fun v1063 k0_hw170 => k0_hw170

def k0_chk171 (v1070 : IVec S16 32) : Prop :=
  (∀ a x, ((![v1070] : Fin 1 → IVec S16 32) a x).toNat < S32768.size a)
theorem k0_idx171_inb : ∀ (v1070 : IVec S16 32) (k0_hw171 : k0_chk171 v1070), ∀ a x, ((![v1070] : Fin 1 → IVec S16 32) a x).toNat < S32768.size a := fun v1070 k0_hw171 => k0_hw171

def k0_chk172 (v1073 : IVec S16 32) : Prop :=
  (∀ a x, ((![v1073] : Fin 1 → IVec S16 32) a x).toNat < S32768.size a)
theorem k0_idx172_inb : ∀ (v1073 : IVec S16 32) (k0_hw172 : k0_chk172 v1073), ∀ a x, ((![v1073] : Fin 1 → IVec S16 32) a x).toNat < S32768.size a := fun v1073 k0_hw172 => k0_hw172

def k0_chk173 (v1080 : IVec S16 32) : Prop :=
  (∀ a x, ((![v1080] : Fin 1 → IVec S16 32) a x).toNat < S32768.size a)
theorem k0_idx173_inb : ∀ (v1080 : IVec S16 32) (k0_hw173 : k0_chk173 v1080), ∀ a x, ((![v1080] : Fin 1 → IVec S16 32) a x).toNat < S32768.size a := fun v1080 k0_hw173 => k0_hw173

def k0_chk174 (v1083 : IVec S16 32) : Prop :=
  (∀ a x, ((![v1083] : Fin 1 → IVec S16 32) a x).toNat < S32768.size a)
theorem k0_idx174_inb : ∀ (v1083 : IVec S16 32) (k0_hw174 : k0_chk174 v1083), ∀ a x, ((![v1083] : Fin 1 → IVec S16 32) a x).toNat < S32768.size a := fun v1083 k0_hw174 => k0_hw174

def k0_chk175 (v1090 : IVec S16 32) : Prop :=
  (∀ a x, ((![v1090] : Fin 1 → IVec S16 32) a x).toNat < S32768.size a)
theorem k0_idx175_inb : ∀ (v1090 : IVec S16 32) (k0_hw175 : k0_chk175 v1090), ∀ a x, ((![v1090] : Fin 1 → IVec S16 32) a x).toNat < S32768.size a := fun v1090 k0_hw175 => k0_hw175

def k0_chk176 (v1093 : IVec S16 32) : Prop :=
  (∀ a x, ((![v1093] : Fin 1 → IVec S16 32) a x).toNat < S32768.size a)
theorem k0_idx176_inb : ∀ (v1093 : IVec S16 32) (k0_hw176 : k0_chk176 v1093), ∀ a x, ((![v1093] : Fin 1 → IVec S16 32) a x).toNat < S32768.size a := fun v1093 k0_hw176 => k0_hw176
def k0_off39 (k0_t2 : Fin k0_t2_loop.trips) (c8800_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1099 : BitVec 32 := Scalar.addi c8800_i32 v65
  let v1100 : Index := Scalar.indexCast v1099
  ![v1100.toNat]

def k0_chk177 (v1106 : IVec S16 32) : Prop :=
  (∀ a x, ((![v1106] : Fin 1 → IVec S16 32) a x).toNat < S32768.size a)
theorem k0_idx177_inb : ∀ (v1106 : IVec S16 32) (k0_hw177 : k0_chk177 v1106), ∀ a x, ((![v1106] : Fin 1 → IVec S16 32) a x).toNat < S32768.size a := fun v1106 k0_hw177 => k0_hw177

def k0_chk178 (v1109 : IVec S16 32) : Prop :=
  (∀ a x, ((![v1109] : Fin 1 → IVec S16 32) a x).toNat < S32768.size a)
theorem k0_idx178_inb : ∀ (v1109 : IVec S16 32) (k0_hw178 : k0_chk178 v1109), ∀ a x, ((![v1109] : Fin 1 → IVec S16 32) a x).toNat < S32768.size a := fun v1109 k0_hw178 => k0_hw178

def k0_chk179 (v1116 : IVec S16 32) : Prop :=
  (∀ a x, ((![v1116] : Fin 1 → IVec S16 32) a x).toNat < S32768.size a)
theorem k0_idx179_inb : ∀ (v1116 : IVec S16 32) (k0_hw179 : k0_chk179 v1116), ∀ a x, ((![v1116] : Fin 1 → IVec S16 32) a x).toNat < S32768.size a := fun v1116 k0_hw179 => k0_hw179

def k0_chk180 (v1119 : IVec S16 32) : Prop :=
  (∀ a x, ((![v1119] : Fin 1 → IVec S16 32) a x).toNat < S32768.size a)
theorem k0_idx180_inb : ∀ (v1119 : IVec S16 32) (k0_hw180 : k0_chk180 v1119), ∀ a x, ((![v1119] : Fin 1 → IVec S16 32) a x).toNat < S32768.size a := fun v1119 k0_hw180 => k0_hw180

def k0_chk181 (v1126 : IVec S16 32) : Prop :=
  (∀ a x, ((![v1126] : Fin 1 → IVec S16 32) a x).toNat < S32768.size a)
theorem k0_idx181_inb : ∀ (v1126 : IVec S16 32) (k0_hw181 : k0_chk181 v1126), ∀ a x, ((![v1126] : Fin 1 → IVec S16 32) a x).toNat < S32768.size a := fun v1126 k0_hw181 => k0_hw181

def k0_chk182 (v1129 : IVec S16 32) : Prop :=
  (∀ a x, ((![v1129] : Fin 1 → IVec S16 32) a x).toNat < S32768.size a)
theorem k0_idx182_inb : ∀ (v1129 : IVec S16 32) (k0_hw182 : k0_chk182 v1129), ∀ a x, ((![v1129] : Fin 1 → IVec S16 32) a x).toNat < S32768.size a := fun v1129 k0_hw182 => k0_hw182

def k0_chk183 (v1136 : IVec S16 32) : Prop :=
  (∀ a x, ((![v1136] : Fin 1 → IVec S16 32) a x).toNat < S32768.size a)
theorem k0_idx183_inb : ∀ (v1136 : IVec S16 32) (k0_hw183 : k0_chk183 v1136), ∀ a x, ((![v1136] : Fin 1 → IVec S16 32) a x).toNat < S32768.size a := fun v1136 k0_hw183 => k0_hw183

def k0_chk184 (v1139 : IVec S16 32) : Prop :=
  (∀ a x, ((![v1139] : Fin 1 → IVec S16 32) a x).toNat < S32768.size a)
theorem k0_idx184_inb : ∀ (v1139 : IVec S16 32) (k0_hw184 : k0_chk184 v1139), ∀ a x, ((![v1139] : Fin 1 → IVec S16 32) a x).toNat < S32768.size a := fun v1139 k0_hw184 => k0_hw184
def k0_off40 (k0_t2 : Fin k0_t2_loop.trips) (c9200_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1145 : BitVec 32 := Scalar.addi c9200_i32 v65
  let v1146 : Index := Scalar.indexCast v1145
  ![v1146.toNat]

def k0_chk185 (v1152 : IVec S16 32) : Prop :=
  (∀ a x, ((![v1152] : Fin 1 → IVec S16 32) a x).toNat < S32768.size a)
theorem k0_idx185_inb : ∀ (v1152 : IVec S16 32) (k0_hw185 : k0_chk185 v1152), ∀ a x, ((![v1152] : Fin 1 → IVec S16 32) a x).toNat < S32768.size a := fun v1152 k0_hw185 => k0_hw185

def k0_chk186 (v1155 : IVec S16 32) : Prop :=
  (∀ a x, ((![v1155] : Fin 1 → IVec S16 32) a x).toNat < S32768.size a)
theorem k0_idx186_inb : ∀ (v1155 : IVec S16 32) (k0_hw186 : k0_chk186 v1155), ∀ a x, ((![v1155] : Fin 1 → IVec S16 32) a x).toNat < S32768.size a := fun v1155 k0_hw186 => k0_hw186

def k0_chk187 (v1162 : IVec S16 32) : Prop :=
  (∀ a x, ((![v1162] : Fin 1 → IVec S16 32) a x).toNat < S32768.size a)
theorem k0_idx187_inb : ∀ (v1162 : IVec S16 32) (k0_hw187 : k0_chk187 v1162), ∀ a x, ((![v1162] : Fin 1 → IVec S16 32) a x).toNat < S32768.size a := fun v1162 k0_hw187 => k0_hw187

def k0_chk188 (v1165 : IVec S16 32) : Prop :=
  (∀ a x, ((![v1165] : Fin 1 → IVec S16 32) a x).toNat < S32768.size a)
theorem k0_idx188_inb : ∀ (v1165 : IVec S16 32) (k0_hw188 : k0_chk188 v1165), ∀ a x, ((![v1165] : Fin 1 → IVec S16 32) a x).toNat < S32768.size a := fun v1165 k0_hw188 => k0_hw188

def k0_chk189 (v1172 : IVec S16 32) : Prop :=
  (∀ a x, ((![v1172] : Fin 1 → IVec S16 32) a x).toNat < S32768.size a)
theorem k0_idx189_inb : ∀ (v1172 : IVec S16 32) (k0_hw189 : k0_chk189 v1172), ∀ a x, ((![v1172] : Fin 1 → IVec S16 32) a x).toNat < S32768.size a := fun v1172 k0_hw189 => k0_hw189

def k0_chk190 (v1175 : IVec S16 32) : Prop :=
  (∀ a x, ((![v1175] : Fin 1 → IVec S16 32) a x).toNat < S32768.size a)
theorem k0_idx190_inb : ∀ (v1175 : IVec S16 32) (k0_hw190 : k0_chk190 v1175), ∀ a x, ((![v1175] : Fin 1 → IVec S16 32) a x).toNat < S32768.size a := fun v1175 k0_hw190 => k0_hw190

def k0_chk191 (v1182 : IVec S16 32) : Prop :=
  (∀ a x, ((![v1182] : Fin 1 → IVec S16 32) a x).toNat < S32768.size a)
theorem k0_idx191_inb : ∀ (v1182 : IVec S16 32) (k0_hw191 : k0_chk191 v1182), ∀ a x, ((![v1182] : Fin 1 → IVec S16 32) a x).toNat < S32768.size a := fun v1182 k0_hw191 => k0_hw191

def k0_chk192 (v1185 : IVec S16 32) : Prop :=
  (∀ a x, ((![v1185] : Fin 1 → IVec S16 32) a x).toNat < S32768.size a)
theorem k0_idx192_inb : ∀ (v1185 : IVec S16 32) (k0_hw192 : k0_chk192 v1185), ∀ a x, ((![v1185] : Fin 1 → IVec S16 32) a x).toNat < S32768.size a := fun v1185 k0_hw192 => k0_hw192
def k0_off41 (k0_t2 : Fin k0_t2_loop.trips) : Fin 1 → Nat :=
  let c1200_i32_218 : BitVec 32 := 1200#32
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1191 : BitVec 32 := Scalar.addi c1200_i32_218 v65
  let v1192 : Index := Scalar.indexCast v1191
  ![v1192.toNat]
def k0_off42 (k0_t2 : Fin k0_t2_loop.trips) (c9600_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1194 : BitVec 32 := Scalar.addi c9600_i32 v65
  let v1195 : Index := Scalar.indexCast v1194
  ![v1195.toNat]

def k0_chk193 (v1201 : IVec S16 32) : Prop :=
  (∀ a x, ((![v1201] : Fin 1 → IVec S16 32) a x).toNat < S32768.size a)
theorem k0_idx193_inb : ∀ (v1201 : IVec S16 32) (k0_hw193 : k0_chk193 v1201), ∀ a x, ((![v1201] : Fin 1 → IVec S16 32) a x).toNat < S32768.size a := fun v1201 k0_hw193 => k0_hw193

def k0_chk194 (v1204 : IVec S16 32) : Prop :=
  (∀ a x, ((![v1204] : Fin 1 → IVec S16 32) a x).toNat < S32768.size a)
theorem k0_idx194_inb : ∀ (v1204 : IVec S16 32) (k0_hw194 : k0_chk194 v1204), ∀ a x, ((![v1204] : Fin 1 → IVec S16 32) a x).toNat < S32768.size a := fun v1204 k0_hw194 => k0_hw194

def k0_chk195 (v1211 : IVec S16 32) : Prop :=
  (∀ a x, ((![v1211] : Fin 1 → IVec S16 32) a x).toNat < S32768.size a)
theorem k0_idx195_inb : ∀ (v1211 : IVec S16 32) (k0_hw195 : k0_chk195 v1211), ∀ a x, ((![v1211] : Fin 1 → IVec S16 32) a x).toNat < S32768.size a := fun v1211 k0_hw195 => k0_hw195

def k0_chk196 (v1214 : IVec S16 32) : Prop :=
  (∀ a x, ((![v1214] : Fin 1 → IVec S16 32) a x).toNat < S32768.size a)
theorem k0_idx196_inb : ∀ (v1214 : IVec S16 32) (k0_hw196 : k0_chk196 v1214), ∀ a x, ((![v1214] : Fin 1 → IVec S16 32) a x).toNat < S32768.size a := fun v1214 k0_hw196 => k0_hw196

def k0_chk197 (v1221 : IVec S16 32) : Prop :=
  (∀ a x, ((![v1221] : Fin 1 → IVec S16 32) a x).toNat < S32768.size a)
theorem k0_idx197_inb : ∀ (v1221 : IVec S16 32) (k0_hw197 : k0_chk197 v1221), ∀ a x, ((![v1221] : Fin 1 → IVec S16 32) a x).toNat < S32768.size a := fun v1221 k0_hw197 => k0_hw197

def k0_chk198 (v1224 : IVec S16 32) : Prop :=
  (∀ a x, ((![v1224] : Fin 1 → IVec S16 32) a x).toNat < S32768.size a)
theorem k0_idx198_inb : ∀ (v1224 : IVec S16 32) (k0_hw198 : k0_chk198 v1224), ∀ a x, ((![v1224] : Fin 1 → IVec S16 32) a x).toNat < S32768.size a := fun v1224 k0_hw198 => k0_hw198

def k0_chk199 (v1231 : IVec S16 32) : Prop :=
  (∀ a x, ((![v1231] : Fin 1 → IVec S16 32) a x).toNat < S32768.size a)
theorem k0_idx199_inb : ∀ (v1231 : IVec S16 32) (k0_hw199 : k0_chk199 v1231), ∀ a x, ((![v1231] : Fin 1 → IVec S16 32) a x).toNat < S32768.size a := fun v1231 k0_hw199 => k0_hw199

def k0_chk200 (v1234 : IVec S16 32) : Prop :=
  (∀ a x, ((![v1234] : Fin 1 → IVec S16 32) a x).toNat < S32768.size a)
theorem k0_idx200_inb : ∀ (v1234 : IVec S16 32) (k0_hw200 : k0_chk200 v1234), ∀ a x, ((![v1234] : Fin 1 → IVec S16 32) a x).toNat < S32768.size a := fun v1234 k0_hw200 => k0_hw200
def k0_off43 (k0_t2 : Fin k0_t2_loop.trips) (c10000_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1240 : BitVec 32 := Scalar.addi c10000_i32 v65
  let v1241 : Index := Scalar.indexCast v1240
  ![v1241.toNat]

def k0_chk201 (v1247 : IVec S16 32) : Prop :=
  (∀ a x, ((![v1247] : Fin 1 → IVec S16 32) a x).toNat < S32768.size a)
theorem k0_idx201_inb : ∀ (v1247 : IVec S16 32) (k0_hw201 : k0_chk201 v1247), ∀ a x, ((![v1247] : Fin 1 → IVec S16 32) a x).toNat < S32768.size a := fun v1247 k0_hw201 => k0_hw201

def k0_chk202 (v1250 : IVec S16 32) : Prop :=
  (∀ a x, ((![v1250] : Fin 1 → IVec S16 32) a x).toNat < S32768.size a)
theorem k0_idx202_inb : ∀ (v1250 : IVec S16 32) (k0_hw202 : k0_chk202 v1250), ∀ a x, ((![v1250] : Fin 1 → IVec S16 32) a x).toNat < S32768.size a := fun v1250 k0_hw202 => k0_hw202

def k0_chk203 (v1257 : IVec S16 32) : Prop :=
  (∀ a x, ((![v1257] : Fin 1 → IVec S16 32) a x).toNat < S32768.size a)
theorem k0_idx203_inb : ∀ (v1257 : IVec S16 32) (k0_hw203 : k0_chk203 v1257), ∀ a x, ((![v1257] : Fin 1 → IVec S16 32) a x).toNat < S32768.size a := fun v1257 k0_hw203 => k0_hw203

def k0_chk204 (v1260 : IVec S16 32) : Prop :=
  (∀ a x, ((![v1260] : Fin 1 → IVec S16 32) a x).toNat < S32768.size a)
theorem k0_idx204_inb : ∀ (v1260 : IVec S16 32) (k0_hw204 : k0_chk204 v1260), ∀ a x, ((![v1260] : Fin 1 → IVec S16 32) a x).toNat < S32768.size a := fun v1260 k0_hw204 => k0_hw204

def k0_chk205 (v1267 : IVec S16 32) : Prop :=
  (∀ a x, ((![v1267] : Fin 1 → IVec S16 32) a x).toNat < S32768.size a)
theorem k0_idx205_inb : ∀ (v1267 : IVec S16 32) (k0_hw205 : k0_chk205 v1267), ∀ a x, ((![v1267] : Fin 1 → IVec S16 32) a x).toNat < S32768.size a := fun v1267 k0_hw205 => k0_hw205

def k0_chk206 (v1270 : IVec S16 32) : Prop :=
  (∀ a x, ((![v1270] : Fin 1 → IVec S16 32) a x).toNat < S32768.size a)
theorem k0_idx206_inb : ∀ (v1270 : IVec S16 32) (k0_hw206 : k0_chk206 v1270), ∀ a x, ((![v1270] : Fin 1 → IVec S16 32) a x).toNat < S32768.size a := fun v1270 k0_hw206 => k0_hw206

def k0_chk207 (v1277 : IVec S16 32) : Prop :=
  (∀ a x, ((![v1277] : Fin 1 → IVec S16 32) a x).toNat < S32768.size a)
theorem k0_idx207_inb : ∀ (v1277 : IVec S16 32) (k0_hw207 : k0_chk207 v1277), ∀ a x, ((![v1277] : Fin 1 → IVec S16 32) a x).toNat < S32768.size a := fun v1277 k0_hw207 => k0_hw207

def k0_chk208 (v1280 : IVec S16 32) : Prop :=
  (∀ a x, ((![v1280] : Fin 1 → IVec S16 32) a x).toNat < S32768.size a)
theorem k0_idx208_inb : ∀ (v1280 : IVec S16 32) (k0_hw208 : k0_chk208 v1280), ∀ a x, ((![v1280] : Fin 1 → IVec S16 32) a x).toNat < S32768.size a := fun v1280 k0_hw208 => k0_hw208
def k0_off44 (k0_t2 : Fin k0_t2_loop.trips) (c10400_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1286 : BitVec 32 := Scalar.addi c10400_i32 v65
  let v1287 : Index := Scalar.indexCast v1286
  ![v1287.toNat]

def k0_chk209 (v1293 : IVec S16 32) : Prop :=
  (∀ a x, ((![v1293] : Fin 1 → IVec S16 32) a x).toNat < S32768.size a)
theorem k0_idx209_inb : ∀ (v1293 : IVec S16 32) (k0_hw209 : k0_chk209 v1293), ∀ a x, ((![v1293] : Fin 1 → IVec S16 32) a x).toNat < S32768.size a := fun v1293 k0_hw209 => k0_hw209

def k0_chk210 (v1296 : IVec S16 32) : Prop :=
  (∀ a x, ((![v1296] : Fin 1 → IVec S16 32) a x).toNat < S32768.size a)
theorem k0_idx210_inb : ∀ (v1296 : IVec S16 32) (k0_hw210 : k0_chk210 v1296), ∀ a x, ((![v1296] : Fin 1 → IVec S16 32) a x).toNat < S32768.size a := fun v1296 k0_hw210 => k0_hw210

def k0_chk211 (v1303 : IVec S16 32) : Prop :=
  (∀ a x, ((![v1303] : Fin 1 → IVec S16 32) a x).toNat < S32768.size a)
theorem k0_idx211_inb : ∀ (v1303 : IVec S16 32) (k0_hw211 : k0_chk211 v1303), ∀ a x, ((![v1303] : Fin 1 → IVec S16 32) a x).toNat < S32768.size a := fun v1303 k0_hw211 => k0_hw211

def k0_chk212 (v1306 : IVec S16 32) : Prop :=
  (∀ a x, ((![v1306] : Fin 1 → IVec S16 32) a x).toNat < S32768.size a)
theorem k0_idx212_inb : ∀ (v1306 : IVec S16 32) (k0_hw212 : k0_chk212 v1306), ∀ a x, ((![v1306] : Fin 1 → IVec S16 32) a x).toNat < S32768.size a := fun v1306 k0_hw212 => k0_hw212

def k0_chk213 (v1313 : IVec S16 32) : Prop :=
  (∀ a x, ((![v1313] : Fin 1 → IVec S16 32) a x).toNat < S32768.size a)
theorem k0_idx213_inb : ∀ (v1313 : IVec S16 32) (k0_hw213 : k0_chk213 v1313), ∀ a x, ((![v1313] : Fin 1 → IVec S16 32) a x).toNat < S32768.size a := fun v1313 k0_hw213 => k0_hw213

def k0_chk214 (v1316 : IVec S16 32) : Prop :=
  (∀ a x, ((![v1316] : Fin 1 → IVec S16 32) a x).toNat < S32768.size a)
theorem k0_idx214_inb : ∀ (v1316 : IVec S16 32) (k0_hw214 : k0_chk214 v1316), ∀ a x, ((![v1316] : Fin 1 → IVec S16 32) a x).toNat < S32768.size a := fun v1316 k0_hw214 => k0_hw214

def k0_chk215 (v1323 : IVec S16 32) : Prop :=
  (∀ a x, ((![v1323] : Fin 1 → IVec S16 32) a x).toNat < S32768.size a)
theorem k0_idx215_inb : ∀ (v1323 : IVec S16 32) (k0_hw215 : k0_chk215 v1323), ∀ a x, ((![v1323] : Fin 1 → IVec S16 32) a x).toNat < S32768.size a := fun v1323 k0_hw215 => k0_hw215

def k0_chk216 (v1326 : IVec S16 32) : Prop :=
  (∀ a x, ((![v1326] : Fin 1 → IVec S16 32) a x).toNat < S32768.size a)
theorem k0_idx216_inb : ∀ (v1326 : IVec S16 32) (k0_hw216 : k0_chk216 v1326), ∀ a x, ((![v1326] : Fin 1 → IVec S16 32) a x).toNat < S32768.size a := fun v1326 k0_hw216 => k0_hw216
def k0_off45 (k0_t2 : Fin k0_t2_loop.trips) (c10800_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1332 : BitVec 32 := Scalar.addi c10800_i32 v65
  let v1333 : Index := Scalar.indexCast v1332
  ![v1333.toNat]

def k0_chk217 (v1339 : IVec S16 32) : Prop :=
  (∀ a x, ((![v1339] : Fin 1 → IVec S16 32) a x).toNat < S32768.size a)
theorem k0_idx217_inb : ∀ (v1339 : IVec S16 32) (k0_hw217 : k0_chk217 v1339), ∀ a x, ((![v1339] : Fin 1 → IVec S16 32) a x).toNat < S32768.size a := fun v1339 k0_hw217 => k0_hw217

def k0_chk218 (v1342 : IVec S16 32) : Prop :=
  (∀ a x, ((![v1342] : Fin 1 → IVec S16 32) a x).toNat < S32768.size a)
theorem k0_idx218_inb : ∀ (v1342 : IVec S16 32) (k0_hw218 : k0_chk218 v1342), ∀ a x, ((![v1342] : Fin 1 → IVec S16 32) a x).toNat < S32768.size a := fun v1342 k0_hw218 => k0_hw218

def k0_chk219 (v1349 : IVec S16 32) : Prop :=
  (∀ a x, ((![v1349] : Fin 1 → IVec S16 32) a x).toNat < S32768.size a)
theorem k0_idx219_inb : ∀ (v1349 : IVec S16 32) (k0_hw219 : k0_chk219 v1349), ∀ a x, ((![v1349] : Fin 1 → IVec S16 32) a x).toNat < S32768.size a := fun v1349 k0_hw219 => k0_hw219

def k0_chk220 (v1352 : IVec S16 32) : Prop :=
  (∀ a x, ((![v1352] : Fin 1 → IVec S16 32) a x).toNat < S32768.size a)
theorem k0_idx220_inb : ∀ (v1352 : IVec S16 32) (k0_hw220 : k0_chk220 v1352), ∀ a x, ((![v1352] : Fin 1 → IVec S16 32) a x).toNat < S32768.size a := fun v1352 k0_hw220 => k0_hw220

def k0_chk221 (v1359 : IVec S16 32) : Prop :=
  (∀ a x, ((![v1359] : Fin 1 → IVec S16 32) a x).toNat < S32768.size a)
theorem k0_idx221_inb : ∀ (v1359 : IVec S16 32) (k0_hw221 : k0_chk221 v1359), ∀ a x, ((![v1359] : Fin 1 → IVec S16 32) a x).toNat < S32768.size a := fun v1359 k0_hw221 => k0_hw221

def k0_chk222 (v1362 : IVec S16 32) : Prop :=
  (∀ a x, ((![v1362] : Fin 1 → IVec S16 32) a x).toNat < S32768.size a)
theorem k0_idx222_inb : ∀ (v1362 : IVec S16 32) (k0_hw222 : k0_chk222 v1362), ∀ a x, ((![v1362] : Fin 1 → IVec S16 32) a x).toNat < S32768.size a := fun v1362 k0_hw222 => k0_hw222

def k0_chk223 (v1369 : IVec S16 32) : Prop :=
  (∀ a x, ((![v1369] : Fin 1 → IVec S16 32) a x).toNat < S32768.size a)
theorem k0_idx223_inb : ∀ (v1369 : IVec S16 32) (k0_hw223 : k0_chk223 v1369), ∀ a x, ((![v1369] : Fin 1 → IVec S16 32) a x).toNat < S32768.size a := fun v1369 k0_hw223 => k0_hw223

def k0_chk224 (v1372 : IVec S16 32) : Prop :=
  (∀ a x, ((![v1372] : Fin 1 → IVec S16 32) a x).toNat < S32768.size a)
theorem k0_idx224_inb : ∀ (v1372 : IVec S16 32) (k0_hw224 : k0_chk224 v1372), ∀ a x, ((![v1372] : Fin 1 → IVec S16 32) a x).toNat < S32768.size a := fun v1372 k0_hw224 => k0_hw224
def k0_off46 (k0_t2 : Fin k0_t2_loop.trips) : Fin 1 → Nat :=
  let c1400_i32_251 : BitVec 32 := 1400#32
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1378 : BitVec 32 := Scalar.addi c1400_i32_251 v65
  let v1379 : Index := Scalar.indexCast v1378
  ![v1379.toNat]
def k0_off47 (k0_t2 : Fin k0_t2_loop.trips) (c11200_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1381 : BitVec 32 := Scalar.addi c11200_i32 v65
  let v1382 : Index := Scalar.indexCast v1381
  ![v1382.toNat]

def k0_chk225 (v1388 : IVec S16 32) : Prop :=
  (∀ a x, ((![v1388] : Fin 1 → IVec S16 32) a x).toNat < S32768.size a)
theorem k0_idx225_inb : ∀ (v1388 : IVec S16 32) (k0_hw225 : k0_chk225 v1388), ∀ a x, ((![v1388] : Fin 1 → IVec S16 32) a x).toNat < S32768.size a := fun v1388 k0_hw225 => k0_hw225

def k0_chk226 (v1391 : IVec S16 32) : Prop :=
  (∀ a x, ((![v1391] : Fin 1 → IVec S16 32) a x).toNat < S32768.size a)
theorem k0_idx226_inb : ∀ (v1391 : IVec S16 32) (k0_hw226 : k0_chk226 v1391), ∀ a x, ((![v1391] : Fin 1 → IVec S16 32) a x).toNat < S32768.size a := fun v1391 k0_hw226 => k0_hw226

def k0_chk227 (v1398 : IVec S16 32) : Prop :=
  (∀ a x, ((![v1398] : Fin 1 → IVec S16 32) a x).toNat < S32768.size a)
theorem k0_idx227_inb : ∀ (v1398 : IVec S16 32) (k0_hw227 : k0_chk227 v1398), ∀ a x, ((![v1398] : Fin 1 → IVec S16 32) a x).toNat < S32768.size a := fun v1398 k0_hw227 => k0_hw227

def k0_chk228 (v1401 : IVec S16 32) : Prop :=
  (∀ a x, ((![v1401] : Fin 1 → IVec S16 32) a x).toNat < S32768.size a)
theorem k0_idx228_inb : ∀ (v1401 : IVec S16 32) (k0_hw228 : k0_chk228 v1401), ∀ a x, ((![v1401] : Fin 1 → IVec S16 32) a x).toNat < S32768.size a := fun v1401 k0_hw228 => k0_hw228

def k0_chk229 (v1408 : IVec S16 32) : Prop :=
  (∀ a x, ((![v1408] : Fin 1 → IVec S16 32) a x).toNat < S32768.size a)
theorem k0_idx229_inb : ∀ (v1408 : IVec S16 32) (k0_hw229 : k0_chk229 v1408), ∀ a x, ((![v1408] : Fin 1 → IVec S16 32) a x).toNat < S32768.size a := fun v1408 k0_hw229 => k0_hw229

def k0_chk230 (v1411 : IVec S16 32) : Prop :=
  (∀ a x, ((![v1411] : Fin 1 → IVec S16 32) a x).toNat < S32768.size a)
theorem k0_idx230_inb : ∀ (v1411 : IVec S16 32) (k0_hw230 : k0_chk230 v1411), ∀ a x, ((![v1411] : Fin 1 → IVec S16 32) a x).toNat < S32768.size a := fun v1411 k0_hw230 => k0_hw230

def k0_chk231 (v1418 : IVec S16 32) : Prop :=
  (∀ a x, ((![v1418] : Fin 1 → IVec S16 32) a x).toNat < S32768.size a)
theorem k0_idx231_inb : ∀ (v1418 : IVec S16 32) (k0_hw231 : k0_chk231 v1418), ∀ a x, ((![v1418] : Fin 1 → IVec S16 32) a x).toNat < S32768.size a := fun v1418 k0_hw231 => k0_hw231

def k0_chk232 (v1421 : IVec S16 32) : Prop :=
  (∀ a x, ((![v1421] : Fin 1 → IVec S16 32) a x).toNat < S32768.size a)
theorem k0_idx232_inb : ∀ (v1421 : IVec S16 32) (k0_hw232 : k0_chk232 v1421), ∀ a x, ((![v1421] : Fin 1 → IVec S16 32) a x).toNat < S32768.size a := fun v1421 k0_hw232 => k0_hw232
def k0_off48 (k0_t2 : Fin k0_t2_loop.trips) (c11600_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1427 : BitVec 32 := Scalar.addi c11600_i32 v65
  let v1428 : Index := Scalar.indexCast v1427
  ![v1428.toNat]

def k0_chk233 (v1434 : IVec S16 32) : Prop :=
  (∀ a x, ((![v1434] : Fin 1 → IVec S16 32) a x).toNat < S32768.size a)
theorem k0_idx233_inb : ∀ (v1434 : IVec S16 32) (k0_hw233 : k0_chk233 v1434), ∀ a x, ((![v1434] : Fin 1 → IVec S16 32) a x).toNat < S32768.size a := fun v1434 k0_hw233 => k0_hw233

def k0_chk234 (v1437 : IVec S16 32) : Prop :=
  (∀ a x, ((![v1437] : Fin 1 → IVec S16 32) a x).toNat < S32768.size a)
theorem k0_idx234_inb : ∀ (v1437 : IVec S16 32) (k0_hw234 : k0_chk234 v1437), ∀ a x, ((![v1437] : Fin 1 → IVec S16 32) a x).toNat < S32768.size a := fun v1437 k0_hw234 => k0_hw234

def k0_chk235 (v1444 : IVec S16 32) : Prop :=
  (∀ a x, ((![v1444] : Fin 1 → IVec S16 32) a x).toNat < S32768.size a)
theorem k0_idx235_inb : ∀ (v1444 : IVec S16 32) (k0_hw235 : k0_chk235 v1444), ∀ a x, ((![v1444] : Fin 1 → IVec S16 32) a x).toNat < S32768.size a := fun v1444 k0_hw235 => k0_hw235

def k0_chk236 (v1447 : IVec S16 32) : Prop :=
  (∀ a x, ((![v1447] : Fin 1 → IVec S16 32) a x).toNat < S32768.size a)
theorem k0_idx236_inb : ∀ (v1447 : IVec S16 32) (k0_hw236 : k0_chk236 v1447), ∀ a x, ((![v1447] : Fin 1 → IVec S16 32) a x).toNat < S32768.size a := fun v1447 k0_hw236 => k0_hw236

def k0_chk237 (v1454 : IVec S16 32) : Prop :=
  (∀ a x, ((![v1454] : Fin 1 → IVec S16 32) a x).toNat < S32768.size a)
theorem k0_idx237_inb : ∀ (v1454 : IVec S16 32) (k0_hw237 : k0_chk237 v1454), ∀ a x, ((![v1454] : Fin 1 → IVec S16 32) a x).toNat < S32768.size a := fun v1454 k0_hw237 => k0_hw237

def k0_chk238 (v1457 : IVec S16 32) : Prop :=
  (∀ a x, ((![v1457] : Fin 1 → IVec S16 32) a x).toNat < S32768.size a)
theorem k0_idx238_inb : ∀ (v1457 : IVec S16 32) (k0_hw238 : k0_chk238 v1457), ∀ a x, ((![v1457] : Fin 1 → IVec S16 32) a x).toNat < S32768.size a := fun v1457 k0_hw238 => k0_hw238

def k0_chk239 (v1464 : IVec S16 32) : Prop :=
  (∀ a x, ((![v1464] : Fin 1 → IVec S16 32) a x).toNat < S32768.size a)
theorem k0_idx239_inb : ∀ (v1464 : IVec S16 32) (k0_hw239 : k0_chk239 v1464), ∀ a x, ((![v1464] : Fin 1 → IVec S16 32) a x).toNat < S32768.size a := fun v1464 k0_hw239 => k0_hw239

def k0_chk240 (v1467 : IVec S16 32) : Prop :=
  (∀ a x, ((![v1467] : Fin 1 → IVec S16 32) a x).toNat < S32768.size a)
theorem k0_idx240_inb : ∀ (v1467 : IVec S16 32) (k0_hw240 : k0_chk240 v1467), ∀ a x, ((![v1467] : Fin 1 → IVec S16 32) a x).toNat < S32768.size a := fun v1467 k0_hw240 => k0_hw240
def k0_off49 (k0_t2 : Fin k0_t2_loop.trips) (c12000_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1473 : BitVec 32 := Scalar.addi c12000_i32 v65
  let v1474 : Index := Scalar.indexCast v1473
  ![v1474.toNat]

def k0_chk241 (v1480 : IVec S16 32) : Prop :=
  (∀ a x, ((![v1480] : Fin 1 → IVec S16 32) a x).toNat < S32768.size a)
theorem k0_idx241_inb : ∀ (v1480 : IVec S16 32) (k0_hw241 : k0_chk241 v1480), ∀ a x, ((![v1480] : Fin 1 → IVec S16 32) a x).toNat < S32768.size a := fun v1480 k0_hw241 => k0_hw241

def k0_chk242 (v1483 : IVec S16 32) : Prop :=
  (∀ a x, ((![v1483] : Fin 1 → IVec S16 32) a x).toNat < S32768.size a)
theorem k0_idx242_inb : ∀ (v1483 : IVec S16 32) (k0_hw242 : k0_chk242 v1483), ∀ a x, ((![v1483] : Fin 1 → IVec S16 32) a x).toNat < S32768.size a := fun v1483 k0_hw242 => k0_hw242

def k0_chk243 (v1490 : IVec S16 32) : Prop :=
  (∀ a x, ((![v1490] : Fin 1 → IVec S16 32) a x).toNat < S32768.size a)
theorem k0_idx243_inb : ∀ (v1490 : IVec S16 32) (k0_hw243 : k0_chk243 v1490), ∀ a x, ((![v1490] : Fin 1 → IVec S16 32) a x).toNat < S32768.size a := fun v1490 k0_hw243 => k0_hw243

def k0_chk244 (v1493 : IVec S16 32) : Prop :=
  (∀ a x, ((![v1493] : Fin 1 → IVec S16 32) a x).toNat < S32768.size a)
theorem k0_idx244_inb : ∀ (v1493 : IVec S16 32) (k0_hw244 : k0_chk244 v1493), ∀ a x, ((![v1493] : Fin 1 → IVec S16 32) a x).toNat < S32768.size a := fun v1493 k0_hw244 => k0_hw244

def k0_chk245 (v1500 : IVec S16 32) : Prop :=
  (∀ a x, ((![v1500] : Fin 1 → IVec S16 32) a x).toNat < S32768.size a)
theorem k0_idx245_inb : ∀ (v1500 : IVec S16 32) (k0_hw245 : k0_chk245 v1500), ∀ a x, ((![v1500] : Fin 1 → IVec S16 32) a x).toNat < S32768.size a := fun v1500 k0_hw245 => k0_hw245

def k0_chk246 (v1503 : IVec S16 32) : Prop :=
  (∀ a x, ((![v1503] : Fin 1 → IVec S16 32) a x).toNat < S32768.size a)
theorem k0_idx246_inb : ∀ (v1503 : IVec S16 32) (k0_hw246 : k0_chk246 v1503), ∀ a x, ((![v1503] : Fin 1 → IVec S16 32) a x).toNat < S32768.size a := fun v1503 k0_hw246 => k0_hw246

def k0_chk247 (v1510 : IVec S16 32) : Prop :=
  (∀ a x, ((![v1510] : Fin 1 → IVec S16 32) a x).toNat < S32768.size a)
theorem k0_idx247_inb : ∀ (v1510 : IVec S16 32) (k0_hw247 : k0_chk247 v1510), ∀ a x, ((![v1510] : Fin 1 → IVec S16 32) a x).toNat < S32768.size a := fun v1510 k0_hw247 => k0_hw247

def k0_chk248 (v1513 : IVec S16 32) : Prop :=
  (∀ a x, ((![v1513] : Fin 1 → IVec S16 32) a x).toNat < S32768.size a)
theorem k0_idx248_inb : ∀ (v1513 : IVec S16 32) (k0_hw248 : k0_chk248 v1513), ∀ a x, ((![v1513] : Fin 1 → IVec S16 32) a x).toNat < S32768.size a := fun v1513 k0_hw248 => k0_hw248
def k0_off50 (k0_t2 : Fin k0_t2_loop.trips) (c12400_i32 : BitVec 32) : Fin 1 → Nat :=
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1519 : BitVec 32 := Scalar.addi c12400_i32 v65
  let v1520 : Index := Scalar.indexCast v1519
  ![v1520.toNat]

def k0_chk249 (v1526 : IVec S16 32) : Prop :=
  (∀ a x, ((![v1526] : Fin 1 → IVec S16 32) a x).toNat < S32768.size a)
theorem k0_idx249_inb : ∀ (v1526 : IVec S16 32) (k0_hw249 : k0_chk249 v1526), ∀ a x, ((![v1526] : Fin 1 → IVec S16 32) a x).toNat < S32768.size a := fun v1526 k0_hw249 => k0_hw249

def k0_chk250 (v1529 : IVec S16 32) : Prop :=
  (∀ a x, ((![v1529] : Fin 1 → IVec S16 32) a x).toNat < S32768.size a)
theorem k0_idx250_inb : ∀ (v1529 : IVec S16 32) (k0_hw250 : k0_chk250 v1529), ∀ a x, ((![v1529] : Fin 1 → IVec S16 32) a x).toNat < S32768.size a := fun v1529 k0_hw250 => k0_hw250

def k0_chk251 (v1536 : IVec S16 32) : Prop :=
  (∀ a x, ((![v1536] : Fin 1 → IVec S16 32) a x).toNat < S32768.size a)
theorem k0_idx251_inb : ∀ (v1536 : IVec S16 32) (k0_hw251 : k0_chk251 v1536), ∀ a x, ((![v1536] : Fin 1 → IVec S16 32) a x).toNat < S32768.size a := fun v1536 k0_hw251 => k0_hw251

def k0_chk252 (v1539 : IVec S16 32) : Prop :=
  (∀ a x, ((![v1539] : Fin 1 → IVec S16 32) a x).toNat < S32768.size a)
theorem k0_idx252_inb : ∀ (v1539 : IVec S16 32) (k0_hw252 : k0_chk252 v1539), ∀ a x, ((![v1539] : Fin 1 → IVec S16 32) a x).toNat < S32768.size a := fun v1539 k0_hw252 => k0_hw252

def k0_chk253 (v1546 : IVec S16 32) : Prop :=
  (∀ a x, ((![v1546] : Fin 1 → IVec S16 32) a x).toNat < S32768.size a)
theorem k0_idx253_inb : ∀ (v1546 : IVec S16 32) (k0_hw253 : k0_chk253 v1546), ∀ a x, ((![v1546] : Fin 1 → IVec S16 32) a x).toNat < S32768.size a := fun v1546 k0_hw253 => k0_hw253

def k0_chk254 (v1549 : IVec S16 32) : Prop :=
  (∀ a x, ((![v1549] : Fin 1 → IVec S16 32) a x).toNat < S32768.size a)
theorem k0_idx254_inb : ∀ (v1549 : IVec S16 32) (k0_hw254 : k0_chk254 v1549), ∀ a x, ((![v1549] : Fin 1 → IVec S16 32) a x).toNat < S32768.size a := fun v1549 k0_hw254 => k0_hw254

def k0_chk255 (v1556 : IVec S16 32) : Prop :=
  (∀ a x, ((![v1556] : Fin 1 → IVec S16 32) a x).toNat < S32768.size a)
theorem k0_idx255_inb : ∀ (v1556 : IVec S16 32) (k0_hw255 : k0_chk255 v1556), ∀ a x, ((![v1556] : Fin 1 → IVec S16 32) a x).toNat < S32768.size a := fun v1556 k0_hw255 => k0_hw255

def k0_chk256 (v1559 : IVec S16 32) : Prop :=
  (∀ a x, ((![v1559] : Fin 1 → IVec S16 32) a x).toNat < S32768.size a)
theorem k0_idx256_inb : ∀ (v1559 : IVec S16 32) (k0_hw256 : k0_chk256 v1559), ∀ a x, ((![v1559] : Fin 1 → IVec S16 32) a x).toNat < S32768.size a := fun v1559 k0_hw256 => k0_hw256
def k0_off51 (k0_t1 : Fin k0_t1_loop.trips) (k0_t2 : Fin k0_t2_loop.trips) : Fin 3 → Nat :=
  let c0_i32_286 : BitVec 32 := 0#32
  let v1571 : Index := Scalar.indexCast c0_i32_286
  let c2_i32_29 : BitVec 32 := 2#32
  let c0_i32_6 : BitVec 32 := 0#32
  let c1_i32 : BitVec 32 := 1#32
  let arg22 : BitVec 32 := Scf.iv c0_i32_6 c1_i32 k0_t1
  let v43 : BitVec 32 := Scalar.muli c2_i32_29 arg22
  let v1572 : Index := Scalar.indexCast v43
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1573 : Index := Scalar.indexCast v65
  ![0, v1572.toNat, v1573.toNat]
def k0_off52 (k0_t1 : Fin k0_t1_loop.trips) (k0_t2 : Fin k0_t2_loop.trips) : Fin 3 → Nat :=
  let c1_i32_289 : BitVec 32 := 1#32
  let v1581 : Index := Scalar.indexCast c1_i32_289
  let c2_i32_29 : BitVec 32 := 2#32
  let c0_i32_6 : BitVec 32 := 0#32
  let c1_i32 : BitVec 32 := 1#32
  let arg22 : BitVec 32 := Scf.iv c0_i32_6 c1_i32 k0_t1
  let v43 : BitVec 32 := Scalar.muli c2_i32_29 arg22
  let v1582 : Index := Scalar.indexCast v43
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1583 : Index := Scalar.indexCast v65
  ![1, v1582.toNat, v1583.toNat]
def k0_off53 (k0_t1 : Fin k0_t1_loop.trips) (k0_t2 : Fin k0_t2_loop.trips) : Fin 3 → Nat :=
  let c2_i32_292 : BitVec 32 := 2#32
  let v1591 : Index := Scalar.indexCast c2_i32_292
  let c2_i32_29 : BitVec 32 := 2#32
  let c0_i32_6 : BitVec 32 := 0#32
  let c1_i32 : BitVec 32 := 1#32
  let arg22 : BitVec 32 := Scf.iv c0_i32_6 c1_i32 k0_t1
  let v43 : BitVec 32 := Scalar.muli c2_i32_29 arg22
  let v1592 : Index := Scalar.indexCast v43
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1593 : Index := Scalar.indexCast v65
  ![2, v1592.toNat, v1593.toNat]
def k0_off54 (k0_t1 : Fin k0_t1_loop.trips) (k0_t2 : Fin k0_t2_loop.trips) : Fin 3 → Nat :=
  let c3_i32_295 : BitVec 32 := 3#32
  let v1601 : Index := Scalar.indexCast c3_i32_295
  let c2_i32_29 : BitVec 32 := 2#32
  let c0_i32_6 : BitVec 32 := 0#32
  let c1_i32 : BitVec 32 := 1#32
  let arg22 : BitVec 32 := Scf.iv c0_i32_6 c1_i32 k0_t1
  let v43 : BitVec 32 := Scalar.muli c2_i32_29 arg22
  let v1602 : Index := Scalar.indexCast v43
  let c0_i32_31 : BitVec 32 := 0#32
  let c1_i32_32 : BitVec 32 := 1#32
  let arg23 : BitVec 32 := Scf.iv c0_i32_31 c1_i32_32 k0_t2
  let c16_i32_49 : BitVec 32 := 16#32
  let v64 : BitVec 32 := Scalar.muli arg23 c16_i32_49
  let c184_i32 : BitVec 32 := 184#32
  let v65 : BitVec 32 := Scalar.minsi v64 c184_i32
  let v1603 : Index := Scalar.indexCast v65
  ![3, v1602.toNat, v1603.toNat]
def k0_cond1 (k0_t1 : Fin k0_t1_loop.trips) : BitVec 1 :=
  let c0_i32_6 : BitVec 32 := 0#32
  let c1_i32 : BitVec 32 := 1#32
  let arg22 : BitVec 32 := Scf.iv c0_i32_6 c1_i32 k0_t1
  let c15_i32 : BitVec 32 := 15#32
  let v45 : BitVec 1 := Scalar.cmpi .slt arg22 c15_i32
  let v46 : BitVec 32 := Scalar.extui v45
  let c0_i32_34 : BitVec 32 := 0#32
  let v47 : BitVec 1 := Scalar.cmpi .ne v46 c0_i32_34
  v47

def k0_off55 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_15 : BitVec 32 := 2#32
  let c0_i32_6 : BitVec 32 := 0#32
  let c1_i32 : BitVec 32 := 1#32
  let arg22 : BitVec 32 := Scf.iv c0_i32_6 c1_i32 k0_t1
  let v16 : BitVec 32 := Scalar.muli c2_i32_15 arg22
  let v17 : BitVec 32 := Scalar.addi v2 v16
  let c2_i32_49 : BitVec 32 := 2#32
  let v64 : BitVec 32 := Scalar.addi v17 c2_i32_49
  let c0_i32_50 : BitVec 32 := 0#32
  ![v64.toNat, 0]
def k0_off56 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_15 : BitVec 32 := 2#32
  let c0_i32_6 : BitVec 32 := 0#32
  let c1_i32 : BitVec 32 := 1#32
  let arg22 : BitVec 32 := Scf.iv c0_i32_6 c1_i32 k0_t1
  let v16 : BitVec 32 := Scalar.muli c2_i32_15 arg22
  let v17 : BitVec 32 := Scalar.addi v2 v16
  let c2_i32_49 : BitVec 32 := 2#32
  let v64 : BitVec 32 := Scalar.addi v17 c2_i32_49
  let c0_i32_52 : BitVec 32 := 0#32
  ![v64.toNat, 0]
def k0_off57 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_15 : BitVec 32 := 2#32
  let c0_i32_6 : BitVec 32 := 0#32
  let c1_i32 : BitVec 32 := 1#32
  let arg22 : BitVec 32 := Scf.iv c0_i32_6 c1_i32 k0_t1
  let v16 : BitVec 32 := Scalar.muli c2_i32_15 arg22
  let v17 : BitVec 32 := Scalar.addi v2 v16
  let c2_i32_49 : BitVec 32 := 2#32
  let v64 : BitVec 32 := Scalar.addi v17 c2_i32_49
  let c0_i32_54 : BitVec 32 := 0#32
  ![v64.toNat, 0]
@[reducible] def k0_t3_loop : Scf.Loop 32 :=
  let c0_i32_45 : BitVec 32 := 0#32
  let c13_i32_46 : BitVec 32 := 13#32
  let v63 : BitVec 32 := Scalar.addi c0_i32_45 c13_i32_46
  let c1_i32_47 : BitVec 32 := 1#32
  ⟨c0_i32_45, v63, c1_i32_47⟩
def k0_off58 (k0_t3 : Fin k0_t3_loop.trips) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v66 : Index := Scalar.indexCast v65
  ![v66.toNat]
def k0_off59 (k0_t3 : Fin k0_t3_loop.trips) : Fin 1 → Nat :=
  let c0_i32_50 : BitVec 32 := 0#32
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v69 : BitVec 32 := Scalar.addi c0_i32_50 v65
  let v70 : Index := Scalar.indexCast v69
  ![v70.toNat]
def k0_off60 (k0_t3 : Fin k0_t3_loop.trips) (c0_i32_51 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v72 : BitVec 32 := Scalar.addi c0_i32_51 v65
  let v73 : Index := Scalar.indexCast v72
  ![v73.toNat]

def k0_chk257 (v79 : IVec S16 32) : Prop :=
  (∀ a x, ((![v79] : Fin 1 → IVec S16 32) a x).toNat < S32768.size a)
theorem k0_idx257_inb : ∀ (v79 : IVec S16 32) (k0_hw257 : k0_chk257 v79), ∀ a x, ((![v79] : Fin 1 → IVec S16 32) a x).toNat < S32768.size a := fun v79 k0_hw257 => k0_hw257

def k0_chk258 (v82 : IVec S16 32) : Prop :=
  (∀ a x, ((![v82] : Fin 1 → IVec S16 32) a x).toNat < S32768.size a)
theorem k0_idx258_inb : ∀ (v82 : IVec S16 32) (k0_hw258 : k0_chk258 v82), ∀ a x, ((![v82] : Fin 1 → IVec S16 32) a x).toNat < S32768.size a := fun v82 k0_hw258 => k0_hw258

def k0_chk259 (v89 : IVec S16 32) : Prop :=
  (∀ a x, ((![v89] : Fin 1 → IVec S16 32) a x).toNat < S32768.size a)
theorem k0_idx259_inb : ∀ (v89 : IVec S16 32) (k0_hw259 : k0_chk259 v89), ∀ a x, ((![v89] : Fin 1 → IVec S16 32) a x).toNat < S32768.size a := fun v89 k0_hw259 => k0_hw259

def k0_chk260 (v92 : IVec S16 32) : Prop :=
  (∀ a x, ((![v92] : Fin 1 → IVec S16 32) a x).toNat < S32768.size a)
theorem k0_idx260_inb : ∀ (v92 : IVec S16 32) (k0_hw260 : k0_chk260 v92), ∀ a x, ((![v92] : Fin 1 → IVec S16 32) a x).toNat < S32768.size a := fun v92 k0_hw260 => k0_hw260

def k0_chk261 (v99 : IVec S16 32) : Prop :=
  (∀ a x, ((![v99] : Fin 1 → IVec S16 32) a x).toNat < S32768.size a)
theorem k0_idx261_inb : ∀ (v99 : IVec S16 32) (k0_hw261 : k0_chk261 v99), ∀ a x, ((![v99] : Fin 1 → IVec S16 32) a x).toNat < S32768.size a := fun v99 k0_hw261 => k0_hw261

def k0_chk262 (v102 : IVec S16 32) : Prop :=
  (∀ a x, ((![v102] : Fin 1 → IVec S16 32) a x).toNat < S32768.size a)
theorem k0_idx262_inb : ∀ (v102 : IVec S16 32) (k0_hw262 : k0_chk262 v102), ∀ a x, ((![v102] : Fin 1 → IVec S16 32) a x).toNat < S32768.size a := fun v102 k0_hw262 => k0_hw262

def k0_chk263 (v109 : IVec S16 32) : Prop :=
  (∀ a x, ((![v109] : Fin 1 → IVec S16 32) a x).toNat < S32768.size a)
theorem k0_idx263_inb : ∀ (v109 : IVec S16 32) (k0_hw263 : k0_chk263 v109), ∀ a x, ((![v109] : Fin 1 → IVec S16 32) a x).toNat < S32768.size a := fun v109 k0_hw263 => k0_hw263

def k0_chk264 (v112 : IVec S16 32) : Prop :=
  (∀ a x, ((![v112] : Fin 1 → IVec S16 32) a x).toNat < S32768.size a)
theorem k0_idx264_inb : ∀ (v112 : IVec S16 32) (k0_hw264 : k0_chk264 v112), ∀ a x, ((![v112] : Fin 1 → IVec S16 32) a x).toNat < S32768.size a := fun v112 k0_hw264 => k0_hw264
def k0_off61 (k0_t3 : Fin k0_t3_loop.trips) (c400_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v118 : BitVec 32 := Scalar.addi c400_i32 v65
  let v119 : Index := Scalar.indexCast v118
  ![v119.toNat]

def k0_chk265 (v125 : IVec S16 32) : Prop :=
  (∀ a x, ((![v125] : Fin 1 → IVec S16 32) a x).toNat < S32768.size a)
theorem k0_idx265_inb : ∀ (v125 : IVec S16 32) (k0_hw265 : k0_chk265 v125), ∀ a x, ((![v125] : Fin 1 → IVec S16 32) a x).toNat < S32768.size a := fun v125 k0_hw265 => k0_hw265

def k0_chk266 (v128 : IVec S16 32) : Prop :=
  (∀ a x, ((![v128] : Fin 1 → IVec S16 32) a x).toNat < S32768.size a)
theorem k0_idx266_inb : ∀ (v128 : IVec S16 32) (k0_hw266 : k0_chk266 v128), ∀ a x, ((![v128] : Fin 1 → IVec S16 32) a x).toNat < S32768.size a := fun v128 k0_hw266 => k0_hw266

def k0_chk267 (v135 : IVec S16 32) : Prop :=
  (∀ a x, ((![v135] : Fin 1 → IVec S16 32) a x).toNat < S32768.size a)
theorem k0_idx267_inb : ∀ (v135 : IVec S16 32) (k0_hw267 : k0_chk267 v135), ∀ a x, ((![v135] : Fin 1 → IVec S16 32) a x).toNat < S32768.size a := fun v135 k0_hw267 => k0_hw267

def k0_chk268 (v138 : IVec S16 32) : Prop :=
  (∀ a x, ((![v138] : Fin 1 → IVec S16 32) a x).toNat < S32768.size a)
theorem k0_idx268_inb : ∀ (v138 : IVec S16 32) (k0_hw268 : k0_chk268 v138), ∀ a x, ((![v138] : Fin 1 → IVec S16 32) a x).toNat < S32768.size a := fun v138 k0_hw268 => k0_hw268

def k0_chk269 (v145 : IVec S16 32) : Prop :=
  (∀ a x, ((![v145] : Fin 1 → IVec S16 32) a x).toNat < S32768.size a)
theorem k0_idx269_inb : ∀ (v145 : IVec S16 32) (k0_hw269 : k0_chk269 v145), ∀ a x, ((![v145] : Fin 1 → IVec S16 32) a x).toNat < S32768.size a := fun v145 k0_hw269 => k0_hw269

def k0_chk270 (v148 : IVec S16 32) : Prop :=
  (∀ a x, ((![v148] : Fin 1 → IVec S16 32) a x).toNat < S32768.size a)
theorem k0_idx270_inb : ∀ (v148 : IVec S16 32) (k0_hw270 : k0_chk270 v148), ∀ a x, ((![v148] : Fin 1 → IVec S16 32) a x).toNat < S32768.size a := fun v148 k0_hw270 => k0_hw270

def k0_chk271 (v155 : IVec S16 32) : Prop :=
  (∀ a x, ((![v155] : Fin 1 → IVec S16 32) a x).toNat < S32768.size a)
theorem k0_idx271_inb : ∀ (v155 : IVec S16 32) (k0_hw271 : k0_chk271 v155), ∀ a x, ((![v155] : Fin 1 → IVec S16 32) a x).toNat < S32768.size a := fun v155 k0_hw271 => k0_hw271

def k0_chk272 (v158 : IVec S16 32) : Prop :=
  (∀ a x, ((![v158] : Fin 1 → IVec S16 32) a x).toNat < S32768.size a)
theorem k0_idx272_inb : ∀ (v158 : IVec S16 32) (k0_hw272 : k0_chk272 v158), ∀ a x, ((![v158] : Fin 1 → IVec S16 32) a x).toNat < S32768.size a := fun v158 k0_hw272 => k0_hw272
def k0_off62 (k0_t3 : Fin k0_t3_loop.trips) (c800_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v164 : BitVec 32 := Scalar.addi c800_i32 v65
  let v165 : Index := Scalar.indexCast v164
  ![v165.toNat]

def k0_chk273 (v171 : IVec S16 32) : Prop :=
  (∀ a x, ((![v171] : Fin 1 → IVec S16 32) a x).toNat < S32768.size a)
theorem k0_idx273_inb : ∀ (v171 : IVec S16 32) (k0_hw273 : k0_chk273 v171), ∀ a x, ((![v171] : Fin 1 → IVec S16 32) a x).toNat < S32768.size a := fun v171 k0_hw273 => k0_hw273

def k0_chk274 (v174 : IVec S16 32) : Prop :=
  (∀ a x, ((![v174] : Fin 1 → IVec S16 32) a x).toNat < S32768.size a)
theorem k0_idx274_inb : ∀ (v174 : IVec S16 32) (k0_hw274 : k0_chk274 v174), ∀ a x, ((![v174] : Fin 1 → IVec S16 32) a x).toNat < S32768.size a := fun v174 k0_hw274 => k0_hw274

def k0_chk275 (v181 : IVec S16 32) : Prop :=
  (∀ a x, ((![v181] : Fin 1 → IVec S16 32) a x).toNat < S32768.size a)
theorem k0_idx275_inb : ∀ (v181 : IVec S16 32) (k0_hw275 : k0_chk275 v181), ∀ a x, ((![v181] : Fin 1 → IVec S16 32) a x).toNat < S32768.size a := fun v181 k0_hw275 => k0_hw275

def k0_chk276 (v184 : IVec S16 32) : Prop :=
  (∀ a x, ((![v184] : Fin 1 → IVec S16 32) a x).toNat < S32768.size a)
theorem k0_idx276_inb : ∀ (v184 : IVec S16 32) (k0_hw276 : k0_chk276 v184), ∀ a x, ((![v184] : Fin 1 → IVec S16 32) a x).toNat < S32768.size a := fun v184 k0_hw276 => k0_hw276

def k0_chk277 (v191 : IVec S16 32) : Prop :=
  (∀ a x, ((![v191] : Fin 1 → IVec S16 32) a x).toNat < S32768.size a)
theorem k0_idx277_inb : ∀ (v191 : IVec S16 32) (k0_hw277 : k0_chk277 v191), ∀ a x, ((![v191] : Fin 1 → IVec S16 32) a x).toNat < S32768.size a := fun v191 k0_hw277 => k0_hw277

def k0_chk278 (v194 : IVec S16 32) : Prop :=
  (∀ a x, ((![v194] : Fin 1 → IVec S16 32) a x).toNat < S32768.size a)
theorem k0_idx278_inb : ∀ (v194 : IVec S16 32) (k0_hw278 : k0_chk278 v194), ∀ a x, ((![v194] : Fin 1 → IVec S16 32) a x).toNat < S32768.size a := fun v194 k0_hw278 => k0_hw278

def k0_chk279 (v201 : IVec S16 32) : Prop :=
  (∀ a x, ((![v201] : Fin 1 → IVec S16 32) a x).toNat < S32768.size a)
theorem k0_idx279_inb : ∀ (v201 : IVec S16 32) (k0_hw279 : k0_chk279 v201), ∀ a x, ((![v201] : Fin 1 → IVec S16 32) a x).toNat < S32768.size a := fun v201 k0_hw279 => k0_hw279

def k0_chk280 (v204 : IVec S16 32) : Prop :=
  (∀ a x, ((![v204] : Fin 1 → IVec S16 32) a x).toNat < S32768.size a)
theorem k0_idx280_inb : ∀ (v204 : IVec S16 32) (k0_hw280 : k0_chk280 v204), ∀ a x, ((![v204] : Fin 1 → IVec S16 32) a x).toNat < S32768.size a := fun v204 k0_hw280 => k0_hw280
def k0_off63 (k0_t3 : Fin k0_t3_loop.trips) (c1200_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v210 : BitVec 32 := Scalar.addi c1200_i32 v65
  let v211 : Index := Scalar.indexCast v210
  ![v211.toNat]

def k0_chk281 (v217 : IVec S16 32) : Prop :=
  (∀ a x, ((![v217] : Fin 1 → IVec S16 32) a x).toNat < S32768.size a)
theorem k0_idx281_inb : ∀ (v217 : IVec S16 32) (k0_hw281 : k0_chk281 v217), ∀ a x, ((![v217] : Fin 1 → IVec S16 32) a x).toNat < S32768.size a := fun v217 k0_hw281 => k0_hw281

def k0_chk282 (v220 : IVec S16 32) : Prop :=
  (∀ a x, ((![v220] : Fin 1 → IVec S16 32) a x).toNat < S32768.size a)
theorem k0_idx282_inb : ∀ (v220 : IVec S16 32) (k0_hw282 : k0_chk282 v220), ∀ a x, ((![v220] : Fin 1 → IVec S16 32) a x).toNat < S32768.size a := fun v220 k0_hw282 => k0_hw282

def k0_chk283 (v227 : IVec S16 32) : Prop :=
  (∀ a x, ((![v227] : Fin 1 → IVec S16 32) a x).toNat < S32768.size a)
theorem k0_idx283_inb : ∀ (v227 : IVec S16 32) (k0_hw283 : k0_chk283 v227), ∀ a x, ((![v227] : Fin 1 → IVec S16 32) a x).toNat < S32768.size a := fun v227 k0_hw283 => k0_hw283

def k0_chk284 (v230 : IVec S16 32) : Prop :=
  (∀ a x, ((![v230] : Fin 1 → IVec S16 32) a x).toNat < S32768.size a)
theorem k0_idx284_inb : ∀ (v230 : IVec S16 32) (k0_hw284 : k0_chk284 v230), ∀ a x, ((![v230] : Fin 1 → IVec S16 32) a x).toNat < S32768.size a := fun v230 k0_hw284 => k0_hw284

def k0_chk285 (v237 : IVec S16 32) : Prop :=
  (∀ a x, ((![v237] : Fin 1 → IVec S16 32) a x).toNat < S32768.size a)
theorem k0_idx285_inb : ∀ (v237 : IVec S16 32) (k0_hw285 : k0_chk285 v237), ∀ a x, ((![v237] : Fin 1 → IVec S16 32) a x).toNat < S32768.size a := fun v237 k0_hw285 => k0_hw285

def k0_chk286 (v240 : IVec S16 32) : Prop :=
  (∀ a x, ((![v240] : Fin 1 → IVec S16 32) a x).toNat < S32768.size a)
theorem k0_idx286_inb : ∀ (v240 : IVec S16 32) (k0_hw286 : k0_chk286 v240), ∀ a x, ((![v240] : Fin 1 → IVec S16 32) a x).toNat < S32768.size a := fun v240 k0_hw286 => k0_hw286

def k0_chk287 (v247 : IVec S16 32) : Prop :=
  (∀ a x, ((![v247] : Fin 1 → IVec S16 32) a x).toNat < S32768.size a)
theorem k0_idx287_inb : ∀ (v247 : IVec S16 32) (k0_hw287 : k0_chk287 v247), ∀ a x, ((![v247] : Fin 1 → IVec S16 32) a x).toNat < S32768.size a := fun v247 k0_hw287 => k0_hw287

def k0_chk288 (v250 : IVec S16 32) : Prop :=
  (∀ a x, ((![v250] : Fin 1 → IVec S16 32) a x).toNat < S32768.size a)
theorem k0_idx288_inb : ∀ (v250 : IVec S16 32) (k0_hw288 : k0_chk288 v250), ∀ a x, ((![v250] : Fin 1 → IVec S16 32) a x).toNat < S32768.size a := fun v250 k0_hw288 => k0_hw288
def k0_off64 (k0_t3 : Fin k0_t3_loop.trips) : Fin 1 → Nat :=
  let c200_i32_53 : BitVec 32 := 200#32
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v256 : BitVec 32 := Scalar.addi c200_i32_53 v65
  let v257 : Index := Scalar.indexCast v256
  ![v257.toNat]
def k0_off65 (k0_t3 : Fin k0_t3_loop.trips) (c1600_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v259 : BitVec 32 := Scalar.addi c1600_i32 v65
  let v260 : Index := Scalar.indexCast v259
  ![v260.toNat]

def k0_chk289 (v266 : IVec S16 32) : Prop :=
  (∀ a x, ((![v266] : Fin 1 → IVec S16 32) a x).toNat < S32768.size a)
theorem k0_idx289_inb : ∀ (v266 : IVec S16 32) (k0_hw289 : k0_chk289 v266), ∀ a x, ((![v266] : Fin 1 → IVec S16 32) a x).toNat < S32768.size a := fun v266 k0_hw289 => k0_hw289

def k0_chk290 (v269 : IVec S16 32) : Prop :=
  (∀ a x, ((![v269] : Fin 1 → IVec S16 32) a x).toNat < S32768.size a)
theorem k0_idx290_inb : ∀ (v269 : IVec S16 32) (k0_hw290 : k0_chk290 v269), ∀ a x, ((![v269] : Fin 1 → IVec S16 32) a x).toNat < S32768.size a := fun v269 k0_hw290 => k0_hw290

def k0_chk291 (v276 : IVec S16 32) : Prop :=
  (∀ a x, ((![v276] : Fin 1 → IVec S16 32) a x).toNat < S32768.size a)
theorem k0_idx291_inb : ∀ (v276 : IVec S16 32) (k0_hw291 : k0_chk291 v276), ∀ a x, ((![v276] : Fin 1 → IVec S16 32) a x).toNat < S32768.size a := fun v276 k0_hw291 => k0_hw291

def k0_chk292 (v279 : IVec S16 32) : Prop :=
  (∀ a x, ((![v279] : Fin 1 → IVec S16 32) a x).toNat < S32768.size a)
theorem k0_idx292_inb : ∀ (v279 : IVec S16 32) (k0_hw292 : k0_chk292 v279), ∀ a x, ((![v279] : Fin 1 → IVec S16 32) a x).toNat < S32768.size a := fun v279 k0_hw292 => k0_hw292

def k0_chk293 (v286 : IVec S16 32) : Prop :=
  (∀ a x, ((![v286] : Fin 1 → IVec S16 32) a x).toNat < S32768.size a)
theorem k0_idx293_inb : ∀ (v286 : IVec S16 32) (k0_hw293 : k0_chk293 v286), ∀ a x, ((![v286] : Fin 1 → IVec S16 32) a x).toNat < S32768.size a := fun v286 k0_hw293 => k0_hw293

def k0_chk294 (v289 : IVec S16 32) : Prop :=
  (∀ a x, ((![v289] : Fin 1 → IVec S16 32) a x).toNat < S32768.size a)
theorem k0_idx294_inb : ∀ (v289 : IVec S16 32) (k0_hw294 : k0_chk294 v289), ∀ a x, ((![v289] : Fin 1 → IVec S16 32) a x).toNat < S32768.size a := fun v289 k0_hw294 => k0_hw294

def k0_chk295 (v296 : IVec S16 32) : Prop :=
  (∀ a x, ((![v296] : Fin 1 → IVec S16 32) a x).toNat < S32768.size a)
theorem k0_idx295_inb : ∀ (v296 : IVec S16 32) (k0_hw295 : k0_chk295 v296), ∀ a x, ((![v296] : Fin 1 → IVec S16 32) a x).toNat < S32768.size a := fun v296 k0_hw295 => k0_hw295

def k0_chk296 (v299 : IVec S16 32) : Prop :=
  (∀ a x, ((![v299] : Fin 1 → IVec S16 32) a x).toNat < S32768.size a)
theorem k0_idx296_inb : ∀ (v299 : IVec S16 32) (k0_hw296 : k0_chk296 v299), ∀ a x, ((![v299] : Fin 1 → IVec S16 32) a x).toNat < S32768.size a := fun v299 k0_hw296 => k0_hw296
def k0_off66 (k0_t3 : Fin k0_t3_loop.trips) (c2000_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v305 : BitVec 32 := Scalar.addi c2000_i32 v65
  let v306 : Index := Scalar.indexCast v305
  ![v306.toNat]

def k0_chk297 (v312 : IVec S16 32) : Prop :=
  (∀ a x, ((![v312] : Fin 1 → IVec S16 32) a x).toNat < S32768.size a)
theorem k0_idx297_inb : ∀ (v312 : IVec S16 32) (k0_hw297 : k0_chk297 v312), ∀ a x, ((![v312] : Fin 1 → IVec S16 32) a x).toNat < S32768.size a := fun v312 k0_hw297 => k0_hw297

def k0_chk298 (v315 : IVec S16 32) : Prop :=
  (∀ a x, ((![v315] : Fin 1 → IVec S16 32) a x).toNat < S32768.size a)
theorem k0_idx298_inb : ∀ (v315 : IVec S16 32) (k0_hw298 : k0_chk298 v315), ∀ a x, ((![v315] : Fin 1 → IVec S16 32) a x).toNat < S32768.size a := fun v315 k0_hw298 => k0_hw298

def k0_chk299 (v322 : IVec S16 32) : Prop :=
  (∀ a x, ((![v322] : Fin 1 → IVec S16 32) a x).toNat < S32768.size a)
theorem k0_idx299_inb : ∀ (v322 : IVec S16 32) (k0_hw299 : k0_chk299 v322), ∀ a x, ((![v322] : Fin 1 → IVec S16 32) a x).toNat < S32768.size a := fun v322 k0_hw299 => k0_hw299

def k0_chk300 (v325 : IVec S16 32) : Prop :=
  (∀ a x, ((![v325] : Fin 1 → IVec S16 32) a x).toNat < S32768.size a)
theorem k0_idx300_inb : ∀ (v325 : IVec S16 32) (k0_hw300 : k0_chk300 v325), ∀ a x, ((![v325] : Fin 1 → IVec S16 32) a x).toNat < S32768.size a := fun v325 k0_hw300 => k0_hw300

def k0_chk301 (v332 : IVec S16 32) : Prop :=
  (∀ a x, ((![v332] : Fin 1 → IVec S16 32) a x).toNat < S32768.size a)
theorem k0_idx301_inb : ∀ (v332 : IVec S16 32) (k0_hw301 : k0_chk301 v332), ∀ a x, ((![v332] : Fin 1 → IVec S16 32) a x).toNat < S32768.size a := fun v332 k0_hw301 => k0_hw301

def k0_chk302 (v335 : IVec S16 32) : Prop :=
  (∀ a x, ((![v335] : Fin 1 → IVec S16 32) a x).toNat < S32768.size a)
theorem k0_idx302_inb : ∀ (v335 : IVec S16 32) (k0_hw302 : k0_chk302 v335), ∀ a x, ((![v335] : Fin 1 → IVec S16 32) a x).toNat < S32768.size a := fun v335 k0_hw302 => k0_hw302

def k0_chk303 (v342 : IVec S16 32) : Prop :=
  (∀ a x, ((![v342] : Fin 1 → IVec S16 32) a x).toNat < S32768.size a)
theorem k0_idx303_inb : ∀ (v342 : IVec S16 32) (k0_hw303 : k0_chk303 v342), ∀ a x, ((![v342] : Fin 1 → IVec S16 32) a x).toNat < S32768.size a := fun v342 k0_hw303 => k0_hw303

def k0_chk304 (v345 : IVec S16 32) : Prop :=
  (∀ a x, ((![v345] : Fin 1 → IVec S16 32) a x).toNat < S32768.size a)
theorem k0_idx304_inb : ∀ (v345 : IVec S16 32) (k0_hw304 : k0_chk304 v345), ∀ a x, ((![v345] : Fin 1 → IVec S16 32) a x).toNat < S32768.size a := fun v345 k0_hw304 => k0_hw304
def k0_off67 (k0_t3 : Fin k0_t3_loop.trips) (c2400_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v351 : BitVec 32 := Scalar.addi c2400_i32 v65
  let v352 : Index := Scalar.indexCast v351
  ![v352.toNat]

def k0_chk305 (v358 : IVec S16 32) : Prop :=
  (∀ a x, ((![v358] : Fin 1 → IVec S16 32) a x).toNat < S32768.size a)
theorem k0_idx305_inb : ∀ (v358 : IVec S16 32) (k0_hw305 : k0_chk305 v358), ∀ a x, ((![v358] : Fin 1 → IVec S16 32) a x).toNat < S32768.size a := fun v358 k0_hw305 => k0_hw305

def k0_chk306 (v361 : IVec S16 32) : Prop :=
  (∀ a x, ((![v361] : Fin 1 → IVec S16 32) a x).toNat < S32768.size a)
theorem k0_idx306_inb : ∀ (v361 : IVec S16 32) (k0_hw306 : k0_chk306 v361), ∀ a x, ((![v361] : Fin 1 → IVec S16 32) a x).toNat < S32768.size a := fun v361 k0_hw306 => k0_hw306

def k0_chk307 (v368 : IVec S16 32) : Prop :=
  (∀ a x, ((![v368] : Fin 1 → IVec S16 32) a x).toNat < S32768.size a)
theorem k0_idx307_inb : ∀ (v368 : IVec S16 32) (k0_hw307 : k0_chk307 v368), ∀ a x, ((![v368] : Fin 1 → IVec S16 32) a x).toNat < S32768.size a := fun v368 k0_hw307 => k0_hw307

def k0_chk308 (v371 : IVec S16 32) : Prop :=
  (∀ a x, ((![v371] : Fin 1 → IVec S16 32) a x).toNat < S32768.size a)
theorem k0_idx308_inb : ∀ (v371 : IVec S16 32) (k0_hw308 : k0_chk308 v371), ∀ a x, ((![v371] : Fin 1 → IVec S16 32) a x).toNat < S32768.size a := fun v371 k0_hw308 => k0_hw308

def k0_chk309 (v378 : IVec S16 32) : Prop :=
  (∀ a x, ((![v378] : Fin 1 → IVec S16 32) a x).toNat < S32768.size a)
theorem k0_idx309_inb : ∀ (v378 : IVec S16 32) (k0_hw309 : k0_chk309 v378), ∀ a x, ((![v378] : Fin 1 → IVec S16 32) a x).toNat < S32768.size a := fun v378 k0_hw309 => k0_hw309

def k0_chk310 (v381 : IVec S16 32) : Prop :=
  (∀ a x, ((![v381] : Fin 1 → IVec S16 32) a x).toNat < S32768.size a)
theorem k0_idx310_inb : ∀ (v381 : IVec S16 32) (k0_hw310 : k0_chk310 v381), ∀ a x, ((![v381] : Fin 1 → IVec S16 32) a x).toNat < S32768.size a := fun v381 k0_hw310 => k0_hw310

def k0_chk311 (v388 : IVec S16 32) : Prop :=
  (∀ a x, ((![v388] : Fin 1 → IVec S16 32) a x).toNat < S32768.size a)
theorem k0_idx311_inb : ∀ (v388 : IVec S16 32) (k0_hw311 : k0_chk311 v388), ∀ a x, ((![v388] : Fin 1 → IVec S16 32) a x).toNat < S32768.size a := fun v388 k0_hw311 => k0_hw311

def k0_chk312 (v391 : IVec S16 32) : Prop :=
  (∀ a x, ((![v391] : Fin 1 → IVec S16 32) a x).toNat < S32768.size a)
theorem k0_idx312_inb : ∀ (v391 : IVec S16 32) (k0_hw312 : k0_chk312 v391), ∀ a x, ((![v391] : Fin 1 → IVec S16 32) a x).toNat < S32768.size a := fun v391 k0_hw312 => k0_hw312
def k0_off68 (k0_t3 : Fin k0_t3_loop.trips) (c2800_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v397 : BitVec 32 := Scalar.addi c2800_i32 v65
  let v398 : Index := Scalar.indexCast v397
  ![v398.toNat]

def k0_chk313 (v404 : IVec S16 32) : Prop :=
  (∀ a x, ((![v404] : Fin 1 → IVec S16 32) a x).toNat < S32768.size a)
theorem k0_idx313_inb : ∀ (v404 : IVec S16 32) (k0_hw313 : k0_chk313 v404), ∀ a x, ((![v404] : Fin 1 → IVec S16 32) a x).toNat < S32768.size a := fun v404 k0_hw313 => k0_hw313

def k0_chk314 (v407 : IVec S16 32) : Prop :=
  (∀ a x, ((![v407] : Fin 1 → IVec S16 32) a x).toNat < S32768.size a)
theorem k0_idx314_inb : ∀ (v407 : IVec S16 32) (k0_hw314 : k0_chk314 v407), ∀ a x, ((![v407] : Fin 1 → IVec S16 32) a x).toNat < S32768.size a := fun v407 k0_hw314 => k0_hw314

def k0_chk315 (v414 : IVec S16 32) : Prop :=
  (∀ a x, ((![v414] : Fin 1 → IVec S16 32) a x).toNat < S32768.size a)
theorem k0_idx315_inb : ∀ (v414 : IVec S16 32) (k0_hw315 : k0_chk315 v414), ∀ a x, ((![v414] : Fin 1 → IVec S16 32) a x).toNat < S32768.size a := fun v414 k0_hw315 => k0_hw315

def k0_chk316 (v417 : IVec S16 32) : Prop :=
  (∀ a x, ((![v417] : Fin 1 → IVec S16 32) a x).toNat < S32768.size a)
theorem k0_idx316_inb : ∀ (v417 : IVec S16 32) (k0_hw316 : k0_chk316 v417), ∀ a x, ((![v417] : Fin 1 → IVec S16 32) a x).toNat < S32768.size a := fun v417 k0_hw316 => k0_hw316

def k0_chk317 (v424 : IVec S16 32) : Prop :=
  (∀ a x, ((![v424] : Fin 1 → IVec S16 32) a x).toNat < S32768.size a)
theorem k0_idx317_inb : ∀ (v424 : IVec S16 32) (k0_hw317 : k0_chk317 v424), ∀ a x, ((![v424] : Fin 1 → IVec S16 32) a x).toNat < S32768.size a := fun v424 k0_hw317 => k0_hw317

def k0_chk318 (v427 : IVec S16 32) : Prop :=
  (∀ a x, ((![v427] : Fin 1 → IVec S16 32) a x).toNat < S32768.size a)
theorem k0_idx318_inb : ∀ (v427 : IVec S16 32) (k0_hw318 : k0_chk318 v427), ∀ a x, ((![v427] : Fin 1 → IVec S16 32) a x).toNat < S32768.size a := fun v427 k0_hw318 => k0_hw318

def k0_chk319 (v434 : IVec S16 32) : Prop :=
  (∀ a x, ((![v434] : Fin 1 → IVec S16 32) a x).toNat < S32768.size a)
theorem k0_idx319_inb : ∀ (v434 : IVec S16 32) (k0_hw319 : k0_chk319 v434), ∀ a x, ((![v434] : Fin 1 → IVec S16 32) a x).toNat < S32768.size a := fun v434 k0_hw319 => k0_hw319

def k0_chk320 (v437 : IVec S16 32) : Prop :=
  (∀ a x, ((![v437] : Fin 1 → IVec S16 32) a x).toNat < S32768.size a)
theorem k0_idx320_inb : ∀ (v437 : IVec S16 32) (k0_hw320 : k0_chk320 v437), ∀ a x, ((![v437] : Fin 1 → IVec S16 32) a x).toNat < S32768.size a := fun v437 k0_hw320 => k0_hw320
def k0_off69 (k0_t3 : Fin k0_t3_loop.trips) : Fin 1 → Nat :=
  let c400_i32_86 : BitVec 32 := 400#32
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v443 : BitVec 32 := Scalar.addi c400_i32_86 v65
  let v444 : Index := Scalar.indexCast v443
  ![v444.toNat]
def k0_off70 (k0_t3 : Fin k0_t3_loop.trips) (c3200_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v446 : BitVec 32 := Scalar.addi c3200_i32 v65
  let v447 : Index := Scalar.indexCast v446
  ![v447.toNat]

def k0_chk321 (v453 : IVec S16 32) : Prop :=
  (∀ a x, ((![v453] : Fin 1 → IVec S16 32) a x).toNat < S32768.size a)
theorem k0_idx321_inb : ∀ (v453 : IVec S16 32) (k0_hw321 : k0_chk321 v453), ∀ a x, ((![v453] : Fin 1 → IVec S16 32) a x).toNat < S32768.size a := fun v453 k0_hw321 => k0_hw321

def k0_chk322 (v456 : IVec S16 32) : Prop :=
  (∀ a x, ((![v456] : Fin 1 → IVec S16 32) a x).toNat < S32768.size a)
theorem k0_idx322_inb : ∀ (v456 : IVec S16 32) (k0_hw322 : k0_chk322 v456), ∀ a x, ((![v456] : Fin 1 → IVec S16 32) a x).toNat < S32768.size a := fun v456 k0_hw322 => k0_hw322

def k0_chk323 (v463 : IVec S16 32) : Prop :=
  (∀ a x, ((![v463] : Fin 1 → IVec S16 32) a x).toNat < S32768.size a)
theorem k0_idx323_inb : ∀ (v463 : IVec S16 32) (k0_hw323 : k0_chk323 v463), ∀ a x, ((![v463] : Fin 1 → IVec S16 32) a x).toNat < S32768.size a := fun v463 k0_hw323 => k0_hw323

def k0_chk324 (v466 : IVec S16 32) : Prop :=
  (∀ a x, ((![v466] : Fin 1 → IVec S16 32) a x).toNat < S32768.size a)
theorem k0_idx324_inb : ∀ (v466 : IVec S16 32) (k0_hw324 : k0_chk324 v466), ∀ a x, ((![v466] : Fin 1 → IVec S16 32) a x).toNat < S32768.size a := fun v466 k0_hw324 => k0_hw324

def k0_chk325 (v473 : IVec S16 32) : Prop :=
  (∀ a x, ((![v473] : Fin 1 → IVec S16 32) a x).toNat < S32768.size a)
theorem k0_idx325_inb : ∀ (v473 : IVec S16 32) (k0_hw325 : k0_chk325 v473), ∀ a x, ((![v473] : Fin 1 → IVec S16 32) a x).toNat < S32768.size a := fun v473 k0_hw325 => k0_hw325

def k0_chk326 (v476 : IVec S16 32) : Prop :=
  (∀ a x, ((![v476] : Fin 1 → IVec S16 32) a x).toNat < S32768.size a)
theorem k0_idx326_inb : ∀ (v476 : IVec S16 32) (k0_hw326 : k0_chk326 v476), ∀ a x, ((![v476] : Fin 1 → IVec S16 32) a x).toNat < S32768.size a := fun v476 k0_hw326 => k0_hw326

def k0_chk327 (v483 : IVec S16 32) : Prop :=
  (∀ a x, ((![v483] : Fin 1 → IVec S16 32) a x).toNat < S32768.size a)
theorem k0_idx327_inb : ∀ (v483 : IVec S16 32) (k0_hw327 : k0_chk327 v483), ∀ a x, ((![v483] : Fin 1 → IVec S16 32) a x).toNat < S32768.size a := fun v483 k0_hw327 => k0_hw327

def k0_chk328 (v486 : IVec S16 32) : Prop :=
  (∀ a x, ((![v486] : Fin 1 → IVec S16 32) a x).toNat < S32768.size a)
theorem k0_idx328_inb : ∀ (v486 : IVec S16 32) (k0_hw328 : k0_chk328 v486), ∀ a x, ((![v486] : Fin 1 → IVec S16 32) a x).toNat < S32768.size a := fun v486 k0_hw328 => k0_hw328
def k0_off71 (k0_t3 : Fin k0_t3_loop.trips) (c3600_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v492 : BitVec 32 := Scalar.addi c3600_i32 v65
  let v493 : Index := Scalar.indexCast v492
  ![v493.toNat]

def k0_chk329 (v499 : IVec S16 32) : Prop :=
  (∀ a x, ((![v499] : Fin 1 → IVec S16 32) a x).toNat < S32768.size a)
theorem k0_idx329_inb : ∀ (v499 : IVec S16 32) (k0_hw329 : k0_chk329 v499), ∀ a x, ((![v499] : Fin 1 → IVec S16 32) a x).toNat < S32768.size a := fun v499 k0_hw329 => k0_hw329

def k0_chk330 (v502 : IVec S16 32) : Prop :=
  (∀ a x, ((![v502] : Fin 1 → IVec S16 32) a x).toNat < S32768.size a)
theorem k0_idx330_inb : ∀ (v502 : IVec S16 32) (k0_hw330 : k0_chk330 v502), ∀ a x, ((![v502] : Fin 1 → IVec S16 32) a x).toNat < S32768.size a := fun v502 k0_hw330 => k0_hw330

def k0_chk331 (v509 : IVec S16 32) : Prop :=
  (∀ a x, ((![v509] : Fin 1 → IVec S16 32) a x).toNat < S32768.size a)
theorem k0_idx331_inb : ∀ (v509 : IVec S16 32) (k0_hw331 : k0_chk331 v509), ∀ a x, ((![v509] : Fin 1 → IVec S16 32) a x).toNat < S32768.size a := fun v509 k0_hw331 => k0_hw331

def k0_chk332 (v512 : IVec S16 32) : Prop :=
  (∀ a x, ((![v512] : Fin 1 → IVec S16 32) a x).toNat < S32768.size a)
theorem k0_idx332_inb : ∀ (v512 : IVec S16 32) (k0_hw332 : k0_chk332 v512), ∀ a x, ((![v512] : Fin 1 → IVec S16 32) a x).toNat < S32768.size a := fun v512 k0_hw332 => k0_hw332

def k0_chk333 (v519 : IVec S16 32) : Prop :=
  (∀ a x, ((![v519] : Fin 1 → IVec S16 32) a x).toNat < S32768.size a)
theorem k0_idx333_inb : ∀ (v519 : IVec S16 32) (k0_hw333 : k0_chk333 v519), ∀ a x, ((![v519] : Fin 1 → IVec S16 32) a x).toNat < S32768.size a := fun v519 k0_hw333 => k0_hw333

def k0_chk334 (v522 : IVec S16 32) : Prop :=
  (∀ a x, ((![v522] : Fin 1 → IVec S16 32) a x).toNat < S32768.size a)
theorem k0_idx334_inb : ∀ (v522 : IVec S16 32) (k0_hw334 : k0_chk334 v522), ∀ a x, ((![v522] : Fin 1 → IVec S16 32) a x).toNat < S32768.size a := fun v522 k0_hw334 => k0_hw334

def k0_chk335 (v529 : IVec S16 32) : Prop :=
  (∀ a x, ((![v529] : Fin 1 → IVec S16 32) a x).toNat < S32768.size a)
theorem k0_idx335_inb : ∀ (v529 : IVec S16 32) (k0_hw335 : k0_chk335 v529), ∀ a x, ((![v529] : Fin 1 → IVec S16 32) a x).toNat < S32768.size a := fun v529 k0_hw335 => k0_hw335

def k0_chk336 (v532 : IVec S16 32) : Prop :=
  (∀ a x, ((![v532] : Fin 1 → IVec S16 32) a x).toNat < S32768.size a)
theorem k0_idx336_inb : ∀ (v532 : IVec S16 32) (k0_hw336 : k0_chk336 v532), ∀ a x, ((![v532] : Fin 1 → IVec S16 32) a x).toNat < S32768.size a := fun v532 k0_hw336 => k0_hw336
def k0_off72 (k0_t3 : Fin k0_t3_loop.trips) (c4000_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v538 : BitVec 32 := Scalar.addi c4000_i32 v65
  let v539 : Index := Scalar.indexCast v538
  ![v539.toNat]

def k0_chk337 (v545 : IVec S16 32) : Prop :=
  (∀ a x, ((![v545] : Fin 1 → IVec S16 32) a x).toNat < S32768.size a)
theorem k0_idx337_inb : ∀ (v545 : IVec S16 32) (k0_hw337 : k0_chk337 v545), ∀ a x, ((![v545] : Fin 1 → IVec S16 32) a x).toNat < S32768.size a := fun v545 k0_hw337 => k0_hw337

def k0_chk338 (v548 : IVec S16 32) : Prop :=
  (∀ a x, ((![v548] : Fin 1 → IVec S16 32) a x).toNat < S32768.size a)
theorem k0_idx338_inb : ∀ (v548 : IVec S16 32) (k0_hw338 : k0_chk338 v548), ∀ a x, ((![v548] : Fin 1 → IVec S16 32) a x).toNat < S32768.size a := fun v548 k0_hw338 => k0_hw338

def k0_chk339 (v555 : IVec S16 32) : Prop :=
  (∀ a x, ((![v555] : Fin 1 → IVec S16 32) a x).toNat < S32768.size a)
theorem k0_idx339_inb : ∀ (v555 : IVec S16 32) (k0_hw339 : k0_chk339 v555), ∀ a x, ((![v555] : Fin 1 → IVec S16 32) a x).toNat < S32768.size a := fun v555 k0_hw339 => k0_hw339

def k0_chk340 (v558 : IVec S16 32) : Prop :=
  (∀ a x, ((![v558] : Fin 1 → IVec S16 32) a x).toNat < S32768.size a)
theorem k0_idx340_inb : ∀ (v558 : IVec S16 32) (k0_hw340 : k0_chk340 v558), ∀ a x, ((![v558] : Fin 1 → IVec S16 32) a x).toNat < S32768.size a := fun v558 k0_hw340 => k0_hw340

def k0_chk341 (v565 : IVec S16 32) : Prop :=
  (∀ a x, ((![v565] : Fin 1 → IVec S16 32) a x).toNat < S32768.size a)
theorem k0_idx341_inb : ∀ (v565 : IVec S16 32) (k0_hw341 : k0_chk341 v565), ∀ a x, ((![v565] : Fin 1 → IVec S16 32) a x).toNat < S32768.size a := fun v565 k0_hw341 => k0_hw341

def k0_chk342 (v568 : IVec S16 32) : Prop :=
  (∀ a x, ((![v568] : Fin 1 → IVec S16 32) a x).toNat < S32768.size a)
theorem k0_idx342_inb : ∀ (v568 : IVec S16 32) (k0_hw342 : k0_chk342 v568), ∀ a x, ((![v568] : Fin 1 → IVec S16 32) a x).toNat < S32768.size a := fun v568 k0_hw342 => k0_hw342

def k0_chk343 (v575 : IVec S16 32) : Prop :=
  (∀ a x, ((![v575] : Fin 1 → IVec S16 32) a x).toNat < S32768.size a)
theorem k0_idx343_inb : ∀ (v575 : IVec S16 32) (k0_hw343 : k0_chk343 v575), ∀ a x, ((![v575] : Fin 1 → IVec S16 32) a x).toNat < S32768.size a := fun v575 k0_hw343 => k0_hw343

def k0_chk344 (v578 : IVec S16 32) : Prop :=
  (∀ a x, ((![v578] : Fin 1 → IVec S16 32) a x).toNat < S32768.size a)
theorem k0_idx344_inb : ∀ (v578 : IVec S16 32) (k0_hw344 : k0_chk344 v578), ∀ a x, ((![v578] : Fin 1 → IVec S16 32) a x).toNat < S32768.size a := fun v578 k0_hw344 => k0_hw344
def k0_off73 (k0_t3 : Fin k0_t3_loop.trips) (c4400_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v584 : BitVec 32 := Scalar.addi c4400_i32 v65
  let v585 : Index := Scalar.indexCast v584
  ![v585.toNat]

def k0_chk345 (v591 : IVec S16 32) : Prop :=
  (∀ a x, ((![v591] : Fin 1 → IVec S16 32) a x).toNat < S32768.size a)
theorem k0_idx345_inb : ∀ (v591 : IVec S16 32) (k0_hw345 : k0_chk345 v591), ∀ a x, ((![v591] : Fin 1 → IVec S16 32) a x).toNat < S32768.size a := fun v591 k0_hw345 => k0_hw345

def k0_chk346 (v594 : IVec S16 32) : Prop :=
  (∀ a x, ((![v594] : Fin 1 → IVec S16 32) a x).toNat < S32768.size a)
theorem k0_idx346_inb : ∀ (v594 : IVec S16 32) (k0_hw346 : k0_chk346 v594), ∀ a x, ((![v594] : Fin 1 → IVec S16 32) a x).toNat < S32768.size a := fun v594 k0_hw346 => k0_hw346

def k0_chk347 (v601 : IVec S16 32) : Prop :=
  (∀ a x, ((![v601] : Fin 1 → IVec S16 32) a x).toNat < S32768.size a)
theorem k0_idx347_inb : ∀ (v601 : IVec S16 32) (k0_hw347 : k0_chk347 v601), ∀ a x, ((![v601] : Fin 1 → IVec S16 32) a x).toNat < S32768.size a := fun v601 k0_hw347 => k0_hw347

def k0_chk348 (v604 : IVec S16 32) : Prop :=
  (∀ a x, ((![v604] : Fin 1 → IVec S16 32) a x).toNat < S32768.size a)
theorem k0_idx348_inb : ∀ (v604 : IVec S16 32) (k0_hw348 : k0_chk348 v604), ∀ a x, ((![v604] : Fin 1 → IVec S16 32) a x).toNat < S32768.size a := fun v604 k0_hw348 => k0_hw348

def k0_chk349 (v611 : IVec S16 32) : Prop :=
  (∀ a x, ((![v611] : Fin 1 → IVec S16 32) a x).toNat < S32768.size a)
theorem k0_idx349_inb : ∀ (v611 : IVec S16 32) (k0_hw349 : k0_chk349 v611), ∀ a x, ((![v611] : Fin 1 → IVec S16 32) a x).toNat < S32768.size a := fun v611 k0_hw349 => k0_hw349

def k0_chk350 (v614 : IVec S16 32) : Prop :=
  (∀ a x, ((![v614] : Fin 1 → IVec S16 32) a x).toNat < S32768.size a)
theorem k0_idx350_inb : ∀ (v614 : IVec S16 32) (k0_hw350 : k0_chk350 v614), ∀ a x, ((![v614] : Fin 1 → IVec S16 32) a x).toNat < S32768.size a := fun v614 k0_hw350 => k0_hw350

def k0_chk351 (v621 : IVec S16 32) : Prop :=
  (∀ a x, ((![v621] : Fin 1 → IVec S16 32) a x).toNat < S32768.size a)
theorem k0_idx351_inb : ∀ (v621 : IVec S16 32) (k0_hw351 : k0_chk351 v621), ∀ a x, ((![v621] : Fin 1 → IVec S16 32) a x).toNat < S32768.size a := fun v621 k0_hw351 => k0_hw351

def k0_chk352 (v624 : IVec S16 32) : Prop :=
  (∀ a x, ((![v624] : Fin 1 → IVec S16 32) a x).toNat < S32768.size a)
theorem k0_idx352_inb : ∀ (v624 : IVec S16 32) (k0_hw352 : k0_chk352 v624), ∀ a x, ((![v624] : Fin 1 → IVec S16 32) a x).toNat < S32768.size a := fun v624 k0_hw352 => k0_hw352
def k0_off74 (k0_t3 : Fin k0_t3_loop.trips) : Fin 1 → Nat :=
  let c600_i32_119 : BitVec 32 := 600#32
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v630 : BitVec 32 := Scalar.addi c600_i32_119 v65
  let v631 : Index := Scalar.indexCast v630
  ![v631.toNat]
def k0_off75 (k0_t3 : Fin k0_t3_loop.trips) (c4800_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v633 : BitVec 32 := Scalar.addi c4800_i32 v65
  let v634 : Index := Scalar.indexCast v633
  ![v634.toNat]

def k0_chk353 (v640 : IVec S16 32) : Prop :=
  (∀ a x, ((![v640] : Fin 1 → IVec S16 32) a x).toNat < S32768.size a)
theorem k0_idx353_inb : ∀ (v640 : IVec S16 32) (k0_hw353 : k0_chk353 v640), ∀ a x, ((![v640] : Fin 1 → IVec S16 32) a x).toNat < S32768.size a := fun v640 k0_hw353 => k0_hw353

def k0_chk354 (v643 : IVec S16 32) : Prop :=
  (∀ a x, ((![v643] : Fin 1 → IVec S16 32) a x).toNat < S32768.size a)
theorem k0_idx354_inb : ∀ (v643 : IVec S16 32) (k0_hw354 : k0_chk354 v643), ∀ a x, ((![v643] : Fin 1 → IVec S16 32) a x).toNat < S32768.size a := fun v643 k0_hw354 => k0_hw354

def k0_chk355 (v650 : IVec S16 32) : Prop :=
  (∀ a x, ((![v650] : Fin 1 → IVec S16 32) a x).toNat < S32768.size a)
theorem k0_idx355_inb : ∀ (v650 : IVec S16 32) (k0_hw355 : k0_chk355 v650), ∀ a x, ((![v650] : Fin 1 → IVec S16 32) a x).toNat < S32768.size a := fun v650 k0_hw355 => k0_hw355

def k0_chk356 (v653 : IVec S16 32) : Prop :=
  (∀ a x, ((![v653] : Fin 1 → IVec S16 32) a x).toNat < S32768.size a)
theorem k0_idx356_inb : ∀ (v653 : IVec S16 32) (k0_hw356 : k0_chk356 v653), ∀ a x, ((![v653] : Fin 1 → IVec S16 32) a x).toNat < S32768.size a := fun v653 k0_hw356 => k0_hw356

def k0_chk357 (v660 : IVec S16 32) : Prop :=
  (∀ a x, ((![v660] : Fin 1 → IVec S16 32) a x).toNat < S32768.size a)
theorem k0_idx357_inb : ∀ (v660 : IVec S16 32) (k0_hw357 : k0_chk357 v660), ∀ a x, ((![v660] : Fin 1 → IVec S16 32) a x).toNat < S32768.size a := fun v660 k0_hw357 => k0_hw357

def k0_chk358 (v663 : IVec S16 32) : Prop :=
  (∀ a x, ((![v663] : Fin 1 → IVec S16 32) a x).toNat < S32768.size a)
theorem k0_idx358_inb : ∀ (v663 : IVec S16 32) (k0_hw358 : k0_chk358 v663), ∀ a x, ((![v663] : Fin 1 → IVec S16 32) a x).toNat < S32768.size a := fun v663 k0_hw358 => k0_hw358

def k0_chk359 (v670 : IVec S16 32) : Prop :=
  (∀ a x, ((![v670] : Fin 1 → IVec S16 32) a x).toNat < S32768.size a)
theorem k0_idx359_inb : ∀ (v670 : IVec S16 32) (k0_hw359 : k0_chk359 v670), ∀ a x, ((![v670] : Fin 1 → IVec S16 32) a x).toNat < S32768.size a := fun v670 k0_hw359 => k0_hw359

def k0_chk360 (v673 : IVec S16 32) : Prop :=
  (∀ a x, ((![v673] : Fin 1 → IVec S16 32) a x).toNat < S32768.size a)
theorem k0_idx360_inb : ∀ (v673 : IVec S16 32) (k0_hw360 : k0_chk360 v673), ∀ a x, ((![v673] : Fin 1 → IVec S16 32) a x).toNat < S32768.size a := fun v673 k0_hw360 => k0_hw360
def k0_off76 (k0_t3 : Fin k0_t3_loop.trips) (c5200_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v679 : BitVec 32 := Scalar.addi c5200_i32 v65
  let v680 : Index := Scalar.indexCast v679
  ![v680.toNat]

def k0_chk361 (v686 : IVec S16 32) : Prop :=
  (∀ a x, ((![v686] : Fin 1 → IVec S16 32) a x).toNat < S32768.size a)
theorem k0_idx361_inb : ∀ (v686 : IVec S16 32) (k0_hw361 : k0_chk361 v686), ∀ a x, ((![v686] : Fin 1 → IVec S16 32) a x).toNat < S32768.size a := fun v686 k0_hw361 => k0_hw361

def k0_chk362 (v689 : IVec S16 32) : Prop :=
  (∀ a x, ((![v689] : Fin 1 → IVec S16 32) a x).toNat < S32768.size a)
theorem k0_idx362_inb : ∀ (v689 : IVec S16 32) (k0_hw362 : k0_chk362 v689), ∀ a x, ((![v689] : Fin 1 → IVec S16 32) a x).toNat < S32768.size a := fun v689 k0_hw362 => k0_hw362

def k0_chk363 (v696 : IVec S16 32) : Prop :=
  (∀ a x, ((![v696] : Fin 1 → IVec S16 32) a x).toNat < S32768.size a)
theorem k0_idx363_inb : ∀ (v696 : IVec S16 32) (k0_hw363 : k0_chk363 v696), ∀ a x, ((![v696] : Fin 1 → IVec S16 32) a x).toNat < S32768.size a := fun v696 k0_hw363 => k0_hw363

def k0_chk364 (v699 : IVec S16 32) : Prop :=
  (∀ a x, ((![v699] : Fin 1 → IVec S16 32) a x).toNat < S32768.size a)
theorem k0_idx364_inb : ∀ (v699 : IVec S16 32) (k0_hw364 : k0_chk364 v699), ∀ a x, ((![v699] : Fin 1 → IVec S16 32) a x).toNat < S32768.size a := fun v699 k0_hw364 => k0_hw364

def k0_chk365 (v706 : IVec S16 32) : Prop :=
  (∀ a x, ((![v706] : Fin 1 → IVec S16 32) a x).toNat < S32768.size a)
theorem k0_idx365_inb : ∀ (v706 : IVec S16 32) (k0_hw365 : k0_chk365 v706), ∀ a x, ((![v706] : Fin 1 → IVec S16 32) a x).toNat < S32768.size a := fun v706 k0_hw365 => k0_hw365

def k0_chk366 (v709 : IVec S16 32) : Prop :=
  (∀ a x, ((![v709] : Fin 1 → IVec S16 32) a x).toNat < S32768.size a)
theorem k0_idx366_inb : ∀ (v709 : IVec S16 32) (k0_hw366 : k0_chk366 v709), ∀ a x, ((![v709] : Fin 1 → IVec S16 32) a x).toNat < S32768.size a := fun v709 k0_hw366 => k0_hw366

def k0_chk367 (v716 : IVec S16 32) : Prop :=
  (∀ a x, ((![v716] : Fin 1 → IVec S16 32) a x).toNat < S32768.size a)
theorem k0_idx367_inb : ∀ (v716 : IVec S16 32) (k0_hw367 : k0_chk367 v716), ∀ a x, ((![v716] : Fin 1 → IVec S16 32) a x).toNat < S32768.size a := fun v716 k0_hw367 => k0_hw367

def k0_chk368 (v719 : IVec S16 32) : Prop :=
  (∀ a x, ((![v719] : Fin 1 → IVec S16 32) a x).toNat < S32768.size a)
theorem k0_idx368_inb : ∀ (v719 : IVec S16 32) (k0_hw368 : k0_chk368 v719), ∀ a x, ((![v719] : Fin 1 → IVec S16 32) a x).toNat < S32768.size a := fun v719 k0_hw368 => k0_hw368
def k0_off77 (k0_t3 : Fin k0_t3_loop.trips) (c5600_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v725 : BitVec 32 := Scalar.addi c5600_i32 v65
  let v726 : Index := Scalar.indexCast v725
  ![v726.toNat]

def k0_chk369 (v732 : IVec S16 32) : Prop :=
  (∀ a x, ((![v732] : Fin 1 → IVec S16 32) a x).toNat < S32768.size a)
theorem k0_idx369_inb : ∀ (v732 : IVec S16 32) (k0_hw369 : k0_chk369 v732), ∀ a x, ((![v732] : Fin 1 → IVec S16 32) a x).toNat < S32768.size a := fun v732 k0_hw369 => k0_hw369

def k0_chk370 (v735 : IVec S16 32) : Prop :=
  (∀ a x, ((![v735] : Fin 1 → IVec S16 32) a x).toNat < S32768.size a)
theorem k0_idx370_inb : ∀ (v735 : IVec S16 32) (k0_hw370 : k0_chk370 v735), ∀ a x, ((![v735] : Fin 1 → IVec S16 32) a x).toNat < S32768.size a := fun v735 k0_hw370 => k0_hw370

def k0_chk371 (v742 : IVec S16 32) : Prop :=
  (∀ a x, ((![v742] : Fin 1 → IVec S16 32) a x).toNat < S32768.size a)
theorem k0_idx371_inb : ∀ (v742 : IVec S16 32) (k0_hw371 : k0_chk371 v742), ∀ a x, ((![v742] : Fin 1 → IVec S16 32) a x).toNat < S32768.size a := fun v742 k0_hw371 => k0_hw371

def k0_chk372 (v745 : IVec S16 32) : Prop :=
  (∀ a x, ((![v745] : Fin 1 → IVec S16 32) a x).toNat < S32768.size a)
theorem k0_idx372_inb : ∀ (v745 : IVec S16 32) (k0_hw372 : k0_chk372 v745), ∀ a x, ((![v745] : Fin 1 → IVec S16 32) a x).toNat < S32768.size a := fun v745 k0_hw372 => k0_hw372

def k0_chk373 (v752 : IVec S16 32) : Prop :=
  (∀ a x, ((![v752] : Fin 1 → IVec S16 32) a x).toNat < S32768.size a)
theorem k0_idx373_inb : ∀ (v752 : IVec S16 32) (k0_hw373 : k0_chk373 v752), ∀ a x, ((![v752] : Fin 1 → IVec S16 32) a x).toNat < S32768.size a := fun v752 k0_hw373 => k0_hw373

def k0_chk374 (v755 : IVec S16 32) : Prop :=
  (∀ a x, ((![v755] : Fin 1 → IVec S16 32) a x).toNat < S32768.size a)
theorem k0_idx374_inb : ∀ (v755 : IVec S16 32) (k0_hw374 : k0_chk374 v755), ∀ a x, ((![v755] : Fin 1 → IVec S16 32) a x).toNat < S32768.size a := fun v755 k0_hw374 => k0_hw374

def k0_chk375 (v762 : IVec S16 32) : Prop :=
  (∀ a x, ((![v762] : Fin 1 → IVec S16 32) a x).toNat < S32768.size a)
theorem k0_idx375_inb : ∀ (v762 : IVec S16 32) (k0_hw375 : k0_chk375 v762), ∀ a x, ((![v762] : Fin 1 → IVec S16 32) a x).toNat < S32768.size a := fun v762 k0_hw375 => k0_hw375

def k0_chk376 (v765 : IVec S16 32) : Prop :=
  (∀ a x, ((![v765] : Fin 1 → IVec S16 32) a x).toNat < S32768.size a)
theorem k0_idx376_inb : ∀ (v765 : IVec S16 32) (k0_hw376 : k0_chk376 v765), ∀ a x, ((![v765] : Fin 1 → IVec S16 32) a x).toNat < S32768.size a := fun v765 k0_hw376 => k0_hw376
def k0_off78 (k0_t3 : Fin k0_t3_loop.trips) (c6000_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v771 : BitVec 32 := Scalar.addi c6000_i32 v65
  let v772 : Index := Scalar.indexCast v771
  ![v772.toNat]

def k0_chk377 (v778 : IVec S16 32) : Prop :=
  (∀ a x, ((![v778] : Fin 1 → IVec S16 32) a x).toNat < S32768.size a)
theorem k0_idx377_inb : ∀ (v778 : IVec S16 32) (k0_hw377 : k0_chk377 v778), ∀ a x, ((![v778] : Fin 1 → IVec S16 32) a x).toNat < S32768.size a := fun v778 k0_hw377 => k0_hw377

def k0_chk378 (v781 : IVec S16 32) : Prop :=
  (∀ a x, ((![v781] : Fin 1 → IVec S16 32) a x).toNat < S32768.size a)
theorem k0_idx378_inb : ∀ (v781 : IVec S16 32) (k0_hw378 : k0_chk378 v781), ∀ a x, ((![v781] : Fin 1 → IVec S16 32) a x).toNat < S32768.size a := fun v781 k0_hw378 => k0_hw378

def k0_chk379 (v788 : IVec S16 32) : Prop :=
  (∀ a x, ((![v788] : Fin 1 → IVec S16 32) a x).toNat < S32768.size a)
theorem k0_idx379_inb : ∀ (v788 : IVec S16 32) (k0_hw379 : k0_chk379 v788), ∀ a x, ((![v788] : Fin 1 → IVec S16 32) a x).toNat < S32768.size a := fun v788 k0_hw379 => k0_hw379

def k0_chk380 (v791 : IVec S16 32) : Prop :=
  (∀ a x, ((![v791] : Fin 1 → IVec S16 32) a x).toNat < S32768.size a)
theorem k0_idx380_inb : ∀ (v791 : IVec S16 32) (k0_hw380 : k0_chk380 v791), ∀ a x, ((![v791] : Fin 1 → IVec S16 32) a x).toNat < S32768.size a := fun v791 k0_hw380 => k0_hw380

def k0_chk381 (v798 : IVec S16 32) : Prop :=
  (∀ a x, ((![v798] : Fin 1 → IVec S16 32) a x).toNat < S32768.size a)
theorem k0_idx381_inb : ∀ (v798 : IVec S16 32) (k0_hw381 : k0_chk381 v798), ∀ a x, ((![v798] : Fin 1 → IVec S16 32) a x).toNat < S32768.size a := fun v798 k0_hw381 => k0_hw381

def k0_chk382 (v801 : IVec S16 32) : Prop :=
  (∀ a x, ((![v801] : Fin 1 → IVec S16 32) a x).toNat < S32768.size a)
theorem k0_idx382_inb : ∀ (v801 : IVec S16 32) (k0_hw382 : k0_chk382 v801), ∀ a x, ((![v801] : Fin 1 → IVec S16 32) a x).toNat < S32768.size a := fun v801 k0_hw382 => k0_hw382

def k0_chk383 (v808 : IVec S16 32) : Prop :=
  (∀ a x, ((![v808] : Fin 1 → IVec S16 32) a x).toNat < S32768.size a)
theorem k0_idx383_inb : ∀ (v808 : IVec S16 32) (k0_hw383 : k0_chk383 v808), ∀ a x, ((![v808] : Fin 1 → IVec S16 32) a x).toNat < S32768.size a := fun v808 k0_hw383 => k0_hw383

def k0_chk384 (v811 : IVec S16 32) : Prop :=
  (∀ a x, ((![v811] : Fin 1 → IVec S16 32) a x).toNat < S32768.size a)
theorem k0_idx384_inb : ∀ (v811 : IVec S16 32) (k0_hw384 : k0_chk384 v811), ∀ a x, ((![v811] : Fin 1 → IVec S16 32) a x).toNat < S32768.size a := fun v811 k0_hw384 => k0_hw384
def k0_off79 (k0_t3 : Fin k0_t3_loop.trips) : Fin 1 → Nat :=
  let c800_i32_152 : BitVec 32 := 800#32
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v817 : BitVec 32 := Scalar.addi c800_i32_152 v65
  let v818 : Index := Scalar.indexCast v817
  ![v818.toNat]
def k0_off80 (k0_t3 : Fin k0_t3_loop.trips) (c6400_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v820 : BitVec 32 := Scalar.addi c6400_i32 v65
  let v821 : Index := Scalar.indexCast v820
  ![v821.toNat]

def k0_chk385 (v827 : IVec S16 32) : Prop :=
  (∀ a x, ((![v827] : Fin 1 → IVec S16 32) a x).toNat < S32768.size a)
theorem k0_idx385_inb : ∀ (v827 : IVec S16 32) (k0_hw385 : k0_chk385 v827), ∀ a x, ((![v827] : Fin 1 → IVec S16 32) a x).toNat < S32768.size a := fun v827 k0_hw385 => k0_hw385

def k0_chk386 (v830 : IVec S16 32) : Prop :=
  (∀ a x, ((![v830] : Fin 1 → IVec S16 32) a x).toNat < S32768.size a)
theorem k0_idx386_inb : ∀ (v830 : IVec S16 32) (k0_hw386 : k0_chk386 v830), ∀ a x, ((![v830] : Fin 1 → IVec S16 32) a x).toNat < S32768.size a := fun v830 k0_hw386 => k0_hw386

def k0_chk387 (v837 : IVec S16 32) : Prop :=
  (∀ a x, ((![v837] : Fin 1 → IVec S16 32) a x).toNat < S32768.size a)
theorem k0_idx387_inb : ∀ (v837 : IVec S16 32) (k0_hw387 : k0_chk387 v837), ∀ a x, ((![v837] : Fin 1 → IVec S16 32) a x).toNat < S32768.size a := fun v837 k0_hw387 => k0_hw387

def k0_chk388 (v840 : IVec S16 32) : Prop :=
  (∀ a x, ((![v840] : Fin 1 → IVec S16 32) a x).toNat < S32768.size a)
theorem k0_idx388_inb : ∀ (v840 : IVec S16 32) (k0_hw388 : k0_chk388 v840), ∀ a x, ((![v840] : Fin 1 → IVec S16 32) a x).toNat < S32768.size a := fun v840 k0_hw388 => k0_hw388

def k0_chk389 (v847 : IVec S16 32) : Prop :=
  (∀ a x, ((![v847] : Fin 1 → IVec S16 32) a x).toNat < S32768.size a)
theorem k0_idx389_inb : ∀ (v847 : IVec S16 32) (k0_hw389 : k0_chk389 v847), ∀ a x, ((![v847] : Fin 1 → IVec S16 32) a x).toNat < S32768.size a := fun v847 k0_hw389 => k0_hw389

def k0_chk390 (v850 : IVec S16 32) : Prop :=
  (∀ a x, ((![v850] : Fin 1 → IVec S16 32) a x).toNat < S32768.size a)
theorem k0_idx390_inb : ∀ (v850 : IVec S16 32) (k0_hw390 : k0_chk390 v850), ∀ a x, ((![v850] : Fin 1 → IVec S16 32) a x).toNat < S32768.size a := fun v850 k0_hw390 => k0_hw390

def k0_chk391 (v857 : IVec S16 32) : Prop :=
  (∀ a x, ((![v857] : Fin 1 → IVec S16 32) a x).toNat < S32768.size a)
theorem k0_idx391_inb : ∀ (v857 : IVec S16 32) (k0_hw391 : k0_chk391 v857), ∀ a x, ((![v857] : Fin 1 → IVec S16 32) a x).toNat < S32768.size a := fun v857 k0_hw391 => k0_hw391

def k0_chk392 (v860 : IVec S16 32) : Prop :=
  (∀ a x, ((![v860] : Fin 1 → IVec S16 32) a x).toNat < S32768.size a)
theorem k0_idx392_inb : ∀ (v860 : IVec S16 32) (k0_hw392 : k0_chk392 v860), ∀ a x, ((![v860] : Fin 1 → IVec S16 32) a x).toNat < S32768.size a := fun v860 k0_hw392 => k0_hw392
def k0_off81 (k0_t3 : Fin k0_t3_loop.trips) (c6800_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v866 : BitVec 32 := Scalar.addi c6800_i32 v65
  let v867 : Index := Scalar.indexCast v866
  ![v867.toNat]

def k0_chk393 (v873 : IVec S16 32) : Prop :=
  (∀ a x, ((![v873] : Fin 1 → IVec S16 32) a x).toNat < S32768.size a)
theorem k0_idx393_inb : ∀ (v873 : IVec S16 32) (k0_hw393 : k0_chk393 v873), ∀ a x, ((![v873] : Fin 1 → IVec S16 32) a x).toNat < S32768.size a := fun v873 k0_hw393 => k0_hw393

def k0_chk394 (v876 : IVec S16 32) : Prop :=
  (∀ a x, ((![v876] : Fin 1 → IVec S16 32) a x).toNat < S32768.size a)
theorem k0_idx394_inb : ∀ (v876 : IVec S16 32) (k0_hw394 : k0_chk394 v876), ∀ a x, ((![v876] : Fin 1 → IVec S16 32) a x).toNat < S32768.size a := fun v876 k0_hw394 => k0_hw394

def k0_chk395 (v883 : IVec S16 32) : Prop :=
  (∀ a x, ((![v883] : Fin 1 → IVec S16 32) a x).toNat < S32768.size a)
theorem k0_idx395_inb : ∀ (v883 : IVec S16 32) (k0_hw395 : k0_chk395 v883), ∀ a x, ((![v883] : Fin 1 → IVec S16 32) a x).toNat < S32768.size a := fun v883 k0_hw395 => k0_hw395

def k0_chk396 (v886 : IVec S16 32) : Prop :=
  (∀ a x, ((![v886] : Fin 1 → IVec S16 32) a x).toNat < S32768.size a)
theorem k0_idx396_inb : ∀ (v886 : IVec S16 32) (k0_hw396 : k0_chk396 v886), ∀ a x, ((![v886] : Fin 1 → IVec S16 32) a x).toNat < S32768.size a := fun v886 k0_hw396 => k0_hw396

def k0_chk397 (v893 : IVec S16 32) : Prop :=
  (∀ a x, ((![v893] : Fin 1 → IVec S16 32) a x).toNat < S32768.size a)
theorem k0_idx397_inb : ∀ (v893 : IVec S16 32) (k0_hw397 : k0_chk397 v893), ∀ a x, ((![v893] : Fin 1 → IVec S16 32) a x).toNat < S32768.size a := fun v893 k0_hw397 => k0_hw397

def k0_chk398 (v896 : IVec S16 32) : Prop :=
  (∀ a x, ((![v896] : Fin 1 → IVec S16 32) a x).toNat < S32768.size a)
theorem k0_idx398_inb : ∀ (v896 : IVec S16 32) (k0_hw398 : k0_chk398 v896), ∀ a x, ((![v896] : Fin 1 → IVec S16 32) a x).toNat < S32768.size a := fun v896 k0_hw398 => k0_hw398

def k0_chk399 (v903 : IVec S16 32) : Prop :=
  (∀ a x, ((![v903] : Fin 1 → IVec S16 32) a x).toNat < S32768.size a)
theorem k0_idx399_inb : ∀ (v903 : IVec S16 32) (k0_hw399 : k0_chk399 v903), ∀ a x, ((![v903] : Fin 1 → IVec S16 32) a x).toNat < S32768.size a := fun v903 k0_hw399 => k0_hw399

def k0_chk400 (v906 : IVec S16 32) : Prop :=
  (∀ a x, ((![v906] : Fin 1 → IVec S16 32) a x).toNat < S32768.size a)
theorem k0_idx400_inb : ∀ (v906 : IVec S16 32) (k0_hw400 : k0_chk400 v906), ∀ a x, ((![v906] : Fin 1 → IVec S16 32) a x).toNat < S32768.size a := fun v906 k0_hw400 => k0_hw400
def k0_off82 (k0_t3 : Fin k0_t3_loop.trips) (c7200_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v912 : BitVec 32 := Scalar.addi c7200_i32 v65
  let v913 : Index := Scalar.indexCast v912
  ![v913.toNat]

def k0_chk401 (v919 : IVec S16 32) : Prop :=
  (∀ a x, ((![v919] : Fin 1 → IVec S16 32) a x).toNat < S32768.size a)
theorem k0_idx401_inb : ∀ (v919 : IVec S16 32) (k0_hw401 : k0_chk401 v919), ∀ a x, ((![v919] : Fin 1 → IVec S16 32) a x).toNat < S32768.size a := fun v919 k0_hw401 => k0_hw401

def k0_chk402 (v922 : IVec S16 32) : Prop :=
  (∀ a x, ((![v922] : Fin 1 → IVec S16 32) a x).toNat < S32768.size a)
theorem k0_idx402_inb : ∀ (v922 : IVec S16 32) (k0_hw402 : k0_chk402 v922), ∀ a x, ((![v922] : Fin 1 → IVec S16 32) a x).toNat < S32768.size a := fun v922 k0_hw402 => k0_hw402

def k0_chk403 (v929 : IVec S16 32) : Prop :=
  (∀ a x, ((![v929] : Fin 1 → IVec S16 32) a x).toNat < S32768.size a)
theorem k0_idx403_inb : ∀ (v929 : IVec S16 32) (k0_hw403 : k0_chk403 v929), ∀ a x, ((![v929] : Fin 1 → IVec S16 32) a x).toNat < S32768.size a := fun v929 k0_hw403 => k0_hw403

def k0_chk404 (v932 : IVec S16 32) : Prop :=
  (∀ a x, ((![v932] : Fin 1 → IVec S16 32) a x).toNat < S32768.size a)
theorem k0_idx404_inb : ∀ (v932 : IVec S16 32) (k0_hw404 : k0_chk404 v932), ∀ a x, ((![v932] : Fin 1 → IVec S16 32) a x).toNat < S32768.size a := fun v932 k0_hw404 => k0_hw404

def k0_chk405 (v939 : IVec S16 32) : Prop :=
  (∀ a x, ((![v939] : Fin 1 → IVec S16 32) a x).toNat < S32768.size a)
theorem k0_idx405_inb : ∀ (v939 : IVec S16 32) (k0_hw405 : k0_chk405 v939), ∀ a x, ((![v939] : Fin 1 → IVec S16 32) a x).toNat < S32768.size a := fun v939 k0_hw405 => k0_hw405

def k0_chk406 (v942 : IVec S16 32) : Prop :=
  (∀ a x, ((![v942] : Fin 1 → IVec S16 32) a x).toNat < S32768.size a)
theorem k0_idx406_inb : ∀ (v942 : IVec S16 32) (k0_hw406 : k0_chk406 v942), ∀ a x, ((![v942] : Fin 1 → IVec S16 32) a x).toNat < S32768.size a := fun v942 k0_hw406 => k0_hw406

def k0_chk407 (v949 : IVec S16 32) : Prop :=
  (∀ a x, ((![v949] : Fin 1 → IVec S16 32) a x).toNat < S32768.size a)
theorem k0_idx407_inb : ∀ (v949 : IVec S16 32) (k0_hw407 : k0_chk407 v949), ∀ a x, ((![v949] : Fin 1 → IVec S16 32) a x).toNat < S32768.size a := fun v949 k0_hw407 => k0_hw407

def k0_chk408 (v952 : IVec S16 32) : Prop :=
  (∀ a x, ((![v952] : Fin 1 → IVec S16 32) a x).toNat < S32768.size a)
theorem k0_idx408_inb : ∀ (v952 : IVec S16 32) (k0_hw408 : k0_chk408 v952), ∀ a x, ((![v952] : Fin 1 → IVec S16 32) a x).toNat < S32768.size a := fun v952 k0_hw408 => k0_hw408
def k0_off83 (k0_t3 : Fin k0_t3_loop.trips) (c7600_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v958 : BitVec 32 := Scalar.addi c7600_i32 v65
  let v959 : Index := Scalar.indexCast v958
  ![v959.toNat]

def k0_chk409 (v965 : IVec S16 32) : Prop :=
  (∀ a x, ((![v965] : Fin 1 → IVec S16 32) a x).toNat < S32768.size a)
theorem k0_idx409_inb : ∀ (v965 : IVec S16 32) (k0_hw409 : k0_chk409 v965), ∀ a x, ((![v965] : Fin 1 → IVec S16 32) a x).toNat < S32768.size a := fun v965 k0_hw409 => k0_hw409

def k0_chk410 (v968 : IVec S16 32) : Prop :=
  (∀ a x, ((![v968] : Fin 1 → IVec S16 32) a x).toNat < S32768.size a)
theorem k0_idx410_inb : ∀ (v968 : IVec S16 32) (k0_hw410 : k0_chk410 v968), ∀ a x, ((![v968] : Fin 1 → IVec S16 32) a x).toNat < S32768.size a := fun v968 k0_hw410 => k0_hw410

def k0_chk411 (v975 : IVec S16 32) : Prop :=
  (∀ a x, ((![v975] : Fin 1 → IVec S16 32) a x).toNat < S32768.size a)
theorem k0_idx411_inb : ∀ (v975 : IVec S16 32) (k0_hw411 : k0_chk411 v975), ∀ a x, ((![v975] : Fin 1 → IVec S16 32) a x).toNat < S32768.size a := fun v975 k0_hw411 => k0_hw411

def k0_chk412 (v978 : IVec S16 32) : Prop :=
  (∀ a x, ((![v978] : Fin 1 → IVec S16 32) a x).toNat < S32768.size a)
theorem k0_idx412_inb : ∀ (v978 : IVec S16 32) (k0_hw412 : k0_chk412 v978), ∀ a x, ((![v978] : Fin 1 → IVec S16 32) a x).toNat < S32768.size a := fun v978 k0_hw412 => k0_hw412

def k0_chk413 (v985 : IVec S16 32) : Prop :=
  (∀ a x, ((![v985] : Fin 1 → IVec S16 32) a x).toNat < S32768.size a)
theorem k0_idx413_inb : ∀ (v985 : IVec S16 32) (k0_hw413 : k0_chk413 v985), ∀ a x, ((![v985] : Fin 1 → IVec S16 32) a x).toNat < S32768.size a := fun v985 k0_hw413 => k0_hw413

def k0_chk414 (v988 : IVec S16 32) : Prop :=
  (∀ a x, ((![v988] : Fin 1 → IVec S16 32) a x).toNat < S32768.size a)
theorem k0_idx414_inb : ∀ (v988 : IVec S16 32) (k0_hw414 : k0_chk414 v988), ∀ a x, ((![v988] : Fin 1 → IVec S16 32) a x).toNat < S32768.size a := fun v988 k0_hw414 => k0_hw414

def k0_chk415 (v995 : IVec S16 32) : Prop :=
  (∀ a x, ((![v995] : Fin 1 → IVec S16 32) a x).toNat < S32768.size a)
theorem k0_idx415_inb : ∀ (v995 : IVec S16 32) (k0_hw415 : k0_chk415 v995), ∀ a x, ((![v995] : Fin 1 → IVec S16 32) a x).toNat < S32768.size a := fun v995 k0_hw415 => k0_hw415

def k0_chk416 (v998 : IVec S16 32) : Prop :=
  (∀ a x, ((![v998] : Fin 1 → IVec S16 32) a x).toNat < S32768.size a)
theorem k0_idx416_inb : ∀ (v998 : IVec S16 32) (k0_hw416 : k0_chk416 v998), ∀ a x, ((![v998] : Fin 1 → IVec S16 32) a x).toNat < S32768.size a := fun v998 k0_hw416 => k0_hw416
def k0_off84 (k0_t3 : Fin k0_t3_loop.trips) : Fin 1 → Nat :=
  let c1000_i32_185 : BitVec 32 := 1000#32
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1004 : BitVec 32 := Scalar.addi c1000_i32_185 v65
  let v1005 : Index := Scalar.indexCast v1004
  ![v1005.toNat]
def k0_off85 (k0_t3 : Fin k0_t3_loop.trips) (c8000_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1007 : BitVec 32 := Scalar.addi c8000_i32 v65
  let v1008 : Index := Scalar.indexCast v1007
  ![v1008.toNat]

def k0_chk417 (v1014 : IVec S16 32) : Prop :=
  (∀ a x, ((![v1014] : Fin 1 → IVec S16 32) a x).toNat < S32768.size a)
theorem k0_idx417_inb : ∀ (v1014 : IVec S16 32) (k0_hw417 : k0_chk417 v1014), ∀ a x, ((![v1014] : Fin 1 → IVec S16 32) a x).toNat < S32768.size a := fun v1014 k0_hw417 => k0_hw417

def k0_chk418 (v1017 : IVec S16 32) : Prop :=
  (∀ a x, ((![v1017] : Fin 1 → IVec S16 32) a x).toNat < S32768.size a)
theorem k0_idx418_inb : ∀ (v1017 : IVec S16 32) (k0_hw418 : k0_chk418 v1017), ∀ a x, ((![v1017] : Fin 1 → IVec S16 32) a x).toNat < S32768.size a := fun v1017 k0_hw418 => k0_hw418

def k0_chk419 (v1024 : IVec S16 32) : Prop :=
  (∀ a x, ((![v1024] : Fin 1 → IVec S16 32) a x).toNat < S32768.size a)
theorem k0_idx419_inb : ∀ (v1024 : IVec S16 32) (k0_hw419 : k0_chk419 v1024), ∀ a x, ((![v1024] : Fin 1 → IVec S16 32) a x).toNat < S32768.size a := fun v1024 k0_hw419 => k0_hw419

def k0_chk420 (v1027 : IVec S16 32) : Prop :=
  (∀ a x, ((![v1027] : Fin 1 → IVec S16 32) a x).toNat < S32768.size a)
theorem k0_idx420_inb : ∀ (v1027 : IVec S16 32) (k0_hw420 : k0_chk420 v1027), ∀ a x, ((![v1027] : Fin 1 → IVec S16 32) a x).toNat < S32768.size a := fun v1027 k0_hw420 => k0_hw420

def k0_chk421 (v1034 : IVec S16 32) : Prop :=
  (∀ a x, ((![v1034] : Fin 1 → IVec S16 32) a x).toNat < S32768.size a)
theorem k0_idx421_inb : ∀ (v1034 : IVec S16 32) (k0_hw421 : k0_chk421 v1034), ∀ a x, ((![v1034] : Fin 1 → IVec S16 32) a x).toNat < S32768.size a := fun v1034 k0_hw421 => k0_hw421

def k0_chk422 (v1037 : IVec S16 32) : Prop :=
  (∀ a x, ((![v1037] : Fin 1 → IVec S16 32) a x).toNat < S32768.size a)
theorem k0_idx422_inb : ∀ (v1037 : IVec S16 32) (k0_hw422 : k0_chk422 v1037), ∀ a x, ((![v1037] : Fin 1 → IVec S16 32) a x).toNat < S32768.size a := fun v1037 k0_hw422 => k0_hw422

def k0_chk423 (v1044 : IVec S16 32) : Prop :=
  (∀ a x, ((![v1044] : Fin 1 → IVec S16 32) a x).toNat < S32768.size a)
theorem k0_idx423_inb : ∀ (v1044 : IVec S16 32) (k0_hw423 : k0_chk423 v1044), ∀ a x, ((![v1044] : Fin 1 → IVec S16 32) a x).toNat < S32768.size a := fun v1044 k0_hw423 => k0_hw423

def k0_chk424 (v1047 : IVec S16 32) : Prop :=
  (∀ a x, ((![v1047] : Fin 1 → IVec S16 32) a x).toNat < S32768.size a)
theorem k0_idx424_inb : ∀ (v1047 : IVec S16 32) (k0_hw424 : k0_chk424 v1047), ∀ a x, ((![v1047] : Fin 1 → IVec S16 32) a x).toNat < S32768.size a := fun v1047 k0_hw424 => k0_hw424
def k0_off86 (k0_t3 : Fin k0_t3_loop.trips) (c8400_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1053 : BitVec 32 := Scalar.addi c8400_i32 v65
  let v1054 : Index := Scalar.indexCast v1053
  ![v1054.toNat]

def k0_chk425 (v1060 : IVec S16 32) : Prop :=
  (∀ a x, ((![v1060] : Fin 1 → IVec S16 32) a x).toNat < S32768.size a)
theorem k0_idx425_inb : ∀ (v1060 : IVec S16 32) (k0_hw425 : k0_chk425 v1060), ∀ a x, ((![v1060] : Fin 1 → IVec S16 32) a x).toNat < S32768.size a := fun v1060 k0_hw425 => k0_hw425

def k0_chk426 (v1063 : IVec S16 32) : Prop :=
  (∀ a x, ((![v1063] : Fin 1 → IVec S16 32) a x).toNat < S32768.size a)
theorem k0_idx426_inb : ∀ (v1063 : IVec S16 32) (k0_hw426 : k0_chk426 v1063), ∀ a x, ((![v1063] : Fin 1 → IVec S16 32) a x).toNat < S32768.size a := fun v1063 k0_hw426 => k0_hw426

def k0_chk427 (v1070 : IVec S16 32) : Prop :=
  (∀ a x, ((![v1070] : Fin 1 → IVec S16 32) a x).toNat < S32768.size a)
theorem k0_idx427_inb : ∀ (v1070 : IVec S16 32) (k0_hw427 : k0_chk427 v1070), ∀ a x, ((![v1070] : Fin 1 → IVec S16 32) a x).toNat < S32768.size a := fun v1070 k0_hw427 => k0_hw427

def k0_chk428 (v1073 : IVec S16 32) : Prop :=
  (∀ a x, ((![v1073] : Fin 1 → IVec S16 32) a x).toNat < S32768.size a)
theorem k0_idx428_inb : ∀ (v1073 : IVec S16 32) (k0_hw428 : k0_chk428 v1073), ∀ a x, ((![v1073] : Fin 1 → IVec S16 32) a x).toNat < S32768.size a := fun v1073 k0_hw428 => k0_hw428

def k0_chk429 (v1080 : IVec S16 32) : Prop :=
  (∀ a x, ((![v1080] : Fin 1 → IVec S16 32) a x).toNat < S32768.size a)
theorem k0_idx429_inb : ∀ (v1080 : IVec S16 32) (k0_hw429 : k0_chk429 v1080), ∀ a x, ((![v1080] : Fin 1 → IVec S16 32) a x).toNat < S32768.size a := fun v1080 k0_hw429 => k0_hw429

def k0_chk430 (v1083 : IVec S16 32) : Prop :=
  (∀ a x, ((![v1083] : Fin 1 → IVec S16 32) a x).toNat < S32768.size a)
theorem k0_idx430_inb : ∀ (v1083 : IVec S16 32) (k0_hw430 : k0_chk430 v1083), ∀ a x, ((![v1083] : Fin 1 → IVec S16 32) a x).toNat < S32768.size a := fun v1083 k0_hw430 => k0_hw430

def k0_chk431 (v1090 : IVec S16 32) : Prop :=
  (∀ a x, ((![v1090] : Fin 1 → IVec S16 32) a x).toNat < S32768.size a)
theorem k0_idx431_inb : ∀ (v1090 : IVec S16 32) (k0_hw431 : k0_chk431 v1090), ∀ a x, ((![v1090] : Fin 1 → IVec S16 32) a x).toNat < S32768.size a := fun v1090 k0_hw431 => k0_hw431

def k0_chk432 (v1093 : IVec S16 32) : Prop :=
  (∀ a x, ((![v1093] : Fin 1 → IVec S16 32) a x).toNat < S32768.size a)
theorem k0_idx432_inb : ∀ (v1093 : IVec S16 32) (k0_hw432 : k0_chk432 v1093), ∀ a x, ((![v1093] : Fin 1 → IVec S16 32) a x).toNat < S32768.size a := fun v1093 k0_hw432 => k0_hw432
def k0_off87 (k0_t3 : Fin k0_t3_loop.trips) (c8800_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1099 : BitVec 32 := Scalar.addi c8800_i32 v65
  let v1100 : Index := Scalar.indexCast v1099
  ![v1100.toNat]

def k0_chk433 (v1106 : IVec S16 32) : Prop :=
  (∀ a x, ((![v1106] : Fin 1 → IVec S16 32) a x).toNat < S32768.size a)
theorem k0_idx433_inb : ∀ (v1106 : IVec S16 32) (k0_hw433 : k0_chk433 v1106), ∀ a x, ((![v1106] : Fin 1 → IVec S16 32) a x).toNat < S32768.size a := fun v1106 k0_hw433 => k0_hw433

def k0_chk434 (v1109 : IVec S16 32) : Prop :=
  (∀ a x, ((![v1109] : Fin 1 → IVec S16 32) a x).toNat < S32768.size a)
theorem k0_idx434_inb : ∀ (v1109 : IVec S16 32) (k0_hw434 : k0_chk434 v1109), ∀ a x, ((![v1109] : Fin 1 → IVec S16 32) a x).toNat < S32768.size a := fun v1109 k0_hw434 => k0_hw434

def k0_chk435 (v1116 : IVec S16 32) : Prop :=
  (∀ a x, ((![v1116] : Fin 1 → IVec S16 32) a x).toNat < S32768.size a)
theorem k0_idx435_inb : ∀ (v1116 : IVec S16 32) (k0_hw435 : k0_chk435 v1116), ∀ a x, ((![v1116] : Fin 1 → IVec S16 32) a x).toNat < S32768.size a := fun v1116 k0_hw435 => k0_hw435

def k0_chk436 (v1119 : IVec S16 32) : Prop :=
  (∀ a x, ((![v1119] : Fin 1 → IVec S16 32) a x).toNat < S32768.size a)
theorem k0_idx436_inb : ∀ (v1119 : IVec S16 32) (k0_hw436 : k0_chk436 v1119), ∀ a x, ((![v1119] : Fin 1 → IVec S16 32) a x).toNat < S32768.size a := fun v1119 k0_hw436 => k0_hw436

def k0_chk437 (v1126 : IVec S16 32) : Prop :=
  (∀ a x, ((![v1126] : Fin 1 → IVec S16 32) a x).toNat < S32768.size a)
theorem k0_idx437_inb : ∀ (v1126 : IVec S16 32) (k0_hw437 : k0_chk437 v1126), ∀ a x, ((![v1126] : Fin 1 → IVec S16 32) a x).toNat < S32768.size a := fun v1126 k0_hw437 => k0_hw437

def k0_chk438 (v1129 : IVec S16 32) : Prop :=
  (∀ a x, ((![v1129] : Fin 1 → IVec S16 32) a x).toNat < S32768.size a)
theorem k0_idx438_inb : ∀ (v1129 : IVec S16 32) (k0_hw438 : k0_chk438 v1129), ∀ a x, ((![v1129] : Fin 1 → IVec S16 32) a x).toNat < S32768.size a := fun v1129 k0_hw438 => k0_hw438

def k0_chk439 (v1136 : IVec S16 32) : Prop :=
  (∀ a x, ((![v1136] : Fin 1 → IVec S16 32) a x).toNat < S32768.size a)
theorem k0_idx439_inb : ∀ (v1136 : IVec S16 32) (k0_hw439 : k0_chk439 v1136), ∀ a x, ((![v1136] : Fin 1 → IVec S16 32) a x).toNat < S32768.size a := fun v1136 k0_hw439 => k0_hw439

def k0_chk440 (v1139 : IVec S16 32) : Prop :=
  (∀ a x, ((![v1139] : Fin 1 → IVec S16 32) a x).toNat < S32768.size a)
theorem k0_idx440_inb : ∀ (v1139 : IVec S16 32) (k0_hw440 : k0_chk440 v1139), ∀ a x, ((![v1139] : Fin 1 → IVec S16 32) a x).toNat < S32768.size a := fun v1139 k0_hw440 => k0_hw440
def k0_off88 (k0_t3 : Fin k0_t3_loop.trips) (c9200_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1145 : BitVec 32 := Scalar.addi c9200_i32 v65
  let v1146 : Index := Scalar.indexCast v1145
  ![v1146.toNat]

def k0_chk441 (v1152 : IVec S16 32) : Prop :=
  (∀ a x, ((![v1152] : Fin 1 → IVec S16 32) a x).toNat < S32768.size a)
theorem k0_idx441_inb : ∀ (v1152 : IVec S16 32) (k0_hw441 : k0_chk441 v1152), ∀ a x, ((![v1152] : Fin 1 → IVec S16 32) a x).toNat < S32768.size a := fun v1152 k0_hw441 => k0_hw441

def k0_chk442 (v1155 : IVec S16 32) : Prop :=
  (∀ a x, ((![v1155] : Fin 1 → IVec S16 32) a x).toNat < S32768.size a)
theorem k0_idx442_inb : ∀ (v1155 : IVec S16 32) (k0_hw442 : k0_chk442 v1155), ∀ a x, ((![v1155] : Fin 1 → IVec S16 32) a x).toNat < S32768.size a := fun v1155 k0_hw442 => k0_hw442

def k0_chk443 (v1162 : IVec S16 32) : Prop :=
  (∀ a x, ((![v1162] : Fin 1 → IVec S16 32) a x).toNat < S32768.size a)
theorem k0_idx443_inb : ∀ (v1162 : IVec S16 32) (k0_hw443 : k0_chk443 v1162), ∀ a x, ((![v1162] : Fin 1 → IVec S16 32) a x).toNat < S32768.size a := fun v1162 k0_hw443 => k0_hw443

def k0_chk444 (v1165 : IVec S16 32) : Prop :=
  (∀ a x, ((![v1165] : Fin 1 → IVec S16 32) a x).toNat < S32768.size a)
theorem k0_idx444_inb : ∀ (v1165 : IVec S16 32) (k0_hw444 : k0_chk444 v1165), ∀ a x, ((![v1165] : Fin 1 → IVec S16 32) a x).toNat < S32768.size a := fun v1165 k0_hw444 => k0_hw444

def k0_chk445 (v1172 : IVec S16 32) : Prop :=
  (∀ a x, ((![v1172] : Fin 1 → IVec S16 32) a x).toNat < S32768.size a)
theorem k0_idx445_inb : ∀ (v1172 : IVec S16 32) (k0_hw445 : k0_chk445 v1172), ∀ a x, ((![v1172] : Fin 1 → IVec S16 32) a x).toNat < S32768.size a := fun v1172 k0_hw445 => k0_hw445

def k0_chk446 (v1175 : IVec S16 32) : Prop :=
  (∀ a x, ((![v1175] : Fin 1 → IVec S16 32) a x).toNat < S32768.size a)
theorem k0_idx446_inb : ∀ (v1175 : IVec S16 32) (k0_hw446 : k0_chk446 v1175), ∀ a x, ((![v1175] : Fin 1 → IVec S16 32) a x).toNat < S32768.size a := fun v1175 k0_hw446 => k0_hw446

def k0_chk447 (v1182 : IVec S16 32) : Prop :=
  (∀ a x, ((![v1182] : Fin 1 → IVec S16 32) a x).toNat < S32768.size a)
theorem k0_idx447_inb : ∀ (v1182 : IVec S16 32) (k0_hw447 : k0_chk447 v1182), ∀ a x, ((![v1182] : Fin 1 → IVec S16 32) a x).toNat < S32768.size a := fun v1182 k0_hw447 => k0_hw447

def k0_chk448 (v1185 : IVec S16 32) : Prop :=
  (∀ a x, ((![v1185] : Fin 1 → IVec S16 32) a x).toNat < S32768.size a)
theorem k0_idx448_inb : ∀ (v1185 : IVec S16 32) (k0_hw448 : k0_chk448 v1185), ∀ a x, ((![v1185] : Fin 1 → IVec S16 32) a x).toNat < S32768.size a := fun v1185 k0_hw448 => k0_hw448
def k0_off89 (k0_t3 : Fin k0_t3_loop.trips) : Fin 1 → Nat :=
  let c1200_i32_218 : BitVec 32 := 1200#32
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1191 : BitVec 32 := Scalar.addi c1200_i32_218 v65
  let v1192 : Index := Scalar.indexCast v1191
  ![v1192.toNat]
def k0_off90 (k0_t3 : Fin k0_t3_loop.trips) (c9600_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1194 : BitVec 32 := Scalar.addi c9600_i32 v65
  let v1195 : Index := Scalar.indexCast v1194
  ![v1195.toNat]

def k0_chk449 (v1201 : IVec S16 32) : Prop :=
  (∀ a x, ((![v1201] : Fin 1 → IVec S16 32) a x).toNat < S32768.size a)
theorem k0_idx449_inb : ∀ (v1201 : IVec S16 32) (k0_hw449 : k0_chk449 v1201), ∀ a x, ((![v1201] : Fin 1 → IVec S16 32) a x).toNat < S32768.size a := fun v1201 k0_hw449 => k0_hw449

def k0_chk450 (v1204 : IVec S16 32) : Prop :=
  (∀ a x, ((![v1204] : Fin 1 → IVec S16 32) a x).toNat < S32768.size a)
theorem k0_idx450_inb : ∀ (v1204 : IVec S16 32) (k0_hw450 : k0_chk450 v1204), ∀ a x, ((![v1204] : Fin 1 → IVec S16 32) a x).toNat < S32768.size a := fun v1204 k0_hw450 => k0_hw450

def k0_chk451 (v1211 : IVec S16 32) : Prop :=
  (∀ a x, ((![v1211] : Fin 1 → IVec S16 32) a x).toNat < S32768.size a)
theorem k0_idx451_inb : ∀ (v1211 : IVec S16 32) (k0_hw451 : k0_chk451 v1211), ∀ a x, ((![v1211] : Fin 1 → IVec S16 32) a x).toNat < S32768.size a := fun v1211 k0_hw451 => k0_hw451

def k0_chk452 (v1214 : IVec S16 32) : Prop :=
  (∀ a x, ((![v1214] : Fin 1 → IVec S16 32) a x).toNat < S32768.size a)
theorem k0_idx452_inb : ∀ (v1214 : IVec S16 32) (k0_hw452 : k0_chk452 v1214), ∀ a x, ((![v1214] : Fin 1 → IVec S16 32) a x).toNat < S32768.size a := fun v1214 k0_hw452 => k0_hw452

def k0_chk453 (v1221 : IVec S16 32) : Prop :=
  (∀ a x, ((![v1221] : Fin 1 → IVec S16 32) a x).toNat < S32768.size a)
theorem k0_idx453_inb : ∀ (v1221 : IVec S16 32) (k0_hw453 : k0_chk453 v1221), ∀ a x, ((![v1221] : Fin 1 → IVec S16 32) a x).toNat < S32768.size a := fun v1221 k0_hw453 => k0_hw453

def k0_chk454 (v1224 : IVec S16 32) : Prop :=
  (∀ a x, ((![v1224] : Fin 1 → IVec S16 32) a x).toNat < S32768.size a)
theorem k0_idx454_inb : ∀ (v1224 : IVec S16 32) (k0_hw454 : k0_chk454 v1224), ∀ a x, ((![v1224] : Fin 1 → IVec S16 32) a x).toNat < S32768.size a := fun v1224 k0_hw454 => k0_hw454

def k0_chk455 (v1231 : IVec S16 32) : Prop :=
  (∀ a x, ((![v1231] : Fin 1 → IVec S16 32) a x).toNat < S32768.size a)
theorem k0_idx455_inb : ∀ (v1231 : IVec S16 32) (k0_hw455 : k0_chk455 v1231), ∀ a x, ((![v1231] : Fin 1 → IVec S16 32) a x).toNat < S32768.size a := fun v1231 k0_hw455 => k0_hw455

def k0_chk456 (v1234 : IVec S16 32) : Prop :=
  (∀ a x, ((![v1234] : Fin 1 → IVec S16 32) a x).toNat < S32768.size a)
theorem k0_idx456_inb : ∀ (v1234 : IVec S16 32) (k0_hw456 : k0_chk456 v1234), ∀ a x, ((![v1234] : Fin 1 → IVec S16 32) a x).toNat < S32768.size a := fun v1234 k0_hw456 => k0_hw456
def k0_off91 (k0_t3 : Fin k0_t3_loop.trips) (c10000_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1240 : BitVec 32 := Scalar.addi c10000_i32 v65
  let v1241 : Index := Scalar.indexCast v1240
  ![v1241.toNat]

def k0_chk457 (v1247 : IVec S16 32) : Prop :=
  (∀ a x, ((![v1247] : Fin 1 → IVec S16 32) a x).toNat < S32768.size a)
theorem k0_idx457_inb : ∀ (v1247 : IVec S16 32) (k0_hw457 : k0_chk457 v1247), ∀ a x, ((![v1247] : Fin 1 → IVec S16 32) a x).toNat < S32768.size a := fun v1247 k0_hw457 => k0_hw457

def k0_chk458 (v1250 : IVec S16 32) : Prop :=
  (∀ a x, ((![v1250] : Fin 1 → IVec S16 32) a x).toNat < S32768.size a)
theorem k0_idx458_inb : ∀ (v1250 : IVec S16 32) (k0_hw458 : k0_chk458 v1250), ∀ a x, ((![v1250] : Fin 1 → IVec S16 32) a x).toNat < S32768.size a := fun v1250 k0_hw458 => k0_hw458

def k0_chk459 (v1257 : IVec S16 32) : Prop :=
  (∀ a x, ((![v1257] : Fin 1 → IVec S16 32) a x).toNat < S32768.size a)
theorem k0_idx459_inb : ∀ (v1257 : IVec S16 32) (k0_hw459 : k0_chk459 v1257), ∀ a x, ((![v1257] : Fin 1 → IVec S16 32) a x).toNat < S32768.size a := fun v1257 k0_hw459 => k0_hw459

def k0_chk460 (v1260 : IVec S16 32) : Prop :=
  (∀ a x, ((![v1260] : Fin 1 → IVec S16 32) a x).toNat < S32768.size a)
theorem k0_idx460_inb : ∀ (v1260 : IVec S16 32) (k0_hw460 : k0_chk460 v1260), ∀ a x, ((![v1260] : Fin 1 → IVec S16 32) a x).toNat < S32768.size a := fun v1260 k0_hw460 => k0_hw460

def k0_chk461 (v1267 : IVec S16 32) : Prop :=
  (∀ a x, ((![v1267] : Fin 1 → IVec S16 32) a x).toNat < S32768.size a)
theorem k0_idx461_inb : ∀ (v1267 : IVec S16 32) (k0_hw461 : k0_chk461 v1267), ∀ a x, ((![v1267] : Fin 1 → IVec S16 32) a x).toNat < S32768.size a := fun v1267 k0_hw461 => k0_hw461

def k0_chk462 (v1270 : IVec S16 32) : Prop :=
  (∀ a x, ((![v1270] : Fin 1 → IVec S16 32) a x).toNat < S32768.size a)
theorem k0_idx462_inb : ∀ (v1270 : IVec S16 32) (k0_hw462 : k0_chk462 v1270), ∀ a x, ((![v1270] : Fin 1 → IVec S16 32) a x).toNat < S32768.size a := fun v1270 k0_hw462 => k0_hw462

def k0_chk463 (v1277 : IVec S16 32) : Prop :=
  (∀ a x, ((![v1277] : Fin 1 → IVec S16 32) a x).toNat < S32768.size a)
theorem k0_idx463_inb : ∀ (v1277 : IVec S16 32) (k0_hw463 : k0_chk463 v1277), ∀ a x, ((![v1277] : Fin 1 → IVec S16 32) a x).toNat < S32768.size a := fun v1277 k0_hw463 => k0_hw463

def k0_chk464 (v1280 : IVec S16 32) : Prop :=
  (∀ a x, ((![v1280] : Fin 1 → IVec S16 32) a x).toNat < S32768.size a)
theorem k0_idx464_inb : ∀ (v1280 : IVec S16 32) (k0_hw464 : k0_chk464 v1280), ∀ a x, ((![v1280] : Fin 1 → IVec S16 32) a x).toNat < S32768.size a := fun v1280 k0_hw464 => k0_hw464
def k0_off92 (k0_t3 : Fin k0_t3_loop.trips) (c10400_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1286 : BitVec 32 := Scalar.addi c10400_i32 v65
  let v1287 : Index := Scalar.indexCast v1286
  ![v1287.toNat]

def k0_chk465 (v1293 : IVec S16 32) : Prop :=
  (∀ a x, ((![v1293] : Fin 1 → IVec S16 32) a x).toNat < S32768.size a)
theorem k0_idx465_inb : ∀ (v1293 : IVec S16 32) (k0_hw465 : k0_chk465 v1293), ∀ a x, ((![v1293] : Fin 1 → IVec S16 32) a x).toNat < S32768.size a := fun v1293 k0_hw465 => k0_hw465

def k0_chk466 (v1296 : IVec S16 32) : Prop :=
  (∀ a x, ((![v1296] : Fin 1 → IVec S16 32) a x).toNat < S32768.size a)
theorem k0_idx466_inb : ∀ (v1296 : IVec S16 32) (k0_hw466 : k0_chk466 v1296), ∀ a x, ((![v1296] : Fin 1 → IVec S16 32) a x).toNat < S32768.size a := fun v1296 k0_hw466 => k0_hw466

def k0_chk467 (v1303 : IVec S16 32) : Prop :=
  (∀ a x, ((![v1303] : Fin 1 → IVec S16 32) a x).toNat < S32768.size a)
theorem k0_idx467_inb : ∀ (v1303 : IVec S16 32) (k0_hw467 : k0_chk467 v1303), ∀ a x, ((![v1303] : Fin 1 → IVec S16 32) a x).toNat < S32768.size a := fun v1303 k0_hw467 => k0_hw467

def k0_chk468 (v1306 : IVec S16 32) : Prop :=
  (∀ a x, ((![v1306] : Fin 1 → IVec S16 32) a x).toNat < S32768.size a)
theorem k0_idx468_inb : ∀ (v1306 : IVec S16 32) (k0_hw468 : k0_chk468 v1306), ∀ a x, ((![v1306] : Fin 1 → IVec S16 32) a x).toNat < S32768.size a := fun v1306 k0_hw468 => k0_hw468

def k0_chk469 (v1313 : IVec S16 32) : Prop :=
  (∀ a x, ((![v1313] : Fin 1 → IVec S16 32) a x).toNat < S32768.size a)
theorem k0_idx469_inb : ∀ (v1313 : IVec S16 32) (k0_hw469 : k0_chk469 v1313), ∀ a x, ((![v1313] : Fin 1 → IVec S16 32) a x).toNat < S32768.size a := fun v1313 k0_hw469 => k0_hw469

def k0_chk470 (v1316 : IVec S16 32) : Prop :=
  (∀ a x, ((![v1316] : Fin 1 → IVec S16 32) a x).toNat < S32768.size a)
theorem k0_idx470_inb : ∀ (v1316 : IVec S16 32) (k0_hw470 : k0_chk470 v1316), ∀ a x, ((![v1316] : Fin 1 → IVec S16 32) a x).toNat < S32768.size a := fun v1316 k0_hw470 => k0_hw470

def k0_chk471 (v1323 : IVec S16 32) : Prop :=
  (∀ a x, ((![v1323] : Fin 1 → IVec S16 32) a x).toNat < S32768.size a)
theorem k0_idx471_inb : ∀ (v1323 : IVec S16 32) (k0_hw471 : k0_chk471 v1323), ∀ a x, ((![v1323] : Fin 1 → IVec S16 32) a x).toNat < S32768.size a := fun v1323 k0_hw471 => k0_hw471

def k0_chk472 (v1326 : IVec S16 32) : Prop :=
  (∀ a x, ((![v1326] : Fin 1 → IVec S16 32) a x).toNat < S32768.size a)
theorem k0_idx472_inb : ∀ (v1326 : IVec S16 32) (k0_hw472 : k0_chk472 v1326), ∀ a x, ((![v1326] : Fin 1 → IVec S16 32) a x).toNat < S32768.size a := fun v1326 k0_hw472 => k0_hw472
def k0_off93 (k0_t3 : Fin k0_t3_loop.trips) (c10800_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1332 : BitVec 32 := Scalar.addi c10800_i32 v65
  let v1333 : Index := Scalar.indexCast v1332
  ![v1333.toNat]

def k0_chk473 (v1339 : IVec S16 32) : Prop :=
  (∀ a x, ((![v1339] : Fin 1 → IVec S16 32) a x).toNat < S32768.size a)
theorem k0_idx473_inb : ∀ (v1339 : IVec S16 32) (k0_hw473 : k0_chk473 v1339), ∀ a x, ((![v1339] : Fin 1 → IVec S16 32) a x).toNat < S32768.size a := fun v1339 k0_hw473 => k0_hw473

def k0_chk474 (v1342 : IVec S16 32) : Prop :=
  (∀ a x, ((![v1342] : Fin 1 → IVec S16 32) a x).toNat < S32768.size a)
theorem k0_idx474_inb : ∀ (v1342 : IVec S16 32) (k0_hw474 : k0_chk474 v1342), ∀ a x, ((![v1342] : Fin 1 → IVec S16 32) a x).toNat < S32768.size a := fun v1342 k0_hw474 => k0_hw474

def k0_chk475 (v1349 : IVec S16 32) : Prop :=
  (∀ a x, ((![v1349] : Fin 1 → IVec S16 32) a x).toNat < S32768.size a)
theorem k0_idx475_inb : ∀ (v1349 : IVec S16 32) (k0_hw475 : k0_chk475 v1349), ∀ a x, ((![v1349] : Fin 1 → IVec S16 32) a x).toNat < S32768.size a := fun v1349 k0_hw475 => k0_hw475

def k0_chk476 (v1352 : IVec S16 32) : Prop :=
  (∀ a x, ((![v1352] : Fin 1 → IVec S16 32) a x).toNat < S32768.size a)
theorem k0_idx476_inb : ∀ (v1352 : IVec S16 32) (k0_hw476 : k0_chk476 v1352), ∀ a x, ((![v1352] : Fin 1 → IVec S16 32) a x).toNat < S32768.size a := fun v1352 k0_hw476 => k0_hw476

def k0_chk477 (v1359 : IVec S16 32) : Prop :=
  (∀ a x, ((![v1359] : Fin 1 → IVec S16 32) a x).toNat < S32768.size a)
theorem k0_idx477_inb : ∀ (v1359 : IVec S16 32) (k0_hw477 : k0_chk477 v1359), ∀ a x, ((![v1359] : Fin 1 → IVec S16 32) a x).toNat < S32768.size a := fun v1359 k0_hw477 => k0_hw477

def k0_chk478 (v1362 : IVec S16 32) : Prop :=
  (∀ a x, ((![v1362] : Fin 1 → IVec S16 32) a x).toNat < S32768.size a)
theorem k0_idx478_inb : ∀ (v1362 : IVec S16 32) (k0_hw478 : k0_chk478 v1362), ∀ a x, ((![v1362] : Fin 1 → IVec S16 32) a x).toNat < S32768.size a := fun v1362 k0_hw478 => k0_hw478

def k0_chk479 (v1369 : IVec S16 32) : Prop :=
  (∀ a x, ((![v1369] : Fin 1 → IVec S16 32) a x).toNat < S32768.size a)
theorem k0_idx479_inb : ∀ (v1369 : IVec S16 32) (k0_hw479 : k0_chk479 v1369), ∀ a x, ((![v1369] : Fin 1 → IVec S16 32) a x).toNat < S32768.size a := fun v1369 k0_hw479 => k0_hw479

def k0_chk480 (v1372 : IVec S16 32) : Prop :=
  (∀ a x, ((![v1372] : Fin 1 → IVec S16 32) a x).toNat < S32768.size a)
theorem k0_idx480_inb : ∀ (v1372 : IVec S16 32) (k0_hw480 : k0_chk480 v1372), ∀ a x, ((![v1372] : Fin 1 → IVec S16 32) a x).toNat < S32768.size a := fun v1372 k0_hw480 => k0_hw480
def k0_off94 (k0_t3 : Fin k0_t3_loop.trips) : Fin 1 → Nat :=
  let c1400_i32_251 : BitVec 32 := 1400#32
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1378 : BitVec 32 := Scalar.addi c1400_i32_251 v65
  let v1379 : Index := Scalar.indexCast v1378
  ![v1379.toNat]
def k0_off95 (k0_t3 : Fin k0_t3_loop.trips) (c11200_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1381 : BitVec 32 := Scalar.addi c11200_i32 v65
  let v1382 : Index := Scalar.indexCast v1381
  ![v1382.toNat]

def k0_chk481 (v1388 : IVec S16 32) : Prop :=
  (∀ a x, ((![v1388] : Fin 1 → IVec S16 32) a x).toNat < S32768.size a)
theorem k0_idx481_inb : ∀ (v1388 : IVec S16 32) (k0_hw481 : k0_chk481 v1388), ∀ a x, ((![v1388] : Fin 1 → IVec S16 32) a x).toNat < S32768.size a := fun v1388 k0_hw481 => k0_hw481

def k0_chk482 (v1391 : IVec S16 32) : Prop :=
  (∀ a x, ((![v1391] : Fin 1 → IVec S16 32) a x).toNat < S32768.size a)
theorem k0_idx482_inb : ∀ (v1391 : IVec S16 32) (k0_hw482 : k0_chk482 v1391), ∀ a x, ((![v1391] : Fin 1 → IVec S16 32) a x).toNat < S32768.size a := fun v1391 k0_hw482 => k0_hw482

def k0_chk483 (v1398 : IVec S16 32) : Prop :=
  (∀ a x, ((![v1398] : Fin 1 → IVec S16 32) a x).toNat < S32768.size a)
theorem k0_idx483_inb : ∀ (v1398 : IVec S16 32) (k0_hw483 : k0_chk483 v1398), ∀ a x, ((![v1398] : Fin 1 → IVec S16 32) a x).toNat < S32768.size a := fun v1398 k0_hw483 => k0_hw483

def k0_chk484 (v1401 : IVec S16 32) : Prop :=
  (∀ a x, ((![v1401] : Fin 1 → IVec S16 32) a x).toNat < S32768.size a)
theorem k0_idx484_inb : ∀ (v1401 : IVec S16 32) (k0_hw484 : k0_chk484 v1401), ∀ a x, ((![v1401] : Fin 1 → IVec S16 32) a x).toNat < S32768.size a := fun v1401 k0_hw484 => k0_hw484

def k0_chk485 (v1408 : IVec S16 32) : Prop :=
  (∀ a x, ((![v1408] : Fin 1 → IVec S16 32) a x).toNat < S32768.size a)
theorem k0_idx485_inb : ∀ (v1408 : IVec S16 32) (k0_hw485 : k0_chk485 v1408), ∀ a x, ((![v1408] : Fin 1 → IVec S16 32) a x).toNat < S32768.size a := fun v1408 k0_hw485 => k0_hw485

def k0_chk486 (v1411 : IVec S16 32) : Prop :=
  (∀ a x, ((![v1411] : Fin 1 → IVec S16 32) a x).toNat < S32768.size a)
theorem k0_idx486_inb : ∀ (v1411 : IVec S16 32) (k0_hw486 : k0_chk486 v1411), ∀ a x, ((![v1411] : Fin 1 → IVec S16 32) a x).toNat < S32768.size a := fun v1411 k0_hw486 => k0_hw486

def k0_chk487 (v1418 : IVec S16 32) : Prop :=
  (∀ a x, ((![v1418] : Fin 1 → IVec S16 32) a x).toNat < S32768.size a)
theorem k0_idx487_inb : ∀ (v1418 : IVec S16 32) (k0_hw487 : k0_chk487 v1418), ∀ a x, ((![v1418] : Fin 1 → IVec S16 32) a x).toNat < S32768.size a := fun v1418 k0_hw487 => k0_hw487

def k0_chk488 (v1421 : IVec S16 32) : Prop :=
  (∀ a x, ((![v1421] : Fin 1 → IVec S16 32) a x).toNat < S32768.size a)
theorem k0_idx488_inb : ∀ (v1421 : IVec S16 32) (k0_hw488 : k0_chk488 v1421), ∀ a x, ((![v1421] : Fin 1 → IVec S16 32) a x).toNat < S32768.size a := fun v1421 k0_hw488 => k0_hw488
def k0_off96 (k0_t3 : Fin k0_t3_loop.trips) (c11600_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1427 : BitVec 32 := Scalar.addi c11600_i32 v65
  let v1428 : Index := Scalar.indexCast v1427
  ![v1428.toNat]

def k0_chk489 (v1434 : IVec S16 32) : Prop :=
  (∀ a x, ((![v1434] : Fin 1 → IVec S16 32) a x).toNat < S32768.size a)
theorem k0_idx489_inb : ∀ (v1434 : IVec S16 32) (k0_hw489 : k0_chk489 v1434), ∀ a x, ((![v1434] : Fin 1 → IVec S16 32) a x).toNat < S32768.size a := fun v1434 k0_hw489 => k0_hw489

def k0_chk490 (v1437 : IVec S16 32) : Prop :=
  (∀ a x, ((![v1437] : Fin 1 → IVec S16 32) a x).toNat < S32768.size a)
theorem k0_idx490_inb : ∀ (v1437 : IVec S16 32) (k0_hw490 : k0_chk490 v1437), ∀ a x, ((![v1437] : Fin 1 → IVec S16 32) a x).toNat < S32768.size a := fun v1437 k0_hw490 => k0_hw490

def k0_chk491 (v1444 : IVec S16 32) : Prop :=
  (∀ a x, ((![v1444] : Fin 1 → IVec S16 32) a x).toNat < S32768.size a)
theorem k0_idx491_inb : ∀ (v1444 : IVec S16 32) (k0_hw491 : k0_chk491 v1444), ∀ a x, ((![v1444] : Fin 1 → IVec S16 32) a x).toNat < S32768.size a := fun v1444 k0_hw491 => k0_hw491

def k0_chk492 (v1447 : IVec S16 32) : Prop :=
  (∀ a x, ((![v1447] : Fin 1 → IVec S16 32) a x).toNat < S32768.size a)
theorem k0_idx492_inb : ∀ (v1447 : IVec S16 32) (k0_hw492 : k0_chk492 v1447), ∀ a x, ((![v1447] : Fin 1 → IVec S16 32) a x).toNat < S32768.size a := fun v1447 k0_hw492 => k0_hw492

def k0_chk493 (v1454 : IVec S16 32) : Prop :=
  (∀ a x, ((![v1454] : Fin 1 → IVec S16 32) a x).toNat < S32768.size a)
theorem k0_idx493_inb : ∀ (v1454 : IVec S16 32) (k0_hw493 : k0_chk493 v1454), ∀ a x, ((![v1454] : Fin 1 → IVec S16 32) a x).toNat < S32768.size a := fun v1454 k0_hw493 => k0_hw493

def k0_chk494 (v1457 : IVec S16 32) : Prop :=
  (∀ a x, ((![v1457] : Fin 1 → IVec S16 32) a x).toNat < S32768.size a)
theorem k0_idx494_inb : ∀ (v1457 : IVec S16 32) (k0_hw494 : k0_chk494 v1457), ∀ a x, ((![v1457] : Fin 1 → IVec S16 32) a x).toNat < S32768.size a := fun v1457 k0_hw494 => k0_hw494

def k0_chk495 (v1464 : IVec S16 32) : Prop :=
  (∀ a x, ((![v1464] : Fin 1 → IVec S16 32) a x).toNat < S32768.size a)
theorem k0_idx495_inb : ∀ (v1464 : IVec S16 32) (k0_hw495 : k0_chk495 v1464), ∀ a x, ((![v1464] : Fin 1 → IVec S16 32) a x).toNat < S32768.size a := fun v1464 k0_hw495 => k0_hw495

def k0_chk496 (v1467 : IVec S16 32) : Prop :=
  (∀ a x, ((![v1467] : Fin 1 → IVec S16 32) a x).toNat < S32768.size a)
theorem k0_idx496_inb : ∀ (v1467 : IVec S16 32) (k0_hw496 : k0_chk496 v1467), ∀ a x, ((![v1467] : Fin 1 → IVec S16 32) a x).toNat < S32768.size a := fun v1467 k0_hw496 => k0_hw496
def k0_off97 (k0_t3 : Fin k0_t3_loop.trips) (c12000_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1473 : BitVec 32 := Scalar.addi c12000_i32 v65
  let v1474 : Index := Scalar.indexCast v1473
  ![v1474.toNat]

def k0_chk497 (v1480 : IVec S16 32) : Prop :=
  (∀ a x, ((![v1480] : Fin 1 → IVec S16 32) a x).toNat < S32768.size a)
theorem k0_idx497_inb : ∀ (v1480 : IVec S16 32) (k0_hw497 : k0_chk497 v1480), ∀ a x, ((![v1480] : Fin 1 → IVec S16 32) a x).toNat < S32768.size a := fun v1480 k0_hw497 => k0_hw497

def k0_chk498 (v1483 : IVec S16 32) : Prop :=
  (∀ a x, ((![v1483] : Fin 1 → IVec S16 32) a x).toNat < S32768.size a)
theorem k0_idx498_inb : ∀ (v1483 : IVec S16 32) (k0_hw498 : k0_chk498 v1483), ∀ a x, ((![v1483] : Fin 1 → IVec S16 32) a x).toNat < S32768.size a := fun v1483 k0_hw498 => k0_hw498

def k0_chk499 (v1490 : IVec S16 32) : Prop :=
  (∀ a x, ((![v1490] : Fin 1 → IVec S16 32) a x).toNat < S32768.size a)
theorem k0_idx499_inb : ∀ (v1490 : IVec S16 32) (k0_hw499 : k0_chk499 v1490), ∀ a x, ((![v1490] : Fin 1 → IVec S16 32) a x).toNat < S32768.size a := fun v1490 k0_hw499 => k0_hw499

def k0_chk500 (v1493 : IVec S16 32) : Prop :=
  (∀ a x, ((![v1493] : Fin 1 → IVec S16 32) a x).toNat < S32768.size a)
theorem k0_idx500_inb : ∀ (v1493 : IVec S16 32) (k0_hw500 : k0_chk500 v1493), ∀ a x, ((![v1493] : Fin 1 → IVec S16 32) a x).toNat < S32768.size a := fun v1493 k0_hw500 => k0_hw500

def k0_chk501 (v1500 : IVec S16 32) : Prop :=
  (∀ a x, ((![v1500] : Fin 1 → IVec S16 32) a x).toNat < S32768.size a)
theorem k0_idx501_inb : ∀ (v1500 : IVec S16 32) (k0_hw501 : k0_chk501 v1500), ∀ a x, ((![v1500] : Fin 1 → IVec S16 32) a x).toNat < S32768.size a := fun v1500 k0_hw501 => k0_hw501

def k0_chk502 (v1503 : IVec S16 32) : Prop :=
  (∀ a x, ((![v1503] : Fin 1 → IVec S16 32) a x).toNat < S32768.size a)
theorem k0_idx502_inb : ∀ (v1503 : IVec S16 32) (k0_hw502 : k0_chk502 v1503), ∀ a x, ((![v1503] : Fin 1 → IVec S16 32) a x).toNat < S32768.size a := fun v1503 k0_hw502 => k0_hw502

def k0_chk503 (v1510 : IVec S16 32) : Prop :=
  (∀ a x, ((![v1510] : Fin 1 → IVec S16 32) a x).toNat < S32768.size a)
theorem k0_idx503_inb : ∀ (v1510 : IVec S16 32) (k0_hw503 : k0_chk503 v1510), ∀ a x, ((![v1510] : Fin 1 → IVec S16 32) a x).toNat < S32768.size a := fun v1510 k0_hw503 => k0_hw503

def k0_chk504 (v1513 : IVec S16 32) : Prop :=
  (∀ a x, ((![v1513] : Fin 1 → IVec S16 32) a x).toNat < S32768.size a)
theorem k0_idx504_inb : ∀ (v1513 : IVec S16 32) (k0_hw504 : k0_chk504 v1513), ∀ a x, ((![v1513] : Fin 1 → IVec S16 32) a x).toNat < S32768.size a := fun v1513 k0_hw504 => k0_hw504
def k0_off98 (k0_t3 : Fin k0_t3_loop.trips) (c12400_i32 : BitVec 32) : Fin 1 → Nat :=
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1519 : BitVec 32 := Scalar.addi c12400_i32 v65
  let v1520 : Index := Scalar.indexCast v1519
  ![v1520.toNat]

def k0_chk505 (v1526 : IVec S16 32) : Prop :=
  (∀ a x, ((![v1526] : Fin 1 → IVec S16 32) a x).toNat < S32768.size a)
theorem k0_idx505_inb : ∀ (v1526 : IVec S16 32) (k0_hw505 : k0_chk505 v1526), ∀ a x, ((![v1526] : Fin 1 → IVec S16 32) a x).toNat < S32768.size a := fun v1526 k0_hw505 => k0_hw505

def k0_chk506 (v1529 : IVec S16 32) : Prop :=
  (∀ a x, ((![v1529] : Fin 1 → IVec S16 32) a x).toNat < S32768.size a)
theorem k0_idx506_inb : ∀ (v1529 : IVec S16 32) (k0_hw506 : k0_chk506 v1529), ∀ a x, ((![v1529] : Fin 1 → IVec S16 32) a x).toNat < S32768.size a := fun v1529 k0_hw506 => k0_hw506

def k0_chk507 (v1536 : IVec S16 32) : Prop :=
  (∀ a x, ((![v1536] : Fin 1 → IVec S16 32) a x).toNat < S32768.size a)
theorem k0_idx507_inb : ∀ (v1536 : IVec S16 32) (k0_hw507 : k0_chk507 v1536), ∀ a x, ((![v1536] : Fin 1 → IVec S16 32) a x).toNat < S32768.size a := fun v1536 k0_hw507 => k0_hw507

def k0_chk508 (v1539 : IVec S16 32) : Prop :=
  (∀ a x, ((![v1539] : Fin 1 → IVec S16 32) a x).toNat < S32768.size a)
theorem k0_idx508_inb : ∀ (v1539 : IVec S16 32) (k0_hw508 : k0_chk508 v1539), ∀ a x, ((![v1539] : Fin 1 → IVec S16 32) a x).toNat < S32768.size a := fun v1539 k0_hw508 => k0_hw508

def k0_chk509 (v1546 : IVec S16 32) : Prop :=
  (∀ a x, ((![v1546] : Fin 1 → IVec S16 32) a x).toNat < S32768.size a)
theorem k0_idx509_inb : ∀ (v1546 : IVec S16 32) (k0_hw509 : k0_chk509 v1546), ∀ a x, ((![v1546] : Fin 1 → IVec S16 32) a x).toNat < S32768.size a := fun v1546 k0_hw509 => k0_hw509

def k0_chk510 (v1549 : IVec S16 32) : Prop :=
  (∀ a x, ((![v1549] : Fin 1 → IVec S16 32) a x).toNat < S32768.size a)
theorem k0_idx510_inb : ∀ (v1549 : IVec S16 32) (k0_hw510 : k0_chk510 v1549), ∀ a x, ((![v1549] : Fin 1 → IVec S16 32) a x).toNat < S32768.size a := fun v1549 k0_hw510 => k0_hw510

def k0_chk511 (v1556 : IVec S16 32) : Prop :=
  (∀ a x, ((![v1556] : Fin 1 → IVec S16 32) a x).toNat < S32768.size a)
theorem k0_idx511_inb : ∀ (v1556 : IVec S16 32) (k0_hw511 : k0_chk511 v1556), ∀ a x, ((![v1556] : Fin 1 → IVec S16 32) a x).toNat < S32768.size a := fun v1556 k0_hw511 => k0_hw511

def k0_chk512 (v1559 : IVec S16 32) : Prop :=
  (∀ a x, ((![v1559] : Fin 1 → IVec S16 32) a x).toNat < S32768.size a)
theorem k0_idx512_inb : ∀ (v1559 : IVec S16 32) (k0_hw512 : k0_chk512 v1559), ∀ a x, ((![v1559] : Fin 1 → IVec S16 32) a x).toNat < S32768.size a := fun v1559 k0_hw512 => k0_hw512
def k0_off99 (k0_t1 : Fin k0_t1_loop.trips) (k0_t3 : Fin k0_t3_loop.trips) : Fin 3 → Nat :=
  let c0_i32_286 : BitVec 32 := 0#32
  let v1571 : Index := Scalar.indexCast c0_i32_286
  let c2_i32_42 : BitVec 32 := 2#32
  let c0_i32_6 : BitVec 32 := 0#32
  let c1_i32 : BitVec 32 := 1#32
  let arg22 : BitVec 32 := Scf.iv c0_i32_6 c1_i32 k0_t1
  let v61 : BitVec 32 := Scalar.muli c2_i32_42 arg22
  let c1_i32_43 : BitVec 32 := 1#32
  let v62 : BitVec 32 := Scalar.addi v61 c1_i32_43
  let v1572 : Index := Scalar.indexCast v62
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1573 : Index := Scalar.indexCast v65
  ![0, v1572.toNat, v1573.toNat]
def k0_off100 (k0_t1 : Fin k0_t1_loop.trips) (k0_t3 : Fin k0_t3_loop.trips) : Fin 3 → Nat :=
  let c1_i32_289 : BitVec 32 := 1#32
  let v1581 : Index := Scalar.indexCast c1_i32_289
  let c2_i32_42 : BitVec 32 := 2#32
  let c0_i32_6 : BitVec 32 := 0#32
  let c1_i32 : BitVec 32 := 1#32
  let arg22 : BitVec 32 := Scf.iv c0_i32_6 c1_i32 k0_t1
  let v61 : BitVec 32 := Scalar.muli c2_i32_42 arg22
  let c1_i32_43 : BitVec 32 := 1#32
  let v62 : BitVec 32 := Scalar.addi v61 c1_i32_43
  let v1582 : Index := Scalar.indexCast v62
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1583 : Index := Scalar.indexCast v65
  ![1, v1582.toNat, v1583.toNat]
def k0_off101 (k0_t1 : Fin k0_t1_loop.trips) (k0_t3 : Fin k0_t3_loop.trips) : Fin 3 → Nat :=
  let c2_i32_292 : BitVec 32 := 2#32
  let v1591 : Index := Scalar.indexCast c2_i32_292
  let c2_i32_42 : BitVec 32 := 2#32
  let c0_i32_6 : BitVec 32 := 0#32
  let c1_i32 : BitVec 32 := 1#32
  let arg22 : BitVec 32 := Scf.iv c0_i32_6 c1_i32 k0_t1
  let v61 : BitVec 32 := Scalar.muli c2_i32_42 arg22
  let c1_i32_43 : BitVec 32 := 1#32
  let v62 : BitVec 32 := Scalar.addi v61 c1_i32_43
  let v1592 : Index := Scalar.indexCast v62
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1593 : Index := Scalar.indexCast v65
  ![2, v1592.toNat, v1593.toNat]
def k0_off102 (k0_t1 : Fin k0_t1_loop.trips) (k0_t3 : Fin k0_t3_loop.trips) : Fin 3 → Nat :=
  let c3_i32_295 : BitVec 32 := 3#32
  let v1601 : Index := Scalar.indexCast c3_i32_295
  let c2_i32_42 : BitVec 32 := 2#32
  let c0_i32_6 : BitVec 32 := 0#32
  let c1_i32 : BitVec 32 := 1#32
  let arg22 : BitVec 32 := Scf.iv c0_i32_6 c1_i32 k0_t1
  let v61 : BitVec 32 := Scalar.muli c2_i32_42 arg22
  let c1_i32_43 : BitVec 32 := 1#32
  let v62 : BitVec 32 := Scalar.addi v61 c1_i32_43
  let v1602 : Index := Scalar.indexCast v62
  let c0_i32_45 : BitVec 32 := 0#32
  let c1_i32_47 : BitVec 32 := 1#32
  let arg23 : BitVec 32 := Scf.iv c0_i32_45 c1_i32_47 k0_t3
  let c16_i32_49 : BitVec 32 := 16#32
  let v64 : BitVec 32 := Scalar.muli arg23 c16_i32_49
  let c184_i32 : BitVec 32 := 184#32
  let v65 : BitVec 32 := Scalar.minsi v64 c184_i32
  let v1603 : Index := Scalar.indexCast v65
  ![3, v1602.toNat, v1603.toNat]
def k0_off103 (i : grid0.Coords) : Fin 3 → Nat :=
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_17_r0 : BitVec 32 := 0#32
  ![0, v2.toNat, 0]
def k0_off104 (i : grid0.Coords) : Fin 3 → Nat :=
  let c1_i32_11 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_17_r1 : BitVec 32 := 0#32
  ![1, v2.toNat, 0]
def k0_off105 (i : grid0.Coords) : Fin 3 → Nat :=
  let c2_i32_13 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_17_r2 : BitVec 32 := 0#32
  ![2, v2.toNat, 0]
def k0_off106 (i : grid0.Coords) : Fin 3 → Nat :=
  let c3_i32_14 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_17_r3 : BitVec 32 := 0#32
  ![3, v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1024x8 : Shape := ⟨3, ![4, 1024, 8]⟩
abbrev S1024x200x64 : Shape := ⟨3, ![1024, 200, 64]⟩
abbrev S1024x200 : Shape := ⟨2, ![1024, 200]⟩
abbrev S1024x200x64x2 : Shape := ⟨4, ![1024, 200, 64, 2]⟩
abbrev S1024x8x4 : Shape := ⟨3, ![1024, 8, 4]⟩
abbrev S1024x200x64x1 : Shape := ⟨4, ![1024, 200, 64, 1]⟩
abbrev S_ : Shape := ⟨0, ![]⟩
abbrev S1024x200x64x4 : Shape := ⟨4, ![1024, 200, 64, 4]⟩
abbrev S4x1024x200x64 : Shape := ⟨4, ![4, 1024, 200, 64]⟩
abbrev S1x1024x200x64 : Shape := ⟨4, ![1, 1024, 200, 64]⟩
abbrev S4x1024x200 : Shape := ⟨3, ![4, 1024, 200]⟩
abbrev S1x1024x200 : Shape := ⟨3, ![1, 1024, 200]⟩

abbrev nBuf : Space → Nat
  | .hbm => 44
  | .vmem => 0
  | .smem => 0
  | _ => 0

abbrev bufTy : (tb : Table) → Fin (tcTables nBuf tb) → BufTy
  | .hbm, ⟨0, _⟩ => ⟨S4x1024x8, .f32⟩
  | .hbm, ⟨1, _⟩ => ⟨S1024x200x64, .f32⟩
  | .hbm, ⟨2, _⟩ => ⟨S1024x200, .f32⟩
  | .hbm, ⟨3, _⟩ => ⟨S1024x200x64x2, .i32⟩
  | .hbm, ⟨4, _⟩ => ⟨S1024x8x4, .f32⟩
  | .hbm, ⟨5, _⟩ => ⟨S1024x200x64x1, .i32⟩
  | .hbm, ⟨6, _⟩ => ⟨S1024x200x64, .i32⟩
  | .hbm, ⟨7, _⟩ => ⟨S1024x200x64x1, .i32⟩
  | .hbm, ⟨8, _⟩ => ⟨S1024x200x64, .i32⟩
  | .hbm, ⟨9, _⟩ => ⟨S_, .i32⟩
  | .hbm, ⟨10, _⟩ => ⟨S1024x200x64, .i32⟩
  | .hbm, ⟨11, _⟩ => ⟨S1024x200x64, .i1⟩
  | .hbm, ⟨12, _⟩ => ⟨S_, .i32⟩
  | .hbm, ⟨13, _⟩ => ⟨S1024x200x64, .i32⟩
  | .hbm, ⟨14, _⟩ => ⟨S1024x200x64, .i32⟩
  | .hbm, ⟨15, _⟩ => ⟨S1024x200x64, .i32⟩
  | .hbm, ⟨16, _⟩ => ⟨S_, .i32⟩
  | .hbm, ⟨17, _⟩ => ⟨S1024x200x64, .i32⟩
  | .hbm, ⟨18, _⟩ => ⟨S1024x200x64, .i1⟩
  | .hbm, ⟨19, _⟩ => ⟨S_, .i32⟩
  | .hbm, ⟨20, _⟩ => ⟨S1024x200x64, .i32⟩
  | .hbm, ⟨21, _⟩ => ⟨S1024x200x64, .i32⟩
  | .hbm, ⟨22, _⟩ => ⟨S1024x200x64, .i32⟩
  | .hbm, ⟨23, _⟩ => ⟨S1024x200x64x1, .i32⟩
  | .hbm, ⟨24, _⟩ => ⟨S1024x200x64x1, .i32⟩
  | .hbm, ⟨25, _⟩ => ⟨S1024x200x64x2, .i32⟩
  | .hbm, ⟨26, _⟩ => ⟨S1024x200x64x4, .f32⟩
  | .hbm, ⟨27, _⟩ => ⟨S4x1024x200x64, .f32⟩
  | .hbm, ⟨28, _⟩ => ⟨S1x1024x200x64, .f32⟩
  | .hbm, ⟨29, _⟩ => ⟨S4x1024x200x64, .f32⟩
  | .hbm, ⟨30, _⟩ => ⟨S4x1024x200x64, .f32⟩
  | .hbm, ⟨31, _⟩ => ⟨S_, .f32⟩
  | .hbm, ⟨32, _⟩ => ⟨S4x1024x200, .f32⟩
  | .hbm, ⟨33, _⟩ => ⟨S1x1024x200, .f32⟩
  | .hbm, ⟨34, _⟩ => ⟨S4x1024x200, .f32⟩
  | .hbm, ⟨35, _⟩ => ⟨S4x1024x200, .f32⟩
  | .hbm, ⟨36, _⟩ => ⟨S_, .f32⟩
  | .hbm, ⟨37, _⟩ => ⟨S_, .f32⟩
  | .hbm, ⟨38, _⟩ => ⟨S4x1024x200, .f32⟩
  | .hbm, ⟨39, _⟩ => ⟨S4x1024x200, .i1⟩
  | .hbm, ⟨40, _⟩ => ⟨S_, .f32⟩
  | .hbm, ⟨41, _⟩ => ⟨S4x1024x200, .f32⟩
  | .hbm, ⟨42, _⟩ => ⟨S4x1024x200, .f32⟩
  | .hbm, ⟨43, _⟩ => ⟨S4x1024x200, .f32⟩
  | _, _ => ⟨S4x1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Proof.Sparse.Group.lean ====
/-
  What one group of sixteen output positions does, as a program written with a few definitions: it
  reads the sixteen biases, then, for each of the eight patches and each of the four channel pairs,
  two rows of weights, gathers the pair's words of the table for each of the four batches and adds
  the products to a running sum (`step`), and at the end writes each batch's sixteen results
  (`put`). The two loops that the kernel prints, one per buffer, are this program at that buffer's
  memory (`trip0_eq`, `trip1_eq`).
-/
module

public import proofs.«01_k».proof.Proof.Gen.KernelIdeal.Skeleton

@[expose] public section

noncomputable section

namespace Cert.Proof.Patch

open Cert.KernelIdeal Cert.KernelIdeal.Gen
open Idealize.ShloMosaic Idealize.SL.Sem

variable {F : FTy → Type} [FloatOps F]

/-- The first position of group `t`, as the kernel computes it. -/
def start (t : Fin k0_t2_loop.trips) : BitVec 32 := Scalar.minsi (Scalar.muli (Scf.iv 0#32 1#32 t) 16#32) 184#32

/-- Group `t`'s offset into the biases, and its offset into row `k` of a buffer of rows of 200. -/
def biasOff (t : Fin k0_t2_loop.trips) : Fin 1 → Nat := ![(Scalar.indexCast (start t)).toNat]
def rowOff (t : Fin k0_t2_loop.trips) (k : Nat) : Fin 1 → Nat :=
  ![(Scalar.indexCast (Scalar.addi (BitVec.ofNat 32 (200 * k)) (start t))).toNat]

theorem start_eq : ∀ t : Fin k0_t2_loop.trips, (start t).toNat = min (16 * t.val) 184 := by decide +kernel
theorem biasOff_eq (t : Fin k0_t2_loop.trips) : biasOff t = ![min (16 * t.val) 184] := k0_off10_eq t
theorem rowOff_eq (t : Fin k0_t2_loop.trips) (k : Fin 64) : rowOff t k.val = ![200 * k.val + min (16 * t.val) 184] := by
  revert t k; decide +kernel

theorem biasOff_inb (t : Fin k0_t2_loop.trips) : ∀ a, biasOff t a + S16.size a ≤ S200.size a := k0_off10_inb t
theorem posOff_inb (t : Fin k0_t2_loop.trips) (j : Fin 8) : ∀ a, rowOff t j.val a + S16.size a ≤ S1600.size a := by
  revert t j; decide +kernel
theorem wOff_inb (t : Fin k0_t2_loop.trips) (k : Fin 64) : ∀ a, rowOff t k.val a + S16.size a ≤ S12800.size a := by
  revert t k; decide +kernel

/-- Row `8 j + c` of the sixty-four weight rows. -/
def wRow (j c : Fin 8) : Fin 64 := ⟨8 * j.val + c.val, by omega⟩

/-- Four running sums, one per batch. -/
structure Four (F : FTy → Type) where
  a0 : Vec F S16 .f32
  a1 : Vec F S16 .f32
  a2 : Vec F S16 .f32
  a3 : Vec F S16 .f32

/-- The sums, each starting at `v`. -/
def Four.all (v : Vec F S16 .f32) : Four F := ⟨v, v, v, v⟩

/-- The effects of the tile at `i`. -/
abbrev TileEff (F : FTy → Type) [FloatOps F] (i : grid0.Coords) :=
  TpuEff nD τ sig (Elt F) Λ₀ (.scVector ((i 0).castLE hcore0) ((i 1).castLE hsub0))

variable (i : grid0.Coords) (tab : Memref sig .scVector .vmem S32768 .f32) (wb : Memref sig .scVector .vmem S12800 .f32)
  (pb : Memref sig .scVector .vmem S1600 .i32) (bb : Memref sig .scVector .vmem S200 .f32) (ob : Memref sig .scVector .vmem S4x32x200 .f32)

/-- Check that the sixteen words name words of the table, and gather those. -/
def gather (v : IVec S16 32) : Prog (TileEff F i) (Vec F S16 .f32) := do
  have h : k0_chk1 v := (← Prog.lift (TpuEff.assume (k0_chk1 v) (k0_chk1.dec v))).down
  SparseCore.vectorLoadIdx tab ![v] h (View.loads_vmem h_S32768)

/-- One batch's term: the pair's two products added to the batch's running sum; `n` is the plane of the pair's first channel. -/
def term (p : IVec S16 32) (w0 w1 a : Vec F S16 .f32) (n : Nat) : Prog (TileEff F i) (Vec F S16 .f32) := do
  let g0 ← gather i tab (addi p (broadcast S16 (BitVec.ofNat 32 (1024 * n))))
  let g1 ← gather i tab (addi p (broadcast S16 (BitVec.ofNat 32 (1024 * (n + 1)))))
  pure (addf a (addf (mulf g0 w0) (mulf g1 w1)))

/-- One channel pair of patch `j`: its two rows of weights, and every batch's term. -/
def pair (t : Fin k0_t2_loop.trips) (p : IVec S16 32) (j c c' : Fin 8) (a : Four F) : Prog (TileEff F i) (Four F) := do
  let w0 : Vec F S16 .f32 ← Prog.lift (.load wb (Rect.unit (s := S12800) (rowOff t (wRow j c).val) S16.size (wOff_inb t (wRow j c))).toLoadRect (View.loadsAt_vmem h_S16))
  let w1 : Vec F S16 .f32 ← Prog.lift (.load wb (Rect.unit (s := S12800) (rowOff t (wRow j c').val) S16.size (wOff_inb t (wRow j c'))).toLoadRect (View.loadsAt_vmem h_S16))
  let r0 ← term i tab p w0 w1 a.a0 c.val
  let r1 ← term i tab p w0 w1 a.a1 (8 + c.val)
  let r2 ← term i tab p w0 w1 a.a2 (16 + c.val)
  let r3 ← term i tab p w0 w1 a.a3 (24 + c.val)
  pure ⟨r0, r1, r2, r3⟩

/-- Patch `j`: the sixteen positions, and the four channel pairs. -/
def step (t : Fin k0_t2_loop.trips) (j : Fin 8) (a : Four F) : Prog (TileEff F i) (Four F) := do
  let p : Vec F S16 .i32 ← Prog.lift (.load pb (Rect.unit (s := S1600) (rowOff t j.val) S16.size (posOff_inb t j)).toLoadRect (View.loadsAt_vmem h_S16))
  let a ← pair i tab wb t p j 0 1 a
  let a ← pair i tab wb t p j 2 3 a
  let a ← pair i tab wb t p j 4 5 a
  pair i tab wb t p j 6 7 a

/-- The kernel's activation. -/
def leaky (r : Vec F S16 .f32) : Vec F S16 .f32 :=
  select (cmpf .oge r (broadcast S16 (Scalar.ofBits .f32 0x00000000#32))) r (mulf r (broadcast S16 (Scalar.ofBits .f32 0x3DCCCCCD#32)))

/-- Write sixteen results at an offset of the output buffer. -/
def put (off : Fin 3 → Nat) (h : ∀ a, off a + S1x1x16.size a ≤ S4x32x200.size a) (r : Vec F S16 .f32) : Prog (TileEff F i) PUnit := do
  let _ : Vec F S1x1x16 .f32 ← Prog.lift (.load ob (Rect.unit (s := S4x32x200) off S1x1x16.size h).toLoadRect (View.loadsAt_vmem h_S1x1x16))
  Prog.lift (.store ob (Rect.unit (s := S4x32x200) off S1x1x16.size h) (shapeCast S1x1x16 r shapeCasts_S16_S1x1x16) Finset.univ
    (View.stores_vmem_bits_univ h_S1x1x16 rfl) (.inl rfl))

/-- The whole group. -/
def group (t : Fin k0_t2_loop.trips) (off : Fin 4 → Fin 3 → Nat) (h : ∀ b a, off b a + S1x1x16.size a ≤ S4x32x200.size a) : Prog (TileEff F i) Unit := do
  let bias : Vec F S16 .f32 ← Prog.lift (.load bb (Rect.unit (s := S200) (biasOff t) S16.size (biasOff_inb t)).toLoadRect (View.loadsAt_vmem h_S16))
  let e ← step i tab wb pb t 0 (.all bias)
  let o ← step i tab wb pb t 1 (.all (broadcast S16 (Scalar.ofBits .f32 0x00000000#32)))
  let e ← step i tab wb pb t 2 e
  let o ← step i tab wb pb t 3 o
  let e ← step i tab wb pb t 4 e
  let o ← step i tab wb pb t 5 o
  let e ← step i tab wb pb t 6 e
  let o ← step i tab wb pb t 7 o
  put i ob (off 0) (h 0) (leaky (addf e.a0 o.a0))
  put i ob (off 1) (h 1) (leaky (addf e.a1 o.a1))
  put i ob (off 2) (h 2) (leaky (addf e.a2 o.a2))
  put i ob (off 3) (h 3) (leaky (addf e.a3 o.a3))
  pure ⟨⟩

/-- Where the results of group `t` of pair `s`'s first row go, batch by batch. -/
def off0 (s : Fin k0_t1_loop.trips) (t : Fin k0_t2_loop.trips) : Fin 4 → Fin 3 → Nat
  | 0 => k0_off51 s t
  | 1 => k0_off52 s t
  | 2 => k0_off53 s t
  | 3 => k0_off54 s t

theorem off0_inb (s : Fin k0_t1_loop.trips) (t : Fin k0_t2_loop.trips) : ∀ b a, off0 s t b a + S1x1x16.size a ≤ S4x32x200.size a
  | 0 => k0_off51_inb s t
  | 1 => k0_off52_inb s t
  | 2 => k0_off53_inb s t
  | 3 => k0_off54_inb s t

theorem off0_eq (s : Fin k0_t1_loop.trips) (t : Fin k0_t2_loop.trips) : ∀ b : Fin 4, off0 s t b = ![b.val, 2 * s.val, min (16 * t.val) 184]
  | 0 => k0_off51_eq s t
  | 1 => k0_off52_eq s t
  | 2 => k0_off53_eq s t
  | 3 => k0_off54_eq s t

/-- Where the results of group `t` of pair `s`'s second row go, batch by batch. -/
def off1 (s : Fin k0_t1_loop.trips) (t : Fin k0_t2_loop.trips) : Fin 4 → Fin 3 → Nat
  | 0 => k0_off99 s t
  | 1 => k0_off100 s t
  | 2 => k0_off101 s t
  | 3 => k0_off102 s t

theorem off1_inb (s : Fin k0_t1_loop.trips) (t : Fin k0_t2_loop.trips) : ∀ b a, off1 s t b a + S1x1x16.size a ≤ S4x32x200.size a
  | 0 => k0_off99_inb s t
  | 1 => k0_off100_inb s t
  | 2 => k0_off101_inb s t
  | 3 => k0_off102_inb s t

theorem off1_eq (s : Fin k0_t1_loop.trips) (t : Fin k0_t2_loop.trips) : ∀ b : Fin 4, off1 s t b = ![b.val, 2 * s.val + 1, min (16 * t.val) 184]
  | 0 => k0_off99_eq s t
  | 1 => k0_off100_eq s t
  | 2 => k0_off101_eq s t
  | 3 => k0_off102_eq s t

end Cert.Proof.Patch
-- ==== Proof.Sparse.OpCongr.lean ====
/-
  Two programs that start with the same operation are equal when they go on equally.
-/
module
public import proofs.«01_k».proof.Proof.Sparse.Group
@[expose] public section
namespace Cert.Proof.Patch
open Idealize.SL.Sem
universe v

/-- Two programs with the same first operation are equal when their continuations agree on every result. -/
theorem op_congr {E : Type → Type v} {α β : Type} {e : E β} {k k' : β → Prog E α} (h : ∀ x, k x = k' x) : Prog.op e k = Prog.op e k' := by
  rw [funext h]

end Cert.Proof.Patch
-- ==== Proof.Sparse.Trip0.lean ====
/-
  The loop over the first buffer's groups, one trip: the group, at that buffer's memory.
-/
module
public import proofs.«01_k».proof.Proof.Sparse.OpCongr
@[expose] public section
noncomputable section
namespace Cert.Proof.Patch
open Cert.KernelIdeal Cert.KernelIdeal.Gen
open Idealize.ShloMosaic Idealize.SL.Sem
variable {F : FTy → Type} [FloatOps F]

set_option maxRecDepth 65536 in
set_option maxHeartbeats 40000000 in
/-- One trip of the loop over the first buffer's groups is the group at that buffer's memory. -/
theorem trip0_eq (i : grid0.Coords) (arg2 : Memref sig .scVector .hbm S32768 .f32) (harg2 : arg2.IsWhole) (arg3 : Memref sig .scVector .hbm S1024x1600 .i32) (harg3 : arg3.IsWhole) (arg4 : Memref sig .scVector .hbm S1024x12800 .f32) (harg4 : arg4.IsWhole) (arg5 : Memref sig .scVector .hbm S1024x200 .f32) (harg5 : arg5.IsWhole) (arg6 : Memref sig .scVector .hbm S4x1024x200 .f32) (harg6 : arg6.IsWhole) (arg7 : Memref sig .scVector .vmem S32768 .f32) (harg7 : arg7.IsWhole) (arg8 : Memref sig .scVector .vmem S12800 .f32) (harg8 : arg8.IsWhole) (arg9 : Memref sig .scVector .vmem S12800 .f32) (harg9 : arg9.IsWhole) (arg10 : Memref sig .scVector .vmem S1600 .i32) (harg10 : arg10.IsWhole) (arg11 : Memref sig .scVector .vmem S1600 .i32) (harg11 : arg11.IsWhole) (arg12 : Memref sig .scVector .vmem S200 .f32) (harg12 : arg12.IsWhole) (arg13 : Memref sig .scVector .vmem S200 .f32) (harg13 : arg13.IsWhole) (arg14 : Memref sig .scVector .vmem S4x32x200 .f32) (harg14 : arg14.IsWhole) (arg15 : DmaSems sig S_) (arg16 : DmaSems sig S_) (arg17 : DmaSems sig S_) (arg18 : DmaSems sig S_) (arg19 : DmaSems sig S_) (arg20 : DmaSems sig S_) (arg21 : DmaSems sig S_) (v16_r0 : DmaSems sig S_) (v16_r1 : DmaSems sig S_) (v16_r2 : DmaSems sig S_) (v16_r3 : DmaSems sig S_) (v2 : BitVec 32) (c0_i32_6 : BitVec 32) (c1_i32 : BitVec 32) (k0_t1 : Fin k0_t1_loop.trips) (v43 : BitVec 32) (t : Fin k0_t2_loop.trips) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 v16_r0 v16_r1 v16_r2 v16_r3 v2 c0_i32_6 c1_i32 k0_t1 v43 t ⟨⟩ = group i arg7 arg8 arg10 arg12 arg14 t (off0 k0_t1 t) (off0_inb k0_t1 t) := by
  unfold k0_t2_body group
  repeat (refine op_congr (fun x => ?_))
  rfl

end Cert.Proof.Patch
-- ==== Proof.Sparse.Trip1.lean ====
/-
  The loop over the second buffer's groups, one trip: the group, at that buffer's memory.
-/
module
public import proofs.«01_k».proof.Proof.Sparse.OpCongr
@[expose] public section
noncomputable section
namespace Cert.Proof.Patch
open Cert.KernelIdeal Cert.KernelIdeal.Gen
open Idealize.ShloMosaic Idealize.SL.Sem
variable {F : FTy → Type} [FloatOps F]

set_option maxRecDepth 65536 in
set_option maxHeartbeats 40000000 in
/-- One trip of the loop over the second buffer's groups is the group at that buffer's memory. -/
theorem trip1_eq (i : grid0.Coords) (arg2 : Memref sig .scVector .hbm S32768 .f32) (harg2 : arg2.IsWhole) (arg3 : Memref sig .scVector .hbm S1024x1600 .i32) (harg3 : arg3.IsWhole) (arg4 : Memref sig .scVector .hbm S1024x12800 .f32) (harg4 : arg4.IsWhole) (arg5 : Memref sig .scVector .hbm S1024x200 .f32) (harg5 : arg5.IsWhole) (arg6 : Memref sig .scVector .hbm S4x1024x200 .f32) (harg6 : arg6.IsWhole) (arg7 : Memref sig .scVector .vmem S32768 .f32) (harg7 : arg7.IsWhole) (arg8 : Memref sig .scVector .vmem S12800 .f32) (harg8 : arg8.IsWhole) (arg9 : Memref sig .scVector .vmem S12800 .f32) (harg9 : arg9.IsWhole) (arg10 : Memref sig .scVector .vmem S1600 .i32) (harg10 : arg10.IsWhole) (arg11 : Memref sig .scVector .vmem S1600 .i32) (harg11 : arg11.IsWhole) (arg12 : Memref sig .scVector .vmem S200 .f32) (harg12 : arg12.IsWhole) (arg13 : Memref sig .scVector .vmem S200 .f32) (harg13 : arg13.IsWhole) (arg14 : Memref sig .scVector .vmem S4x32x200 .f32) (harg14 : arg14.IsWhole) (arg15 : DmaSems sig S_) (arg16 : DmaSems sig S_) (arg17 : DmaSems sig S_) (arg18 : DmaSems sig S_) (arg19 : DmaSems sig S_) (arg20 : DmaSems sig S_) (arg21 : DmaSems sig S_) (v16_r0 : DmaSems sig S_) (v16_r1 : DmaSems sig S_) (v16_r2 : DmaSems sig S_) (v16_r3 : DmaSems sig S_) (k0_t1 : Fin k0_t1_loop.trips) (v62 : BitVec 32) (t : Fin k0_t2_loop.trips) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 v16_r0 v16_r1 v16_r2 v16_r3 k0_t1 v62 t ⟨⟩ = group i arg7 arg9 arg11 arg13 arg14 t (off1 k0_t1 t) (off1_inb k0_t1 t) := by
  unfold k0_t3_body group
  repeat (refine op_congr (fun x => ?_))
  rfl

end Cert.Proof.Patch
-- ==== Proof.Sparse.TileProg.lean ====
/-
  What one tile does, as a program written with a few definitions: it copies the table in, and then
  works through its 32 rows in pairs, copying one row's weights, positions and biases into one set of
  buffers while it computes the other's; at the end it copies each batch's block of results out.
  The kernel's body is this program (`body_eq`).
-/
module

public import proofs.«01_k».proof.Proof.Sparse.Trip0
public import proofs.«01_k».proof.Proof.Sparse.Trip1

@[expose] public section

noncomputable section

namespace Cert.Proof.Patch

open Cert.KernelIdeal Cert.KernelIdeal.Gen
open Idealize.ShloMosaic Idealize.SL.Sem

variable {F : FTy → Type} [FloatOps F]

/-- The arrays in the shared memory: table, positions, weights, biases and result. -/
abbrev tabA : Memref sig .scVector .hbm S32768 .f32 := Memref.whole main_v7_scv
abbrev posA : Memref sig .scVector .hbm S1024x1600 .i32 := Memref.whole main_v3_scv
abbrev wA : Memref sig .scVector .hbm S1024x12800 .f32 := Memref.whole main_v9_scv
abbrev biasA : Memref sig .scVector .hbm S1024x200 .f32 := Memref.whole main_arg2_scv
abbrev outA : Memref sig .scVector .hbm S4x1024x200 .f32 := Memref.whole main_v10_scv

/-- The tile's copy of the table, and its block of results. -/
abbrev tabB : Memref sig .scVector .vmem S32768 .f32 := Memref.whole cc0_scratch0
abbrev outB : Memref sig .scVector .vmem S4x32x200 .f32 := Memref.whole cc0_scratch7

/-- One set of buffers for a row, with the semaphores of the copies into them. -/
structure Bufs where
  w : Memref sig .scVector .vmem S12800 .f32
  hw : w.IsWhole
  p : Memref sig .scVector .vmem S1600 .i32
  hp : p.IsWhole
  b : Memref sig .scVector .vmem S200 .f32
  hb : b.IsWhole
  sw : DmaSems sig S_
  sp : DmaSems sig S_
  sb : DmaSems sig S_

/-- The two sets. -/
abbrev bufs0 : Bufs := ⟨Memref.whole cc0_scratch1, Memref.isWhole_whole _, Memref.whole cc0_scratch3, Memref.isWhole_whole _, Memref.whole cc0_scratch5, Memref.isWhole_whole _,
  cc0_scratch9, cc0_scratch11, cc0_scratch13⟩
abbrev bufs1 : Bufs := ⟨Memref.whole cc0_scratch2, Memref.isWhole_whole _, Memref.whole cc0_scratch4, Memref.isWhole_whole _, Memref.whole cc0_scratch6, Memref.isWhole_whole _,
  cc0_scratch10, cc0_scratch12, cc0_scratch14⟩

/-- The row at an offset into the weights, the positions, the biases. -/
abbrev wRowA (off : Fin 2 → ℕ) (h : ∀ a, off a + S1x12800.size a ≤ S1024x12800.size a) : Memref sig .scVector .hbm S12800 .f32 :=
  (wA.slice (Rect.unit (s := S1024x12800) off S1x12800.size h) (fun _ => rfl)).squeeze S12800 squeezes_S1x12800_S12800
abbrev pRowA (off : Fin 2 → ℕ) (h : ∀ a, off a + S1x1600.size a ≤ S1024x1600.size a) : Memref sig .scVector .hbm S1600 .i32 :=
  (posA.slice (Rect.unit (s := S1024x1600) off S1x1600.size h) (fun _ => rfl)).squeeze S1600 squeezes_S1x1600_S1600
abbrev bRowA (off : Fin 2 → ℕ) (h : ∀ a, off a + S1x200.size a ≤ S1024x200.size a) : Memref sig .scVector .hbm S200 .f32 :=
  (biasA.slice (Rect.unit (s := S1024x200) off S1x200.size h) (fun _ => rfl)).squeeze S200 squeezes_S1x200_S200

/-- Batch `b`'s block of the tile's results, and the block of the result at an offset. -/
abbrev outRowB (off : Fin 3 → ℕ) (h : ∀ a, off a + S1x32x200.size a ≤ S4x32x200.size a) : Memref sig .scVector .vmem S32x200 .f32 :=
  (outB.slice (Rect.unit (s := S4x32x200) off S1x32x200.size h) (fun _ => rfl)).squeeze S32x200 squeezes_S1x32x200_S32x200
abbrev outRowA (off : Fin 3 → ℕ) (h : ∀ a, off a + S1x32x200.size a ≤ S4x1024x200.size a) : Memref sig .scVector .hbm S32x200 .f32 :=
  (outA.slice (Rect.unit (s := S4x1024x200) off S1x32x200.size h) (fun _ => rfl)).squeeze S32x200 squeezes_S1x32x200_S32x200

variable (i : grid0.Coords)

/-- Start the copies of a row into a set of buffers. -/
def fetch (B : Bufs) (ow op ob : Fin 2 → ℕ) (hw : ∀ a, ow a + S1x12800.size a ≤ S1024x12800.size a) (hp : ∀ a, op a + S1x1600.size a ≤ S1024x1600.size a)
    (hb : ∀ a, ob a + S1x200.size a ≤ S1024x200.size a) : Prog (TileEff F i) PUnit := do
  Prog.lift (.enqueueDma (wRowA ow hw) (.here B.w) (.dma B.sw.sem) ((View.wordExact_bits rfl).reshape _ _) B.hw.wordExact ⟨Or.inl rfl, trivial⟩)
  Prog.lift (.enqueueDma (pRowA op hp) (.here B.p) (.dma B.sp.sem) ((View.wordExact_bits rfl).reshape _ _) B.hp.wordExact ⟨Or.inl rfl, trivial⟩)
  Prog.lift (.enqueueDma (bRowA ob hb) (.here B.b) (.dma B.sb.sem) ((View.wordExact_bits rfl).reshape _ _) B.hb.wordExact ⟨Or.inl rfl, trivial⟩)

/-- Wait for them. -/
def await (B : Bufs) (ow op ob : Fin 2 → ℕ) (hw : ∀ a, ow a + S1x12800.size a ≤ S1024x12800.size a) (hp : ∀ a, op a + S1x1600.size a ≤ S1024x1600.size a)
    (hb : ∀ a, ob a + S1x200.size a ≤ S1024x200.size a) : Prog (TileEff F i) PUnit := do
  Prog.lift (.waitDma2 B.sw.sem (wRowA ow hw) B.w ((View.wordExact_bits rfl).reshape _ _) B.hw.wordExact)
  Prog.lift (.waitDma2 B.sp.sem (pRowA op hp) B.p ((View.wordExact_bits rfl).reshape _ _) B.hp.wordExact)
  Prog.lift (.waitDma2 B.sb.sem (bRowA ob hb) B.b ((View.wordExact_bits rfl).reshape _ _) B.hb.wordExact)

/-- Start the next pair's first row, if there is a next pair. -/
def fetchNext (s : Fin k0_t1_loop.trips) : Prog (TileEff F i) PUnit :=
  if h : k0_cond1 s = 1#1 then fetch i bufs0 (k0_off55 i s) (k0_off56 i s) (k0_off57 i s) (k0_off55_inb i s h) (k0_off56_inb i s h) (k0_off57_inb i s h) else pure ⟨⟩

/-- One pair of rows. -/
def rows (s : Fin k0_t1_loop.trips) : Prog (TileEff F i) PUnit := do
  fetch i bufs1 (k0_off4 i s) (k0_off5 i s) (k0_off6 i s) (k0_off4_inb i s) (k0_off5_inb i s) (k0_off6_inb i s)
  await i bufs0 (k0_off7 i s) (k0_off8 i s) (k0_off9 i s) (k0_off7_inb i s) (k0_off8_inb i s) (k0_off9_inb i s)
  Scf.Loop.for k0_t2_loop k0_t2_ok ⟨⟩ fun t _ => group i tabB bufs0.w bufs0.p bufs0.b outB t (off0 s t) (off0_inb s t)
  fetchNext i s
  await i bufs1 (k0_off4 i s) (k0_off5 i s) (k0_off6 i s) (k0_off4_inb i s) (k0_off5_inb i s) (k0_off6_inb i s)
  Scf.Loop.for k0_t3_loop k0_t3_ok ⟨⟩ fun t _ => group i tabB bufs1.w bufs1.p bufs1.b outB t (off1 s t) (off1_inb s t)
  pure ⟨⟩

/-- Copy one batch's block of results out, and wait for it. -/
def copyOut (sem : DmaSems sig S_) (src dst : Fin 3 → ℕ) (hs : ∀ a, src a + S1x32x200.size a ≤ S4x32x200.size a)
    (hd : ∀ a, dst a + S1x32x200.size a ≤ S4x1024x200.size a) : Prog (TileEff F i) PUnit := do
  Prog.lift (.enqueueDma (outRowB src hs) (.here (outRowA dst hd)) (.dma sem.sem) ((View.wordExact_bits rfl).reshape _ _) ((View.wordExact_bits rfl).reshape _ _) ⟨Or.inl rfl, trivial⟩)
  Prog.lift (.waitDma2 sem.sem (outRowB src hs) (outRowA dst hd) ((View.wordExact_bits rfl).reshape _ _) ((View.wordExact_bits rfl).reshape _ _))

/-- The tile's whole program. -/
def tileProg : Prog (TileEff F i) PUnit := do
  Prog.lift (.enqueueDma tabA (.here tabB) (.dma cc0_scratch8.sem) (Memref.isWhole_whole _).wordExact (Memref.isWhole_whole _).wordExact ⟨Or.inl rfl, trivial⟩)
  fetch i bufs0 (k0_off1 i) (k0_off2 i) (k0_off3 i) (k0_off1_inb i) (k0_off2_inb i) (k0_off3_inb i)
  Prog.lift (.waitDma2 cc0_scratch8.sem tabA tabB (Memref.isWhole_whole _).wordExact (Memref.isWhole_whole _).wordExact)
  Scf.Loop.for k0_t1_loop k0_t1_ok ⟨⟩ fun s _ => rows i s
  copyOut i cc0_scoped0 ![0, 0, 0] (k0_off103 i) inb_S4x32x200_S1x32x200_0_0_0 (k0_off103_inb i)
  copyOut i cc0_scoped1 ![1, 0, 0] (k0_off104 i) inb_S4x32x200_S1x32x200_1_0_0 (k0_off104_inb i)
  copyOut i cc0_scoped2 ![2, 0, 0] (k0_off105 i) inb_S4x32x200_S1x32x200_2_0_0 (k0_off105_inb i)
  copyOut i cc0_scoped3 ![3, 0, 0] (k0_off106 i) inb_S4x32x200_S1x32x200_3_0_0 (k0_off106_inb i)
  pure ⟨⟩

/-- The kernel's body at the call's memory. -/
abbrev bodyProg : Prog (TileEff F i) PUnit :=
  cc0__sc_body i tabA (Memref.isWhole_whole _) posA (Memref.isWhole_whole _) wA (Memref.isWhole_whole _) biasA (Memref.isWhole_whole _) outA (Memref.isWhole_whole _)
    tabB (Memref.isWhole_whole _) bufs0.w bufs0.hw bufs1.w bufs1.hw bufs0.p bufs0.hp bufs1.p bufs1.hp bufs0.b bufs0.hb bufs1.b bufs1.hb outB (Memref.isWhole_whole _)
    cc0_scratch8 cc0_scratch9 cc0_scratch10 cc0_scratch11 cc0_scratch12 cc0_scratch13 cc0_scratch14 cc0_scoped0 cc0_scoped1 cc0_scoped2 cc0_scoped3

set_option maxRecDepth 65536 in
set_option maxHeartbeats 4000000 in
/-- One trip of the loop over pairs is one pair of rows. -/
theorem rows_eq (v2 : BitVec 32) :
    k0_t1_body (F := F) i tabA (Memref.isWhole_whole _) posA (Memref.isWhole_whole _) wA (Memref.isWhole_whole _) biasA (Memref.isWhole_whole _) outA (Memref.isWhole_whole _)
      tabB (Memref.isWhole_whole _) bufs0.w bufs0.hw bufs1.w bufs1.hw bufs0.p bufs0.hp bufs1.p bufs1.hp bufs0.b bufs0.hb bufs1.b bufs1.hb outB (Memref.isWhole_whole _)
      cc0_scratch8 cc0_scratch9 cc0_scratch10 cc0_scratch11 cc0_scratch12 cc0_scratch13 cc0_scratch14 cc0_scoped0 cc0_scoped1 cc0_scoped2 cc0_scoped3 v2
      = fun s _ => rows i s := by
  funext s u
  unfold k0_t1_body rows
  rw [k0_part73_eq_skeleton]
  unfold k0_part73_skel
  have e0 : ∀ v2 c0 c1 v43, k0_t2_body (F := F) i tabA (Memref.isWhole_whole _) posA (Memref.isWhole_whole _) wA (Memref.isWhole_whole _) biasA (Memref.isWhole_whole _) outA (Memref.isWhole_whole _)
      tabB (Memref.isWhole_whole _) bufs0.w bufs0.hw bufs1.w bufs1.hw bufs0.p bufs0.hp bufs1.p bufs1.hp bufs0.b bufs0.hb bufs1.b bufs1.hb outB (Memref.isWhole_whole _)
      cc0_scratch8 cc0_scratch9 cc0_scratch10 cc0_scratch11 cc0_scratch12 cc0_scratch13 cc0_scratch14 cc0_scoped0 cc0_scoped1 cc0_scoped2 cc0_scoped3 v2 c0 c1 s v43
      = fun t _ => group i tabB bufs0.w bufs0.p bufs0.b outB t (off0 s t) (off0_inb s t) := by
    intro v2 c0 c1 v43; funext t u; exact trip0_eq ..
  have e1 : ∀ v62, k0_t3_body (F := F) i tabA (Memref.isWhole_whole _) posA (Memref.isWhole_whole _) wA (Memref.isWhole_whole _) biasA (Memref.isWhole_whole _) outA (Memref.isWhole_whole _)
      tabB (Memref.isWhole_whole _) bufs0.w bufs0.hw bufs1.w bufs1.hw bufs0.p bufs0.hp bufs1.p bufs1.hp bufs0.b bufs0.hb bufs1.b bufs1.hb outB (Memref.isWhole_whole _)
      cc0_scratch8 cc0_scratch9 cc0_scratch10 cc0_scratch11 cc0_scratch12 cc0_scratch13 cc0_scratch14 cc0_scoped0 cc0_scoped1 cc0_scoped2 cc0_scoped3 s v62
      = fun t _ => group i tabB bufs1.w bufs1.p bufs1.b outB t (off1 s t) (off1_inb s t) := by
    intro v62; funext t u; exact trip1_eq ..
  simp only [e0, e1, bind_assoc, pure_bind, fetch, await, fetchNext]
  split <;> rename_i h <;> simp only [h, bind_assoc, pure_bind, dite_true, dite_false]

set_option maxRecDepth 65536 in
set_option maxHeartbeats 4000000 in
/-- The kernel's body is the tile's program. -/
theorem body_eq : bodyProg (F := F) i = tileProg i := by
  unfold bodyProg cc0__sc_body tileProg
  rw [k0_part74_eq_skeleton, k0_part75_eq_skeleton]
  unfold k0_part74_skel k0_part75_skel
  have e := rows_eq (F := F) i
  dsimp only at e
  simp only [e, bind_assoc, pure_bind, fetch, copyOut]

end Cert.Proof.Patch
-- ==== Proof.Sparse.Setup.lean ====
/-
  The launch of the kernel as the machine sees it: its configuration, the resources that the proof
  works over, and the names of the arrays in the shared memory.
-/
module

public import proofs.«01_k».proof.Proof.Sparse.Group
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Patch

open Cert.KernelIdeal Cert.KernelIdeal.Gen
open Idealize.ShloMosaic
open Idealize.ShloMosaic.SparseCore (V)
open Idealize.ShloMosaic.SparseCore.Cfg (HIx Pay)
open Idealize.SL Idealize.SL.RA Idealize.SL.BI Idealize.SL.Sem
open Idealize.ShloMosaic.Rounds

variable {F : FTy → Type}

/-! ## The launch -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds, and the transfers' counters -/

abbrev UH : Type := URounds (GSem nD τ sig) ℕ
abbrev UU : Type := UH × Counters
/-- The resources of the proof. -/
abbrev Res (F : FTy → Type) := MT nD τ sig (HIx 1) (Elt F) ℕ UU ℕ
abbrev EH : Emb UH (Res F) := embL

/-! ## The arrays of the call, and the tiles -/

/-- The table of values, the positions, the weights, the biases and the result, on device `d`. -/
abbrev tabLoc (d : Dev nD) : Loc nD τ sig := (SparseCore.T d).loc main_v7
abbrev posLoc (d : Dev nD) : Loc nD τ sig := (SparseCore.T d).loc main_v3
abbrev wLoc (d : Dev nD) : Loc nD τ sig := (SparseCore.T d).loc main_v9
abbrev biasLoc (d : Dev nD) : Loc nD τ sig := (SparseCore.T d).loc main_arg2
abbrev outLoc (d : Dev nD) : Loc nD τ sig := (SparseCore.T d).loc main_v10

abbrev cV (L : grid0.Coords) : Fin τ.nSC := (L 0).castLE hcore0
abbrev jV (L : grid0.Coords) : Fin τ.nSub := (L 1).castLE hsub0
/-- The tile at `L`, on device `d`. -/
abbrev tile (d : Dev nD) (L : grid0.Coords) : Thread nD τ := V d (cV L) (jV L)

end Cert.Proof.Patch
-- ==== Proof.Sparse.Lane.lean ====
/-
  The arithmetic of one output element: what the kernel adds up at one position of one row for one
  batch, in the order in which it adds it. `tab` is the table of values (plane `8 b + c` of 1024
  words holds batch `b`'s channel `c`), `pos j` the row of the table that patch `j` starts at, and
  `w k` the weight of term `k`.
-/
module

public import proofs.«01_k».proof.Proof.Sparse.Setup

@[expose] public section

noncomputable section

namespace Cert.Proof.Patch

open Idealize.ShloMosaic

variable {F : FTy → Type} [FloatOps F]

/-- The two products of one pair of channels, planes `n` and `n + 1`, added to `a`. -/
def laneTerm (tab : ℕ → F .f32) (pos n : ℕ) (w0 w1 a : F .f32) : F .f32 :=
  FloatOps.addf a (FloatOps.addf (FloatOps.mulf (tab (pos + 1024 * n)) w0) (FloatOps.mulf (tab (pos + 1024 * (n + 1))) w1))

/-- The pair of channels `c` and `c + 1` of patch `j`, for batch `b`. -/
def lanePair (tab : ℕ → F .f32) (pos : ℕ) (w : ℕ → F .f32) (b j c : ℕ) (a : F .f32) : F .f32 :=
  laneTerm tab pos (8 * b + c) (w (8 * j + c)) (w (8 * j + (c + 1))) a

/-- Patch `j`: its four pairs. -/
def laneStep (tab : ℕ → F .f32) (pos : ℕ) (w : ℕ → F .f32) (b j : ℕ) (a : F .f32) : F .f32 :=
  lanePair tab pos w b j 6 (lanePair tab pos w b j 4 (lanePair tab pos w b j 2 (lanePair tab pos w b j 0 a)))

/-- The activation. -/
def laneLeaky (r : F .f32) : F .f32 :=
  Scalar.select (FloatOps.cmpf .oge r (Scalar.ofBits .f32 0x00000000#32)) r (FloatOps.mulf r (Scalar.ofBits .f32 0x3DCCCCCD#32))

/-- The sum over the even patches, from the bias, and over the odd ones, from zero. -/
def laneEven (tab : ℕ → F .f32) (pos : ℕ → ℕ) (w : ℕ → F .f32) (bias : F .f32) (b : ℕ) : F .f32 :=
  laneStep tab (pos 6) w b 6 (laneStep tab (pos 4) w b 4 (laneStep tab (pos 2) w b 2 (laneStep tab (pos 0) w b 0 bias)))
def laneOdd (tab : ℕ → F .f32) (pos : ℕ → ℕ) (w : ℕ → F .f32) (b : ℕ) : F .f32 :=
  laneStep tab (pos 7) w b 7 (laneStep tab (pos 5) w b 5 (laneStep tab (pos 3) w b 3 (laneStep tab (pos 1) w b 1 (Scalar.ofBits .f32 0x00000000#32))))

/-- The output element. -/
def lane (tab : ℕ → F .f32) (pos : ℕ → ℕ) (w : ℕ → F .f32) (bias : F .f32) (b : ℕ) : F .f32 :=
  laneLeaky (FloatOps.addf (laneEven tab pos w bias b) (laneOdd tab pos w b))

end Cert.Proof.Patch
-- ==== Proof.Sparse.GroupWp.lean ====
/-
  What a group computes: the program of Group.lean, run by a tile that holds the table, its
  buffer's weights, positions and biases, and the output buffer, leaves in the output buffer at
  every batch's offset the sixteen elements of Lane.lean.
-/
module

public import proofs.«01_k».proof.Proof.Sparse.Lane
public import Idealize.ShloMosaic.Lib.WritesUnit
public import Idealize.ShloMosaic.Lib.Pointwise

@[expose] public section

noncomputable section

namespace Cert.Proof.Patch

open Cert.KernelIdeal Cert.KernelIdeal.Gen
open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Element `n` of an array of one axis. -/
def word {N : ℕ} {A : Type} (X : (⟨1, ![N]⟩ : Shape).Idx → A) (h : 0 < N) (n : ℕ) : A :=
  X fun a => ⟨n % N, by rw [show (⟨1, ![N]⟩ : Shape).size a = N from congrArg (![N] : Fin 1 → ℕ) (Subsingleton.elim (α := Fin 1) a 0)]; exact Nat.mod_lt n h⟩

/-- Words of the table, of a row's weights, of its positions and of its biases, by their numbers. -/
abbrev tabW (X : Vec F S32768 .f32) (n : ℕ) : F .f32 := word (N := 32768) X (by decide) n
abbrev weightW (X : Vec F S12800 .f32) (n : ℕ) : F .f32 := word (N := 12800) X (by decide) n
abbrev posW (X : IVec S1600 32) (n : ℕ) : BitVec 32 := word (N := 1600) X (by decide) n
abbrev biasW (X : Vec F S200 .f32) (n : ℕ) : F .f32 := word (N := 200) X (by decide) n

/-- The element under an index is the element at the index's number. -/
theorem word_of {N : ℕ} {A : Type} (X : (⟨1, ![N]⟩ : Shape).Idx → A) (h : 0 < N) (y : (⟨1, ![N]⟩ : Shape).Idx) {n : ℕ} (hn : (y (0 : Fin 1)).val = n) :
    X y = word X h n := by
  subst hn
  refine congrArg X (funext fun a => Fin.ext ?_)
  obtain rfl : a = 0 := Subsingleton.elim (α := Fin 1) a 0
  exact (Nat.mod_eq_of_lt (y (0 : Fin 1)).isLt).symm

/-- A unit-stride read of sixteen elements of a buffer of one axis, at one of them. -/
theorem read_unit {N : ℕ} {e : EltTy} (m : Memref sig .scVector .vmem ⟨1, ![N]⟩ e) (h : 0 < N) {off : Fin 1 → ℕ} {o : ℕ} (ho : off = ![o])
    (inb : ∀ a, off a + S16.size a ≤ (⟨1, ![N]⟩ : Shape).size a) (f : m.view.ty.Contents (Elt F)) (x : S16.Idx) :
    (m.access (Rect.unit (s := ⟨1, ![N]⟩) off S16.size inb)).read (Elt F) f x = word (m.view.read (Elt F) f) h (o + (x (0 : Fin 1)).val) := by
  subst ho
  refine word_of (m.view.read (Elt F) f) h ((Rect.unit (s := ⟨1, ![N]⟩) ![o] S16.size inb).emb x) ?_
  show o + 1 * _ = _
  rw [Nat.one_mul]

theorem read_whole {s : Shape} {e : EltTy} (m : Memref sig .scVector .vmem s e) (f : m.view.ty.Contents (Elt F)) :
    (m.access (.whole s)).read (Elt F) f = m.view.read (Elt F) f := by
  funext x
  show _root_.cast _ (f (m.view.emb ((Rect.whole s).emb x))) = _
  rw [View.read_apply]
  congr 2
  exact congrArg _ (Rect.emb_whole_apply s x)

variable {d : Dev nD} {i : grid0.Coords} {tab : Memref sig .scVector .vmem S32768 .f32} {wb : Memref sig .scVector .vmem S12800 .f32}
  {pb : Memref sig .scVector .vmem S1600 .i32} {bb : Memref sig .scVector .vmem S200 .f32} {ob : Memref sig .scVector .vmem S4x32x200 .f32}

/-- Gathering sixteen words of the table, each number in its range. -/
theorem wp_gather {α : Type} {Q : α → sProp 𝕄} {v : IVec S16 32} (hv : ∀ x, (v x).toNat < 32768) {k : Vec F S16 .f32 → Prog (TileEff F i) α}
    {Y : Buf (Elt F) (tab.view.loc (tile d i))} :
    (tab.view.loc (tile d i) ↦{fullShare} Y)
      ⊢ iprop(((tab.view.loc (tile d i) ↦{fullShare} Y)
          -∗ wp frame (wpE defs₀ 𝒱₀ (tile d i) none) Set.univ (k fun x => tabW (tab.view.read (Elt F) Y) (v x).toNat) Q)
        -∗ wp frame (wpE defs₀ 𝒱₀ (tile d i) none) Set.univ (gather i tab v >>= k) Q) := by
  have hc : k0_chk1 v := fun a x => by
    obtain rfl : a = 0 := Subsingleton.elim (α := Fin 1) a 0; exact hv x
  have e : (fun x => tabW (tab.view.read (Elt F) Y) (v x).toNat) = loadIdx ((tab.access (.whole S32768)).read (Elt F) Y) ![v] hc := by
    rw [read_whole]
    funext x
    exact (word_of (N := 32768) (tab.view.read (Elt F) Y) (by decide) (fun a => ⟨(![v] a x).toNat, hc a x⟩) rfl).symm
  unfold gather
  simp only [bind_assoc]
  refine .trans ?_ (wand_mono_right (wp_assume 𝒱₀ (tile d i) none Set.univ hc))
  rw [e]
  exact SparseCore.wp_vectorLoadIdx (defs := defs₀ (F := F)) 𝒱₀ (tile d i) none Set.univ (Q := Q) (base := tab) (idxs := ![v]) (h := hc)
    (hl := View.loads_vmem h_S32768) (k := k) (S := Finset.univ) (q := fullShare) (f := Y) (Finset.subset_univ _)

theorem plane_toNat {p : IVec S16 32} {n : ℕ} (hn : n ≤ 31) (x : S16.Idx) (hp : (p x).toNat < 1024) :
    (addi p (broadcast S16 (BitVec.ofNat 32 (1024 * n))) x).toNat = (p x).toNat + 1024 * n := by
  show (p x + BitVec.ofNat 32 (1024 * n)).toNat = _
  rw [BitVec.toNat_add, BitVec.toNat_ofNat]
  omega

/-- One batch's term. -/
theorem wp_term {α : Type} {Q : α → sProp 𝕄} {p : IVec S16 32} (hp : ∀ x, (p x).toNat < 1024) {w0 w1 a : Vec F S16 .f32} {n : ℕ} (hn : n ≤ 30)
    {k : Vec F S16 .f32 → Prog (TileEff F i) α} {Y : Buf (Elt F) (tab.view.loc (tile d i))} :
    (tab.view.loc (tile d i) ↦{fullShare} Y)
      ⊢ iprop(((tab.view.loc (tile d i) ↦{fullShare} Y)
          -∗ wp frame (wpE defs₀ 𝒱₀ (tile d i) none) Set.univ
            (k fun x => laneTerm (tabW (tab.view.read (Elt F) Y)) (p x).toNat n (w0 x) (w1 x) (a x)) Q)
        -∗ wp frame (wpE defs₀ 𝒱₀ (tile d i) none) Set.univ (term i tab p w0 w1 a n >>= k) Q) := by
  unfold term
  simp only [bind_assoc, pure_bind]
  iintro H Hk
  iapply (wp_gather (fun x => by rw [plane_toNat (by omega) x (hp x)]; have := hp x; omega)) $$ H
  iintro H
  iapply (wp_gather (fun x => by rw [plane_toNat (by omega) x (hp x)]; have := hp x; omega)) $$ H
  iintro H
  have e : (addf a (addf (mulf (fun x => tabW (tab.view.read (Elt F) Y) (addi p (broadcast S16 (BitVec.ofNat 32 (1024 * n))) x).toNat) w0)
      (mulf (fun x => tabW (tab.view.read (Elt F) Y) (addi p (broadcast S16 (BitVec.ofNat 32 (1024 * (n + 1)))) x).toNat) w1)) : Vec F S16 .f32)
      = fun x => laneTerm (tabW (tab.view.read (Elt F) Y)) (p x).toNat n (w0 x) (w1 x) (a x) := by
    funext x
    show FloatOps.addf _ (FloatOps.addf (FloatOps.mulf (tabW _ _) _) (FloatOps.mulf (tabW _ _) _)) = _
    rw [plane_toNat (by omega) x (hp x), plane_toNat (by omega) x (hp x)]
    rfl
  rw [e]
  iapply Hk $$ H

/-- The four sums after one channel pair. -/
def Four.pair (tab : ℕ → F .f32) (pos : S16.Idx → ℕ) (w : S16.Idx → ℕ → F .f32) (j c : ℕ) (a : Four F) : Four F :=
  ⟨fun x => lanePair tab (pos x) (w x) 0 j c (a.a0 x), fun x => lanePair tab (pos x) (w x) 1 j c (a.a1 x),
    fun x => lanePair tab (pos x) (w x) 2 j c (a.a2 x), fun x => lanePair tab (pos x) (w x) 3 j c (a.a3 x)⟩

/-- The four sums after one patch. -/
def Four.step (tab : ℕ → F .f32) (pos : S16.Idx → ℕ) (w : S16.Idx → ℕ → F .f32) (j : ℕ) (a : Four F) : Four F :=
  ⟨fun x => laneStep tab (pos x) (w x) 0 j (a.a0 x), fun x => laneStep tab (pos x) (w x) 1 j (a.a1 x),
    fun x => laneStep tab (pos x) (w x) 2 j (a.a2 x), fun x => laneStep tab (pos x) (w x) 3 j (a.a3 x)⟩

theorem Four.step_eq (tab : ℕ → F .f32) (pos : S16.Idx → ℕ) (w : S16.Idx → ℕ → F .f32) (j : ℕ) (a : Four F) :
    (((a.pair tab pos w j 0).pair tab pos w j 2).pair tab pos w j 4).pair tab pos w j 6 = a.step tab pos w j := rfl

/-- The first position of group `t`. -/
abbrev g0 (t : Fin k0_t2_loop.trips) : ℕ := min (16 * t.val) 184

/-- The weights, the patch positions and the biases that the sixteen lanes of group `t` meet. -/
abbrev wLane (t : Fin k0_t2_loop.trips) (W : Vec F S12800 .f32) (x : S16.Idx) (k : ℕ) : F .f32 := weightW W (200 * k + g0 t + (x (0 : Fin 1)).val)
abbrev pLane (t : Fin k0_t2_loop.trips) (P : IVec S1600 32) (j : ℕ) (x : S16.Idx) : ℕ := (posW P (200 * j + g0 t + (x (0 : Fin 1)).val)).toNat
abbrev bLane (t : Fin k0_t2_loop.trips) (B : Vec F S200 .f32) (x : S16.Idx) : F .f32 := biasW B (g0 t + (x (0 : Fin 1)).val)

/-- One channel pair of one patch. -/
theorem wp_pair {α : Type} {Q : α → sProp 𝕄} {t : Fin k0_t2_loop.trips} {p : IVec S16 32} (hp : ∀ x, (p x).toNat < 1024) {j c c' : Fin 8} (hc : c'.val = c.val + 1) {a : Four F}
    {k : Four F → Prog (TileEff F i) α} {Y : Buf (Elt F) (tab.view.loc (tile d i))} {W : Buf (Elt F) (wb.view.loc (tile d i))} :
    iprop((tab.view.loc (tile d i) ↦{fullShare} Y) ∗ (wb.view.loc (tile d i) ↦{fullShare} W))
      ⊢ iprop((((tab.view.loc (tile d i) ↦{fullShare} Y) ∗ (wb.view.loc (tile d i) ↦{fullShare} W))
          -∗ wp frame (wpE defs₀ 𝒱₀ (tile d i) none) Set.univ
            (k (a.pair (tabW (tab.view.read (Elt F) Y)) (fun x => (p x).toNat) (wLane t (wb.view.read (Elt F) W)) j.val c.val)) Q)
        -∗ wp frame (wpE defs₀ 𝒱₀ (tile d i) none) Set.univ (pair i tab wb t p j c c' a >>= k) Q) := by
  unfold pair
  simp only [bind_assoc]
  simp only [pure_bind, Prog.bind_lift]
  have r : ∀ q : Fin 8, (wb.access (Rect.unit (s := S12800) (rowOff t (wRow j q).val) S16.size (wOff_inb t (wRow j q)))).read (Elt F) W
      = fun x => wLane t (wb.view.read (Elt F) W) x (8 * j.val + q.val) := fun q => by
    funext x
    exact read_unit (N := 12800) wb (by decide) (rowOff_eq t (wRow j q)) _ W x
  iintro ⟨H, HW⟩ Hk
  iapply (wp_load_rect (m := wb) (r := Rect.unit (s := S12800) (rowOff t (wRow j c).val) S16.size (wOff_inb t (wRow j c))) (hl := View.loadsAt_vmem h_S16) (S := Finset.univ) (q := fullShare) (f := W) 𝒱₀ (tile d i) none Set.univ (Finset.subset_univ _)) $$ HW
  iintro HW
  iapply (wp_load_rect (m := wb) (r := Rect.unit (s := S12800) (rowOff t (wRow j c').val) S16.size (wOff_inb t (wRow j c'))) (hl := View.loadsAt_vmem h_S16) (S := Finset.univ) (q := fullShare) (f := W) 𝒱₀ (tile d i) none Set.univ (Finset.subset_univ _)) $$ HW
  iintro HW
  rw [r, r]
  iapply (wp_term (d := d) (i := i) (tab := tab) (Y := Y) (n := c.val) (p := p) (w0 := fun x => wLane t (wb.view.read (Elt F) W) x (8 * j.val + c.val)) (w1 := fun x => wLane t (wb.view.read (Elt F) W) x (8 * j.val + c'.val)) hp (by omega)) $$ H
  iintro H
  iapply (wp_term (d := d) (i := i) (tab := tab) (Y := Y) (n := 8 + c.val) (p := p) (w0 := fun x => wLane t (wb.view.read (Elt F) W) x (8 * j.val + c.val)) (w1 := fun x => wLane t (wb.view.read (Elt F) W) x (8 * j.val + c'.val)) hp (by omega)) $$ H
  iintro H
  iapply (wp_term (d := d) (i := i) (tab := tab) (Y := Y) (n := 16 + c.val) (p := p) (w0 := fun x => wLane t (wb.view.read (Elt F) W) x (8 * j.val + c.val)) (w1 := fun x => wLane t (wb.view.read (Elt F) W) x (8 * j.val + c'.val)) hp (by omega)) $$ H
  iintro H
  iapply (wp_term (d := d) (i := i) (tab := tab) (Y := Y) (n := 24 + c.val) (p := p) (w0 := fun x => wLane t (wb.view.read (Elt F) W) x (8 * j.val + c.val)) (w1 := fun x => wLane t (wb.view.read (Elt F) W) x (8 * j.val + c'.val)) hp (by omega)) $$ H
  iintro H
  rw [hc]
  unfold Four.pair lanePair
  simp only [Nat.mul_zero, Nat.zero_add]
  iapply Hk
  isplitl [H] <;> iassumption

/-- One patch. -/
theorem wp_step {α : Type} {Q : α → sProp 𝕄} {t : Fin k0_t2_loop.trips} {j : Fin 8} {a : Four F}
    {k : Four F → Prog (TileEff F i) α} {Y : Buf (Elt F) (tab.view.loc (tile d i))} {W : Buf (Elt F) (wb.view.loc (tile d i))}
    {P : Buf (Elt F) (pb.view.loc (tile d i))} (hP : ∀ y : S1600.Idx, (pb.view.read (Elt F) P y : BitVec 32).toNat < 1024) :
    iprop((tab.view.loc (tile d i) ↦{fullShare} Y) ∗ (wb.view.loc (tile d i) ↦{fullShare} W) ∗ (pb.view.loc (tile d i) ↦{fullShare} P))
      ⊢ iprop((((tab.view.loc (tile d i) ↦{fullShare} Y) ∗ (wb.view.loc (tile d i) ↦{fullShare} W) ∗ (pb.view.loc (tile d i) ↦{fullShare} P))
          -∗ wp frame (wpE defs₀ 𝒱₀ (tile d i) none) Set.univ
            (k (a.step (tabW (tab.view.read (Elt F) Y)) (pLane t (pb.view.read (Elt F) P) j.val) (wLane t (wb.view.read (Elt F) W)) j.val)) Q)
        -∗ wp frame (wpE defs₀ 𝒱₀ (tile d i) none) Set.univ (step i tab wb pb t j a >>= k) Q) := by
  unfold step
  simp only [bind_assoc]
  simp only [pure_bind, Prog.bind_lift]
  have r : (pb.access (Rect.unit (s := S1600) (rowOff t j.val) S16.size (posOff_inb t j))).read (Elt F) P
      = fun x => posW (pb.view.read (Elt F) P) (200 * j.val + g0 t + (x (0 : Fin 1)).val) := by
    funext x
    exact read_unit (N := 1600) pb (by decide) (rowOff_eq t ⟨j.val, by omega⟩) _ P x
  have hp : ∀ x : S16.Idx, (posW (pb.view.read (Elt F) P) (200 * j.val + g0 t + (x (0 : Fin 1)).val)).toNat < 1024 :=
    fun x => hP _
  iintro ⟨H, HW, HP⟩ Hk
  iapply (wp_load_rect (m := pb) (r := Rect.unit (s := S1600) (rowOff t j.val) S16.size (posOff_inb t j)) (hl := View.loadsAt_vmem h_S16) (S := Finset.univ) (q := fullShare) (f := P) 𝒱₀ (tile d i) none Set.univ (Finset.subset_univ _)) $$ HP
  iintro HP
  rw [r]
  try simp only [bind_assoc]
  iapply (wp_pair (d := d) (i := i) (t := t) (j := j) (tab := tab) (wb := wb) (Y := Y) (W := W) (c := 0) (c' := 1) (p := fun x => posW (pb.view.read (Elt F) P) (200 * j.val + g0 t + (x (0 : Fin 1)).val)) hp rfl) $$ [H HW]
  · isplitl [H] <;> iassumption
  iintro ⟨H, HW⟩
  try simp only [bind_assoc]
  iapply (wp_pair (d := d) (i := i) (t := t) (j := j) (tab := tab) (wb := wb) (Y := Y) (W := W) (c := 2) (c' := 3) (p := fun x => posW (pb.view.read (Elt F) P) (200 * j.val + g0 t + (x (0 : Fin 1)).val)) hp rfl) $$ [H HW]
  · isplitl [H] <;> iassumption
  iintro ⟨H, HW⟩
  try simp only [bind_assoc]
  iapply (wp_pair (d := d) (i := i) (t := t) (j := j) (tab := tab) (wb := wb) (Y := Y) (W := W) (c := 4) (c' := 5) (p := fun x => posW (pb.view.read (Elt F) P) (200 * j.val + g0 t + (x (0 : Fin 1)).val)) hp rfl) $$ [H HW]
  · isplitl [H] <;> iassumption
  iintro ⟨H, HW⟩
  try simp only [bind_assoc]
  iapply (wp_pair (d := d) (i := i) (t := t) (j := j) (tab := tab) (wb := wb) (Y := Y) (W := W) (c := 6) (c' := 7) (p := fun x => posW (pb.view.read (Elt F) P) (200 * j.val + g0 t + (x (0 : Fin 1)).val)) hp rfl) $$ [H HW]
  · isplitl [H] <;> iassumption
  iintro ⟨H, HW⟩
  iapply Hk
  isplitl [H]
  · iassumption
  isplitl [HW] <;> iassumption

/-- Writing one batch's sixteen results. -/
theorem wp_put {α : Type} {Q : α → sProp 𝕄} {off : Fin 3 → ℕ} {h : ∀ a, off a + S1x1x16.size a ≤ S4x32x200.size a} {r : Vec F S16 .f32}
    {k : PUnit → Prog (TileEff F i) α} {O : Buf (Elt F) (ob.view.loc (tile d i))} :
    (ob.view.loc (tile d i) ↦{fullShare} O)
      ⊢ iprop(((ob.view.loc (tile d i) ↦{fullShare} (ob.access (Rect.unit (s := S4x32x200) off S1x1x16.size h)).write (Elt F) O
            (shapeCast S1x1x16 r shapeCasts_S16_S1x1x16) Finset.univ)
          -∗ wp frame (wpE defs₀ 𝒱₀ (tile d i) none) Set.univ (k ⟨⟩) Q)
        -∗ wp frame (wpE defs₀ 𝒱₀ (tile d i) none) Set.univ (put i ob off h r >>= k) Q) := by
  unfold put
  simp only [bind_assoc]
  simp only [pure_bind, Prog.bind_lift]
  iintro H Hk
  iapply (wp_load_rect (m := ob) (r := Rect.unit (s := S4x32x200) off S1x1x16.size h) (hl := View.loadsAt_vmem h_S1x1x16) (S := Finset.univ) (q := fullShare) (f := O) 𝒱₀ (tile d i) none Set.univ (Finset.subset_univ _)) $$ H
  iintro H
  iapply (wp_store (m := ob) (r := Rect.unit (s := S4x32x200) off S1x1x16.size h) (S := Finset.univ) (f := O) 𝒱₀ (tile d i) none Set.univ (Finset.subset_univ _)) $$ H
  iintro H
  iapply Hk $$ H

/-- Element `y` of the output buffer after a put at batch `b`, row `row`, positions from `g`. -/
theorem read_put {off : Fin 3 → ℕ} (h : ∀ a, off a + S1x1x16.size a ≤ S4x32x200.size a) (r : Vec F S16 .f32) (O : ob.view.ty.Contents (Elt F))
    {b row g : ℕ} (ho : off = ![b, row, g]) (y : S4x32x200.Idx) (v : F .f32)
    (hv : ∀ x : S16.Idx, (y (2 : Fin 3)).val = g + (x (0 : Fin 1)).val → (y (0 : Fin 3)).val = b → r x = v) :
    ob.view.read (Elt F) ((ob.access (Rect.unit (s := S4x32x200) off S1x1x16.size h)).write (Elt F) O
        (shapeCast S1x1x16 r shapeCasts_S16_S1x1x16) Finset.univ) y
      = if (y (0 : Fin 3)).val = b ∧ (y (1 : Fin 3)).val = row ∧ g ≤ (y (2 : Fin 3)).val ∧ (y (2 : Fin 3)).val < g + 16 then v else ob.view.read (Elt F) O y := by
  rw [← View.writes_singleton, View.read_writes_cons_unit _ _ _ _ _ _ ho]
  split
  · next hy =>
    have h0 := hy (0 : Fin 3); have h1 := hy (1 : Fin 3); have h2 := hy (2 : Fin 3)
    simp only [Matrix.cons_val_zero, Matrix.cons_val_one, Matrix.cons_val] at h0 h1 h2
    rw [if_pos ⟨by omega, by omega, by omega, by omega⟩]
    have hl : ∀ a, ((Rect.unitLocal (s := S4x32x200) (off := ![b, row, g]) (size := S1x1x16.size) y hy) a).val = (y a).val - ![b, row, g] a := fun a => by
      rw [Rect.unitLocal_val]
    generalize Rect.unitLocal (s := S4x32x200) (off := ![b, row, g]) (size := S1x1x16.size) y hy = z at hl
    pointwise
    refine hv _ ?_ (by omega)
    have := hl 2
    simp at this ⊢
    omega
  · next hy =>
    rw [if_neg]
    · rfl
    · intro hh
      refine hy (Fin.forall_fin_succ.mpr ⟨?_, Fin.forall_fin_two.mpr ⟨?_, ?_⟩⟩)
      · show b ≤ (y (0 : Fin 3)).val ∧ (y (0 : Fin 3)).val < b + 1
        omega
      · show row ≤ (y (1 : Fin 3)).val ∧ (y (1 : Fin 3)).val < row + 1
        exact ⟨by omega, by omega⟩
      · show g ≤ (y (2 : Fin 3)).val ∧ (y (2 : Fin 3)).val < g + 16
        exact ⟨by omega, by omega⟩

/-- Lane by lane, the four results of group `t`. -/
def res (t : Fin k0_t2_loop.trips) (Y : Vec F S32768 .f32) (W : Vec F S12800 .f32) (P : IVec S1600 32) (B : Vec F S200 .f32) (b : ℕ) : Vec F S16 .f32 := fun x =>
  lane (tabW Y) (fun j => pLane t P j x) (wLane t W x) (bLane t B x) b

/-- The element of the row at position `q`, for batch `b`, from the row's weights, positions and biases. -/
def rowVal (Y : Vec F S32768 .f32) (W : Vec F S12800 .f32) (P : IVec S1600 32) (B : Vec F S200 .f32) (b q : ℕ) : F .f32 :=
  lane (tabW Y) (fun j => (posW P (200 * j + q)).toNat) (fun k => weightW W (200 * k + q)) (biasW B q) b

theorem res_eq (t : Fin k0_t2_loop.trips) (Y : Vec F S32768 .f32) (W : Vec F S12800 .f32) (P : IVec S1600 32) (B : Vec F S200 .f32) (b : ℕ) (x : S16.Idx) {q : ℕ}
    (hq : q = g0 t + (x (0 : Fin 1)).val) : res t Y W P B b x = rowVal Y W P B b q := by
  subst hq
  unfold res rowVal pLane wLane bLane
  simp only [Nat.add_assoc]

/-- Element `y` of the output buffer after the group's four puts. -/
theorem read_puts {t : Fin k0_t2_loop.trips} {off : Fin 4 → Fin 3 → ℕ} (h : ∀ b a, off b a + S1x1x16.size a ≤ S4x32x200.size a) {row : ℕ}
    (hoff : ∀ b : Fin 4, off b = ![b.val, row, g0 t])
    (Y : Vec F S32768 .f32) (W : Vec F S12800 .f32) (P : IVec S1600 32) (B : Vec F S200 .f32) (O : ob.view.ty.Contents (Elt F)) {r0 r1 r2 r3 : Vec F S16 .f32}
    (h0 : r0 = res t Y W P B 0) (h1 : r1 = res t Y W P B 1) (h2 : r2 = res t Y W P B 2) (h3 : r3 = res t Y W P B 3) (y : S4x32x200.Idx) :
    ob.view.read (Elt F) ((ob.access (Rect.unit (s := S4x32x200) (off 3) S1x1x16.size (h 3))).write (Elt F) ((ob.access (Rect.unit (s := S4x32x200) (off 2) S1x1x16.size (h 2))).write (Elt F) ((ob.access (Rect.unit (s := S4x32x200) (off 1) S1x1x16.size (h 1))).write (Elt F) ((ob.access (Rect.unit (s := S4x32x200) (off 0) S1x1x16.size (h 0))).write (Elt F) (O) (shapeCast S1x1x16 r0 shapeCasts_S16_S1x1x16) Finset.univ) (shapeCast S1x1x16 r1 shapeCasts_S16_S1x1x16) Finset.univ) (shapeCast S1x1x16 r2 shapeCasts_S16_S1x1x16) Finset.univ) (shapeCast S1x1x16 r3 shapeCasts_S16_S1x1x16) Finset.univ) y
      = if (y (1 : Fin 3)).val = row ∧ g0 t ≤ (y (2 : Fin 3)).val ∧ (y (2 : Fin 3)).val < g0 t + 16 then
          rowVal Y W P B (y (0 : Fin 3)).val (y (2 : Fin 3)).val
        else ob.view.read (Elt F) O y := by
  subst h0 h1 h2 h3
  have hy : (y (0 : Fin 3)).val < 4 := (y (0 : Fin 3)).isLt
  rw [read_put (ob := ob) (h 3) _ _ (hoff 3) y (rowVal Y W P B 3 (y (2 : Fin 3)).val) (fun x hx hb => res_eq t _ _ _ _ 3 x hx)]
  rw [read_put (ob := ob) (h 2) _ _ (hoff 2) y (rowVal Y W P B 2 (y (2 : Fin 3)).val) (fun x hx hb => res_eq t _ _ _ _ 2 x hx)]
  rw [read_put (ob := ob) (h 1) _ _ (hoff 1) y (rowVal Y W P B 1 (y (2 : Fin 3)).val) (fun x hx hb => res_eq t _ _ _ _ 1 x hx)]
  rw [read_put (ob := ob) (h 0) _ _ (hoff 0) y (rowVal Y W P B 0 (y (2 : Fin 3)).val) (fun x hx hb => res_eq t _ _ _ _ 0 x hx)]
  generalize (y (0 : Fin 3)).val = b at hy
  by_cases hr : (y (1 : Fin 3)).val = row ∧ g0 t ≤ (y (2 : Fin 3)).val ∧ (y (2 : Fin 3)).val < g0 t + 16
  · rw [if_pos hr]
    obtain rfl | rfl | rfl | rfl : b = 0 ∨ b = 1 ∨ b = 2 ∨ b = 3 := by omega
    all_goals simp [hr.1, hr.2.1, hr.2.2]
  · rw [if_neg (fun h => hr h.2), if_neg (fun h => hr h.2), if_neg (fun h => hr h.2), if_neg (fun h => hr h.2), if_neg hr]

/-- The group: the sixteen elements of each batch, at the batch's offset. -/
theorem wp_group {t : Fin k0_t2_loop.trips} {off : Fin 4 → Fin 3 → ℕ} {h : ∀ b a, off b a + S1x1x16.size a ≤ S4x32x200.size a} {row : ℕ}
    (hoff : ∀ b : Fin 4, off b = ![b.val, row, g0 t])
    {Q : Unit → sProp 𝕄} {Y : Buf (Elt F) (tab.view.loc (tile d i))} {W : Buf (Elt F) (wb.view.loc (tile d i))}
    {P : Buf (Elt F) (pb.view.loc (tile d i))} {B : Buf (Elt F) (bb.view.loc (tile d i))} {O : Buf (Elt F) (ob.view.loc (tile d i))}
    (hP : ∀ y : S1600.Idx, (pb.view.read (Elt F) P y : BitVec 32).toNat < 1024) :
    iprop((tab.view.loc (tile d i) ↦{fullShare} Y) ∗ (wb.view.loc (tile d i) ↦{fullShare} W) ∗ (pb.view.loc (tile d i) ↦{fullShare} P)
        ∗ (bb.view.loc (tile d i) ↦{fullShare} B) ∗ (ob.view.loc (tile d i) ↦{fullShare} O))
      ⊢ iprop((∀ O', ⌜∀ y : S4x32x200.Idx, ob.view.read (Elt F) O' y
            = if (y (1 : Fin 3)).val = row ∧ g0 t ≤ (y (2 : Fin 3)).val ∧ (y (2 : Fin 3)).val < g0 t + 16 then
                rowVal (tab.view.read (Elt F) Y) (wb.view.read (Elt F) W) (pb.view.read (Elt F) P) (bb.view.read (Elt F) B) (y (0 : Fin 3)).val (y (2 : Fin 3)).val
              else ob.view.read (Elt F) O y⌝
          ∗ (tab.view.loc (tile d i) ↦{fullShare} Y) ∗ (wb.view.loc (tile d i) ↦{fullShare} W) ∗ (pb.view.loc (tile d i) ↦{fullShare} P)
          ∗ (bb.view.loc (tile d i) ↦{fullShare} B) ∗ (ob.view.loc (tile d i) ↦{fullShare} O') -∗ Q ⟨⟩)
        -∗ wp frame (wpE defs₀ 𝒱₀ (tile d i) none) Set.univ (group i tab wb pb bb ob t off h) Q) := by
  unfold group
  simp only [bind_assoc]
  simp only [pure_bind, Prog.bind_lift]
  have r : (bb.access (Rect.unit (s := S200) (biasOff t) S16.size (biasOff_inb t))).read (Elt F) B = bLane t (bb.view.read (Elt F) B) := by
    funext x
    exact read_unit (N := 200) bb (by decide) (biasOff_eq t) _ B x
  iintro ⟨H, HW, HP, HB, HO⟩ Hk
  iapply (wp_load_rect (m := bb) (r := Rect.unit (s := S200) (biasOff t) S16.size (biasOff_inb t)) (hl := View.loadsAt_vmem h_S16) (S := Finset.univ) (q := fullShare) (f := B) 𝒱₀ (tile d i) none Set.univ (Finset.subset_univ _)) $$ HB
  iintro HB
  rw [r]
  iapply (wp_step (d := d) (i := i) (t := t) (tab := tab) (wb := wb) (pb := pb) (Y := Y) (W := W) (P := P) hP) $$ [H HW HP]
  · isplitl [H]; iassumption
    isplitl [HW] <;> iassumption
  iintro ⟨H, HW, HP⟩
  iapply (wp_step (d := d) (i := i) (t := t) (tab := tab) (wb := wb) (pb := pb) (Y := Y) (W := W) (P := P) hP) $$ [H HW HP]
  · isplitl [H]; iassumption
    isplitl [HW] <;> iassumption
  iintro ⟨H, HW, HP⟩
  iapply (wp_step (d := d) (i := i) (t := t) (tab := tab) (wb := wb) (pb := pb) (Y := Y) (W := W) (P := P) hP) $$ [H HW HP]
  · isplitl [H]; iassumption
    isplitl [HW] <;> iassumption
  iintro ⟨H, HW, HP⟩
  iapply (wp_step (d := d) (i := i) (t := t) (tab := tab) (wb := wb) (pb := pb) (Y := Y) (W := W) (P := P) hP) $$ [H HW HP]
  · isplitl [H]; iassumption
    isplitl [HW] <;> iassumption
  iintro ⟨H, HW, HP⟩
  iapply (wp_step (d := d) (i := i) (t := t) (tab := tab) (wb := wb) (pb := pb) (Y := Y) (W := W) (P := P) hP) $$ [H HW HP]
  · isplitl [H]; iassumption
    isplitl [HW] <;> iassumption
  iintro ⟨H, HW, HP⟩
  iapply (wp_step (d := d) (i := i) (t := t) (tab := tab) (wb := wb) (pb := pb) (Y := Y) (W := W) (P := P) hP) $$ [H HW HP]
  · isplitl [H]; iassumption
    isplitl [HW] <;> iassumption
  iintro ⟨H, HW, HP⟩
  iapply (wp_step (d := d) (i := i) (t := t) (tab := tab) (wb := wb) (pb := pb) (Y := Y) (W := W) (P := P) hP) $$ [H HW HP]
  · isplitl [H]; iassumption
    isplitl [HW] <;> iassumption
  iintro ⟨H, HW, HP⟩
  iapply (wp_step (d := d) (i := i) (t := t) (tab := tab) (wb := wb) (pb := pb) (Y := Y) (W := W) (P := P) hP) $$ [H HW HP]
  · isplitl [H]; iassumption
    isplitl [HW] <;> iassumption
  iintro ⟨H, HW, HP⟩
  iapply (wp_put (d := d) (i := i) (ob := ob)) $$ HO
  iintro HO
  iapply (wp_put (d := d) (i := i) (ob := ob)) $$ HO
  iintro HO
  iapply (wp_put (d := d) (i := i) (ob := ob)) $$ HO
  iintro HO
  iapply (wp_put (d := d) (i := i) (ob := ob)) $$ HO
  iintro HO
  rw [wp_pure]
  imodintro
  iapply Hk $$ %_
  isplitr [H HW HP HB HO]
  rotate_left
  · isplitl [H]; iassumption
    isplitl [HW]; iassumption
    isplitl [HP]; iassumption
    isplitl [HB] <;> iassumption
  · ipureintro
    exact read_puts (ob := ob) h hoff (tab.view.read (Elt F) Y) (wb.view.read (Elt F) W) (pb.view.read (Elt F) P) (bb.view.read (Elt F) B) O rfl rfl rfl rfl

end Cert.Proof.Patch
-- ==== Proof.Sparse.Ring.lean ====
/-
  The copies of rows into a tile's memory: a copy in flight, its issue and its wait, and what a
  row of a matrix reads as.
-/
module

public import proofs.«01_k».proof.Proof.Sparse.GroupWp

@[expose] public section

noncomputable section

namespace Cert.Proof.Patch

open Cert.KernelIdeal Cert.KernelIdeal.Gen
open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

/-- A copy in flight on semaphore `sem` into the buffer `dst`: when it has been waited for, the
    buffer reads `R`; until then the part `S` of the source `ℓ` that it reads is lent to it. -/
def RowFlight (d : Dev nD) (i : grid0.Coords) (sem : DmaSem sig) {s : Shape} {e : EltTy} (dst : Memref sig .scVector .vmem s e)
    (ℓ : Loc nD τ sig) (q : PosShare TreeShare) (X : Buf (Elt F) ℓ) (R : s.Idx → Elt F e) : sProp 𝕄 :=
  iprop(∃ S : Finset (Idx ℓ),
    Flight countersEmb (tile d i) (.dma sem) (none : HIx 1) dst.view.dmaCredit
      iprop(∃ g : Buf (Elt F) (dst.view.loc (tile d i)), ⌜dst.view.read (Elt F) g = R⌝ ∗ (dst.view.loc (tile d i) ↦{fullShare} g) ∗ (ℓ ↦[S]{q} X))
    ∗ (ℓ ↦[Finset.univ \ S]{q} X))

variable {d : Dev nD} {i : grid0.Coords}

/-- Issuing a copy. -/
theorem wp_issue {α : Type} {Q : α → sProp 𝕄} {s : Shape} {e : EltTy} {src : Memref sig .scVector .hbm s e} {dst : Memref sig .scVector .vmem s e}
    {sem : DmaSem sig} {hsrc : src.view.WordExact} {hdst : dst.view.WordExact}
    {hsem : DmaTarget.Typed (nD := nD) .hbm (.dma sem) (.here (p := (tile d i).2) dst)}
    (hs : 0 < s.numel) {k : PUnit → Prog (TileEff F i) α} {q : PosShare TreeShare} {X : Buf (Elt F) (src.view.loc (tile d i))} {f : Buf (Elt F) (dst.view.loc (tile d i))} :
    iprop((src.view.loc (tile d i) ↦{q} X) ∗ (dst.view.loc (tile d i) ↦{fullShare} f) ∗ semVal (tile d i, .dma sem) 0)
      ⊢ iprop((RowFlight d i sem dst (src.view.loc (tile d i)) q X (src.view.read (Elt F) X)
          -∗ wp frame (wpE defs₀ 𝒱₀ (tile d i) none) Set.univ (k ⟨⟩) Q)
        -∗ wp frame (wpE defs₀ 𝒱₀ (tile d i) none) Set.univ (.op (TpuEff.enqueueDma src (.here dst) (.dma sem) hsrc hdst hsem) k) Q) := by
  iintro ⟨Hs, Hd, Hv⟩ Hk
  ihave Hs := (pointsTo_split_subset (Finset.subset_univ src.view.set)).1 $$ Hs
  icases Hs with ⟨Hs, Hr⟩
  iapply (wp_dmaLocal countersEmb 𝒱₀ (tile d i) none (src := src) (dst := dst) (sm := .dma sem) (q := q) (fs := X) (fd := f) (Sd := Finset.univ)
    (none : HIx 1) dst.view.dmaCredit rfl (dst.view.dmaCredit_pos hs) (Finset.subset_univ _)) $$ [Hs Hd Hv]
  · isplitl [Hs]; iassumption
    isplitl [Hd] <;> iassumption
  iintro Hf
  iapply Hk
  unfold RowFlight
  iexists src.view.set
  isplitl [Hf]
  · iapply (Flight_mono countersEmb (tile d i) (D := iprop((dst.view.loc (tile d i) ↦{fullShare} (dst.view.write (Elt F) f (src.view.read (Elt F) X) Finset.univ)) ∗ (src.view.loc (tile d i) ↦[src.view.set]{q} X)))
      (D' := iprop(∃ g : Buf (Elt F) (dst.view.loc (tile d i)),
      ⌜dst.view.read (Elt F) g = src.view.read (Elt F) X⌝ ∗ (dst.view.loc (tile d i) ↦{fullShare} g) ∗ (src.view.loc (tile d i) ↦[src.view.set]{q} X))) ?_) $$ Hf
    iintro ⟨H, Hs⟩
    iexists (dst.view.write (Elt F) f (src.view.read (Elt F) X) Finset.univ)
    isplitr
    · ipureintro
      exact View.read_write_univ _ _
    · isplitl [H] <;> iassumption
  · iassumption

/-- Waiting for it. -/
theorem wp_await {α : Type} {Q : α → sProp 𝕄} {s s' : Shape} {e e' : EltTy} {sp' : Space} {srcw : Memref sig .scVector sp' s' e'} {dst : Memref sig .scVector .vmem s e}
    {sem : DmaSem sig} {hsrc : srcw.view.WordExact} {hdst : dst.view.WordExact} {k : PUnit → Prog (TileEff F i) α}
    {ℓ : Loc nD τ sig} {q : PosShare TreeShare} {X : Buf (Elt F) ℓ} {R : s.Idx → Elt F e} {O : CellTallies nD τ sig (HIx 1)} {W : Waits sig (HIx 1)} :
    iprop(RowFlight d i sem dst ℓ q X R ∗ owes (tile d i) O W ∗ MayWaits (tile d i) (none : HIx 1) O)
      ⊢ iprop((∀ g : Buf (Elt F) (dst.view.loc (tile d i)), ⌜dst.view.read (Elt F) g = R⌝ ∗ (dst.view.loc (tile d i) ↦{fullShare} g) ∗ (ℓ ↦{q} X)
            ∗ semVal (tile d i, .dma sem) 0 ∗ owes (tile d i) O (insert (SemLoc.dma sem, none) W)
          -∗ wp frame (wpE defs₀ 𝒱₀ (tile d i) none) Set.univ (k ⟨⟩) Q)
        -∗ wp frame (wpE defs₀ 𝒱₀ (tile d i) none) Set.univ (.op (TpuEff.waitDma2 sem srcw dst hsrc hdst) k) Q) := by
  unfold RowFlight
  iintro ⟨⟨%S, Hf, Hr⟩, HO, Hmw⟩ Hk
  ihave Hmw := (MayWaits.elim (.dma sem)) $$ Hmw
  iapply (wp_waitLocalO countersEmb 𝒱₀ (tile d i) none (none : HIx 1) rfl) $$ [Hf HO Hmw]
  · isplitl [Hf]; iassumption
    isplitl [HO] <;> iassumption
  iintro ⟨⟨%g, %hg, Hd, Hs⟩, Hv, HO⟩
  iapply Hk $$ %g
  isplitr
  · ipureintro; exact hg
  isplitl [Hd]; iassumption
  isplitl [Hs Hr]
  · iapply (pointsTo_split_subset (Finset.subset_univ S)).2
    isplitl [Hs] <;> iassumption
  isplitl [Hv] <;> iassumption

/-- A row of a matrix. -/
def rowOf {M N : ℕ} {A : Type} (X : (⟨2, ![M, N]⟩ : Shape).Idx → A) (r : Fin M) : (⟨1, ![N]⟩ : Shape).Idx → A :=
  fun x => X (ix2 r (x (0 : Fin 1)))

/-- A row of a matrix, sliced and squeezed, reads as that row. -/
theorem read_row {M N : ℕ} {e : EltTy} (m : Memref sig .scVector .hbm ⟨2, ![M, N]⟩ e) {off : Fin 2 → ℕ} {r : Fin M} (ho : off = ![r.val, 0])
    (inb : ∀ a, off a + (⟨2, ![1, N]⟩ : Shape).size a ≤ (⟨2, ![M, N]⟩ : Shape).size a)
    (sq : (⟨2, ![1, N]⟩ : Shape).Squeezes ⟨1, ![N]⟩) (X : m.view.ty.Contents (Elt F)) :
    ((m.slice (Rect.unit (s := ⟨2, ![M, N]⟩) off (⟨2, ![1, N]⟩ : Shape).size inb) (fun _ => rfl)).squeeze ⟨1, ![N]⟩ sq).view.read (Elt F) X
      = rowOf (m.view.read (Elt F) X) r := by
  subst ho
  funext x
  have hx : Shape.reshapeEquiv sq.numel_eq x = (ix2 (⟨0, Nat.one_pos⟩ : Fin 1) (x (0 : Fin 1)) : (⟨2, ![1, N]⟩ : Shape).Idx) :=
    Shape.reshapeEquiv_eq_of_rowMajor _ (by
      rw [Shape.rowMajor_val_two, Shape.rowMajor_val_one]
      show 0 * N + _ = _
      simp)
  show (m.view.read (Elt F) X) ((Rect.unit (s := ⟨2, ![M, N]⟩) ![r.val, 0] (⟨2, ![1, N]⟩ : Shape).size inb).emb (Shape.reshapeEquiv sq.numel_eq x)) = _
  rw [hx]
  unfold rowOf
  congr 1
  funext a
  apply Fin.ext
  fin_cases a
  · show r.val + 1 * 0 = r.val
    omega
  · show 0 + 1 * (x (0 : Fin 1)).val = (x (0 : Fin 1)).val
    omega

end Cert.Proof.Patch
-- ==== Proof.Sparse.TileWp.lean ====
/-
  What one tile computes: the rows that it copies in, the groups of positions that it works through,
  and the block of results that it holds at the end.
-/
module

public import proofs.«01_k».proof.Proof.Sparse.TileProg
public import proofs.«01_k».proof.Proof.Sparse.Ring

@[expose] public section

noncomputable section

namespace Cert.Proof.Patch

open Cert.KernelIdeal Cert.KernelIdeal.Gen
open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

/-- What the call's operands hold on a device: the table, the positions, the weights, the biases. -/
structure Inputs (F : FTy → Type) (d : Dev nD) where
  T : Buf (Elt F) (tabLoc d)
  P : Buf (Elt F) (posLoc d)
  W : Buf (Elt F) (wLoc d)
  B : Buf (Elt F) (biasLoc d)

variable {d : Dev nD} {i : grid0.Coords}

/-- The table, and row `v` of the weights, the positions, the biases. -/
def Inputs.tab (I : Inputs F d) : Vec F S32768 .f32 := tabA.view.read (Elt F) I.T
def Inputs.wRow (I : Inputs F d) (v : Fin 1024) : Vec F S12800 .f32 := rowOf (M := 1024) (N := 12800) (wA.view.read (Elt F) I.W) v
def Inputs.pRow (I : Inputs F d) (v : Fin 1024) : IVec S1600 32 := rowOf (M := 1024) (N := 1600) (posA.view.read (Elt F) I.P) v
def Inputs.bRow (I : Inputs F d) (v : Fin 1024) : Vec F S200 .f32 := rowOf (M := 1024) (N := 200) (biasA.view.read (Elt F) I.B) v

/-- The result at row `v`, batch `b`, position `q`. -/
def Inputs.cell (I : Inputs F d) (v : Fin 1024) (b q : ℕ) : F .f32 := rowVal I.tab (I.wRow v) (I.pRow v) (I.bRow v) b q

/-- Every position is a row of the table's planes. -/
def Inputs.InRange (I : Inputs F d) : Prop := ∀ v y, (I.pRow v y).toNat < 1024

/-- The tile's row `r`, in the arrays. -/
def rowNo (i : grid0.Coords) (r : ℕ) : Fin 1024 := ⟨(64 * (i 1).val + 32 * (i 0).val + r) % 1024, Nat.mod_lt _ (by decide)⟩

theorem rowNo_val {r : ℕ} (h : r < 32) : (rowNo i r).val = 64 * (i 1).val + 32 * (i 0).val + r := by
  have h1 : (i 1).val < 16 := (i 1).isLt
  have h0 : (i 0).val < 2 := (i 0).isLt
  exact Nat.mod_eq_of_lt (by omega)

/-- The operands' rows, as the tile holds them: a share of each array. -/
def Src (I : Inputs F d) (q : PosShare TreeShare) : sProp 𝕄 :=
  iprop((wLoc d ↦{q} I.W) ∗ (posLoc d ↦{q} I.P) ∗ (biasLoc d ↦{q} I.B))

/-- The semaphores of a set of buffers, all at rest. -/
def Rest (d : Dev nD) (i : grid0.Coords) (B : Bufs) : sProp 𝕄 :=
  iprop(semVal (tile d i, .dma B.sw.sem) 0 ∗ semVal (tile d i, .dma B.sp.sem) 0 ∗ semVal (tile d i, .dma B.sb.sem) 0)

/-- A set of buffers with nothing under way. -/
def Idle (i : grid0.Coords) (I : Inputs F d) (B : Bufs) (q : PosShare TreeShare) : sProp 𝕄 :=
  iprop((∃ f, B.w.view.loc (tile d i) ↦{fullShare} f) ∗ (∃ f, B.p.view.loc (tile d i) ↦{fullShare} f) ∗ (∃ f, B.b.view.loc (tile d i) ↦{fullShare} f)
    ∗ Rest d i B ∗ Src I q)

/-- Row `v` on its way into them. -/
def Flying (i : grid0.Coords) (I : Inputs F d) (B : Bufs) (q : PosShare TreeShare) (v : Fin 1024) : sProp 𝕄 :=
  iprop(RowFlight d i B.sw.sem B.w (wLoc d) q I.W (I.wRow v) ∗ RowFlight d i B.sp.sem B.p (posLoc d) q I.P (I.pRow v)
    ∗ RowFlight d i B.sb.sem B.b (biasLoc d) q I.B (I.bRow v))

/-- Row `v` in them. -/
def Ready (i : grid0.Coords) (I : Inputs F d) (B : Bufs) (q : PosShare TreeShare) (v : Fin 1024) : sProp 𝕄 :=
  iprop((∃ f, ⌜B.w.view.read (Elt F) f = I.wRow v⌝ ∗ (B.w.view.loc (tile d i) ↦{fullShare} f)) ∗ (∃ f, ⌜B.p.view.read (Elt F) f = I.pRow v⌝ ∗ (B.p.view.loc (tile d i) ↦{fullShare} f))
    ∗ (∃ f, ⌜B.b.view.read (Elt F) f = I.bRow v⌝ ∗ (B.b.view.loc (tile d i) ↦{fullShare} f)) ∗ Rest d i B ∗ Src I q)

/-- What the tile owes, whatever it has waited for. -/
def Owing (d : Dev nD) (i : grid0.Coords) (O : CellTallies nD τ sig (HIx 1)) : sProp 𝕄 := iprop(∃ W, owes (tile d i) O W)

variable {I : Inputs F d} {B : Bufs} {q : PosShare TreeShare} {v : Fin 1024}

theorem ready_idle : Ready i I B q v ⊢ Idle i I B q := by
  unfold Ready Idle
  iintro ⟨⟨%f, -, Hw⟩, ⟨%g, -, Hp⟩, ⟨%h, -, Hb⟩, HR, HS⟩
  isplitl [Hw]; · iexists f; iassumption
  isplitl [Hp]; · iexists g; iassumption
  isplitl [Hb]; · iexists h; iassumption
  isplitl [HR] <;> iassumption

/-- Starting the copies of row `v`. -/
theorem wp_fetch {α : Type} {Q : α → sProp 𝕄} {ow op ob : Fin 2 → ℕ} {hw : ∀ a, ow a + S1x12800.size a ≤ S1024x12800.size a} {hp : ∀ a, op a + S1x1600.size a ≤ S1024x1600.size a}
    {hb : ∀ a, ob a + S1x200.size a ≤ S1024x200.size a} (ew : ow = ![v.val, 0]) (ep : op = ![v.val, 0]) (eb : ob = ![v.val, 0]) {k : PUnit → Prog (TileEff F i) α} :
    Idle i I B q ⊢ iprop((Flying i I B q v -∗ wp frame (wpE defs₀ 𝒱₀ (tile d i) none) Set.univ (k ⟨⟩) Q)
        -∗ wp frame (wpE defs₀ 𝒱₀ (tile d i) none) Set.univ (fetch i B ow op ob hw hp hb >>= k) Q) := by
  unfold Idle Flying Rest Src fetch
  simp only [bind_assoc]
  simp only [pure_bind, Prog.bind_lift]
  rw [show I.wRow v = (wRowA ow hw).view.read (Elt F) I.W from (read_row (M := 1024) (N := 12800) wA ew hw squeezes_S1x12800_S12800 I.W).symm,
    show I.pRow v = (pRowA op hp).view.read (Elt F) I.P from (read_row (M := 1024) (N := 1600) posA ep hp squeezes_S1x1600_S1600 I.P).symm,
    show I.bRow v = (bRowA ob hb).view.read (Elt F) I.B from (read_row (M := 1024) (N := 200) biasA eb hb squeezes_S1x200_S200 I.B).symm]
  iintro ⟨⟨%f, Hw⟩, ⟨%g, Hp⟩, ⟨%h, Hb⟩, ⟨Vw, Vp, Vb⟩, ⟨Sw, Sp, Sb⟩⟩ Hk
  iapply (wp_issue (d := d) (i := i) (src := wRowA ow hw) (dst := B.w) (sem := B.sw.sem) (q := q) (X := I.W) (f := f) (show 0 < S12800.numel by decide)) $$ [Sw Hw Vw]
  · isplitl [Sw]; iassumption
    isplitl [Hw] <;> iassumption
  iintro Fw
  iapply (wp_issue (d := d) (i := i) (src := pRowA op hp) (dst := B.p) (sem := B.sp.sem) (q := q) (X := I.P) (f := g) (show 0 < S1600.numel by decide)) $$ [Sp Hp Vp]
  · isplitl [Sp]; iassumption
    isplitl [Hp] <;> iassumption
  iintro Fp
  iapply (wp_issue (d := d) (i := i) (src := bRowA ob hb) (dst := B.b) (sem := B.sb.sem) (q := q) (X := I.B) (f := h) (show 0 < S200.numel by decide)) $$ [Sb Hb Vb]
  · isplitl [Sb]; iassumption
    isplitl [Hb] <;> iassumption
  iintro Fb
  iapply Hk
  isplitl [Fw]; iassumption
  isplitl [Fp] <;> iassumption

/-- Waiting for them. -/
theorem wp_awaitRow {α : Type} {Q : α → sProp 𝕄} {ow op ob : Fin 2 → ℕ} {hw : ∀ a, ow a + S1x12800.size a ≤ S1024x12800.size a} {hp : ∀ a, op a + S1x1600.size a ≤ S1024x1600.size a}
    {hb : ∀ a, ob a + S1x200.size a ≤ S1024x200.size a} {O : CellTallies nD τ sig (HIx 1)} {k : PUnit → Prog (TileEff F i) α} :
    iprop(MayWaits (tile d i) (none : HIx 1) O ∗ Flying i I B q v ∗ Owing d i O) ⊢ iprop((Ready i I B q v ∗ Owing d i O -∗ wp frame (wpE defs₀ 𝒱₀ (tile d i) none) Set.univ (k ⟨⟩) Q)
        -∗ wp frame (wpE defs₀ 𝒱₀ (tile d i) none) Set.univ (await i B ow op ob hw hp hb >>= k) Q) := by
  unfold Ready Flying Rest Src Owing await
  simp only [bind_assoc]
  simp only [pure_bind, Prog.bind_lift]
  iintro ⟨#Hm, ⟨Fw, Fp, Fb⟩, ⟨%W, HO⟩⟩ Hk
  iapply (wp_await (d := d) (i := i) (dst := B.w) (sem := B.sw.sem) (R := I.wRow v) (O := O)) $$ [Fw HO]
  · isplitl [Fw]; iassumption
    isplitl [HO] <;> iassumption
  iintro %f ⟨%ef, Hw, Sw, Vw, HO⟩
  iapply (wp_await (d := d) (i := i) (dst := B.p) (sem := B.sp.sem) (R := I.pRow v) (O := O)) $$ [Fp HO]
  · isplitl [Fp]; iassumption
    isplitl [HO] <;> iassumption
  iintro %g ⟨%eg, Hp, Sp, Vp, HO⟩
  iapply (wp_await (d := d) (i := i) (dst := B.b) (sem := B.sb.sem) (R := I.bRow v) (O := O)) $$ [Fb HO]
  · isplitl [Fb]; iassumption
    isplitl [HO] <;> iassumption
  iintro %h ⟨%eh, Hb, Sb, Vb, HO⟩
  iapply Hk
  isplitr [HO]
  · isplitl [Hw]
    · iexists f; isplitr; (· ipureintro; exact ef); iassumption
    isplitl [Hp]
    · iexists g; isplitr; (· ipureintro; exact eg); iassumption
    isplitl [Hb]
    · iexists h; isplitr; (· ipureintro; exact eh); iassumption
    isplitl [Vw Vp Vb]
    · isplitl [Vw]; iassumption
      isplitl [Vp] <;> iassumption
    · isplitl [Sw]; iassumption
      isplitl [Sp] <;> iassumption
  · iexists _; iassumption

/-- The tile's copy of the table. -/
def Tab (i : grid0.Coords) (I : Inputs F d) : sProp 𝕄 := iprop(∃ f, ⌜tabB.view.read (Elt F) f = I.tab⌝ ∗ (tabB.view.loc (tile d i) ↦{fullShare} f))

/-- The block of results is right on the rows before `r`, and on row `r` at the positions before `p`. -/
def Done (i : grid0.Coords) (I : Inputs F d) (r p : ℕ) (o : Buf (Elt F) (outB.view.loc (tile d i))) : Prop :=
  ∀ y : S4x32x200.Idx, ((y 1).val < r ∨ (y 1).val = r ∧ (y 2).val < p) → outB.view.read (Elt F) o y = I.cell (rowNo i (y 1).val) (y 0).val (y 2).val

/-- The tile's block of results, so far. -/
def Out (i : grid0.Coords) (I : Inputs F d) (r p : ℕ) : sProp 𝕄 := iprop(∃ o, ⌜Done i I r p o⌝ ∗ (outB.view.loc (tile d i) ↦{fullShare} o))

theorem Done.next {r p : ℕ} {o : Buf (Elt F) (outB.view.loc (tile d i))} (hp : 200 ≤ p) (h : Done i I r p o) : Done i I (r + 1) 0 o := by
  intro y hy
  have h2 : (y 2).val < 200 := (y 2).isLt
  exact h y (by omega)

/-- One group takes the block of results sixteen positions further. -/
theorem Done.group {r : ℕ} {t : Fin k0_t2_loop.trips} {o o' : Buf (Elt F) (outB.view.loc (tile d i))} (h : Done i I r (16 * t.val) o)
    (h' : ∀ y : S4x32x200.Idx, outB.view.read (Elt F) o' y
        = if (y 1).val = r ∧ g0 t ≤ (y 2).val ∧ (y 2).val < g0 t + 16 then I.cell (rowNo i r) (y 0).val (y 2).val else outB.view.read (Elt F) o y) :
    Done i I r (16 * (t.val + 1)) o' := by
  intro y hy
  rw [h' y]
  have h2 : (y 2).val < 200 := (y 2).isLt
  have hg : g0 t = min (16 * t.val) 184 := rfl
  split
  · rename_i hc
    rw [hc.1]
  · rename_i hc
    refine h y ?_
    rcases hy with hy | ⟨e, hy⟩
    · exact .inl hy
    · refine .inr ⟨e, ?_⟩
      by_contra hn
      exact hc ⟨e, by omega, by omega⟩

theorem t2_trips : k0_t2_loop.trips = 13 := by decide +kernel
theorem t1_trips : k0_t1_loop.trips = 16 := by decide +kernel

/-- A counted loop at the head of a tile's program, by an invariant. -/
theorem wp_loop {α : Type} {Q : α → sProp 𝕄} (l : Scf.Loop 32) (hok : l.OK) (body : Fin l.trips → PUnit → Prog (TileEff F i) PUnit) (J : ℕ → sProp 𝕄)
    (hbody : ∀ (t : Fin l.trips) (u : PUnit), J t.val ⊢ wp frame (wpE defs₀ 𝒱₀ (tile d i) none) Set.univ (body t u) fun _ => J (t.val + 1)) {k : PUnit → Prog (TileEff F i) α} :
    J 0 ⊢ iprop((J l.trips -∗ wp frame (wpE defs₀ 𝒱₀ (tile d i) none) Set.univ (k ⟨⟩) Q)
        -∗ wp frame (wpE defs₀ 𝒱₀ (tile d i) none) Set.univ (Scf.Loop.for l hok ⟨⟩ body >>= k) Q) := by
  iintro H Hk
  iapply (Scf.wp_for_bind frame (wpE defs₀ 𝒱₀ (tile d i) none) Set.univ l.lb l.ub l.st hok ⟨⟩ body (fun t _ => J t) hbody (kk := k)) $$ [H]
  · iassumption
  iintro %_ H
  iapply Hk
  iassumption

/-- Before group `t` of row `r`. -/
def Mid (i : grid0.Coords) (I : Inputs F d) (B : Bufs) (q : PosShare TreeShare) (r t : ℕ) : sProp 𝕄 :=
  iprop(Tab i I ∗ Ready i I B q (rowNo i r) ∗ Out i I r (16 * t))

set_option maxRecDepth 20000 in
/-- The loop over a row's groups: the block of results gains the row. -/
theorem wp_groups {α : Type} {Q : α → sProp 𝕄} (hI : I.InRange) {off : Fin k0_t2_loop.trips → Fin 4 → Fin 3 → ℕ} {h : ∀ t b a, off t b a + S1x1x16.size a ≤ S4x32x200.size a} {r : ℕ}
    (hoff : ∀ t b, off t b = ![b.val, r, g0 t]) {k : PUnit → Prog (TileEff F i) α} :
    iprop(Tab i I ∗ Ready i I B q (rowNo i r) ∗ Out i I r 0)
      ⊢ iprop((Tab i I ∗ Ready i I B q (rowNo i r) ∗ Out i I (r + 1) 0 -∗ wp frame (wpE defs₀ 𝒱₀ (tile d i) none) Set.univ (k ⟨⟩) Q)
        -∗ wp frame (wpE defs₀ 𝒱₀ (tile d i) none) Set.univ (Scf.Loop.for k0_t2_loop k0_t2_ok ⟨⟩ (fun t _ => group i tabB B.w B.p B.b outB t (off t) (h t)) >>= k) Q) := by
  have hbody : ∀ (t : Fin k0_t2_loop.trips) (u : PUnit), Mid i I B q r t.val
      ⊢ wp frame (wpE defs₀ 𝒱₀ (tile d i) none) Set.univ (group i tabB B.w B.p B.b outB t (off t) (h t)) fun _ => Mid i I B q r (t.val + 1) := by
    intro t _
    unfold Mid Tab Ready Out
    iintro ⟨⟨%y, %ey, Hy⟩, ⟨⟨%f, %ef, Hw⟩, ⟨%g, %eg, Hp⟩, ⟨%b, %eb, Hb⟩, HR, HS⟩, ⟨%o, %ho, Ho⟩⟩
    iapply (wp_group (d := d) (i := i) (tab := tabB) (wb := B.w) (pb := B.p) (bb := B.b) (ob := outB) (Y := y) (W := f) (P := g) (B := b) (O := o) (h := h t) (hoff t)
      (fun z => by rw [eg]; exact hI _ z)) $$ [Hy Hw Hp Hb Ho]
    · isplitl [Hy]; iassumption
      isplitl [Hw]; iassumption
      isplitl [Hp]; iassumption
      isplitl [Hb] <;> iassumption
    iintro %o' ⟨%ho', Hy, Hw, Hp, Hb, Ho⟩
    isplitl [Hy]
    · iexists y; isplitr; (· ipureintro; exact ey); iassumption
    isplitr [Ho]
    · isplitl [Hw]
      · iexists f; isplitr; (· ipureintro; exact ef); iassumption
      isplitl [Hp]
      · iexists g; isplitr; (· ipureintro; exact eg); iassumption
      isplitl [Hb]
      · iexists b; isplitr; (· ipureintro; exact eb); iassumption
      isplitl [HR] <;> iassumption
    · iexists o'
      isplitr
      · ipureintro
        rw [ey, ef, eg, eb] at ho'
        exact ho.group ho'
      · iassumption
  iintro H Hk
  iapply (wp_loop k0_t2_loop k0_t2_ok (fun t _ => group i tabB B.w B.p B.b outB t (off t) (h t)) (Mid i I B q r) hbody (k := k)) $$ [H]
  · unfold Mid; iassumption
  iintro H
  unfold Mid
  icases H with ⟨HT, HR, HO⟩
  iapply Hk
  isplitl [HT]; iassumption
  isplitl [HR]; iassumption
  unfold Out
  icases HO with ⟨%o, %ho, HO⟩
  iexists o
  isplitr
  · ipureintro
    exact ho.next (by show 200 ≤ 16 * k0_t2_loop.trips; rw [t2_trips]; decide)
  · iassumption

end Cert.Proof.Patch
-- ==== Proof.Sparse.TileOut.lean ====
/-
  The copies of a tile's block of results out to the result array.
-/
module

public import proofs.«01_k».proof.Proof.Sparse.TileWp

@[expose] public section

noncomputable section

namespace Cert.Proof.Patch

open Cert.KernelIdeal Cert.KernelIdeal.Gen
open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

variable {d : Dev nD} {i : grid0.Coords} {I : Inputs F d}

/-- Where a block `[1, K, N]` at `[b, r, 0]`, squeezed to `[K, N]`, places its index. -/
theorem emb_block {A M K N b r : ℕ} {off : Fin 3 → ℕ} (ho : off = ![b, r, 0])
    (inb : ∀ a, off a + (⟨3, ![1, K, N]⟩ : Shape).size a ≤ (⟨3, ![A, M, N]⟩ : Shape).size a)
    (sq : (⟨3, ![1, K, N]⟩ : Shape).Squeezes ⟨2, ![K, N]⟩) (x : (⟨2, ![K, N]⟩ : Shape).Idx) :
    let y := (Rect.unit (s := ⟨3, ![A, M, N]⟩) off (⟨3, ![1, K, N]⟩ : Shape).size inb).emb (Shape.reshapeEquiv sq.numel_eq x)
    (y (0 : Fin 3)).val = b ∧ (y (1 : Fin 3)).val = r + (x (0 : Fin 2)).val ∧ (y (2 : Fin 3)).val = (x (1 : Fin 2)).val := by
  subst ho
  have hx : Shape.reshapeEquiv sq.numel_eq x = (ix3 (⟨0, Nat.one_pos⟩ : Fin 1) (x (0 : Fin 2)) (x (1 : Fin 2)) : (⟨3, ![1, K, N]⟩ : Shape).Idx) :=
    Shape.reshapeEquiv_eq_of_rowMajor _ (by
      rw [Shape.rowMajor_val_three, Shape.rowMajor_val_two]
      show (0 * K + _) * N + _ = _ * N + _
      simp)
  rw [hx]
  refine ⟨?_, ?_, ?_⟩
  · show b + 1 * 0 = b
    omega
  · show r + 1 * (x (0 : Fin 2)).val = _
    omega
  · show 0 + 1 * (x (1 : Fin 2)).val = _
    omega

/-- The tile's number, and its piece of the result: the rows `[32 n, 32 n + 32)`. -/
def tileNo (i : grid0.Coords) : ℕ := 2 * (i 1).val + (i 0).val
def piece (n : ℕ) : Finset S4x1024x200.Idx := Finset.univ.filter fun y => (y 1).val / 32 = n

theorem mem_piece {n : ℕ} {y : S4x1024x200.Idx} : y ∈ piece n ↔ (y 1).val / 32 = n := by
  simp [piece]

/-- The result array is right on the tile's piece, for the batches before `n`. -/
def OutTo (i : grid0.Coords) (I : Inputs F d) (n : ℕ) (f : Buf (Elt F) (outLoc d)) : Prop :=
  ∀ y ∈ piece (tileNo i), (y 0).val < n → outA.view.read (Elt F) f y = I.cell (y 1) (y 0).val (y 2).val

/-- The tile's piece of the result, so far. -/
def Put (i : grid0.Coords) (I : Inputs F d) (n : ℕ) : sProp 𝕄 := iprop(∃ f, ⌜OutTo i I n f⌝ ∗ (outLoc d ↦[piece (tileNo i)]{fullShare} f))

variable {src dst : Fin 3 → ℕ} {hs : ∀ a, src a + S1x32x200.size a ≤ S4x32x200.size a} {hd : ∀ a, dst a + S1x32x200.size a ≤ S4x1024x200.size a} {n : ℕ}

/-- A copied block lies in the tile's piece. -/
theorem block_subset (ed : dst = ![n, 64 * (i 1).val + 32 * (i 0).val, 0]) : (outRowA dst hd).view.set ⊆ piece (tileNo i) := by
  intro y hy
  obtain ⟨x, -, rfl⟩ := Finset.mem_map.mp hy
  have h := emb_block (A := 4) (M := 1024) (K := 32) (N := 200) ed hd squeezes_S1x32x200_S32x200 x
  have h0 : (x (0 : Fin 2)).val < 32 := (x (0 : Fin 2)).isLt
  refine mem_piece.mpr ?_
  refine (congrArg (· / 32) h.2.1).trans ?_
  show (64 * (i 1).val + 32 * (i 0).val + (x (0 : Fin 2)).val) / 32 = 2 * (i 1).val + (i 0).val
  omega

/-- Copying a block that is right makes the piece right for one more batch. -/
theorem OutTo.copy {f : Buf (Elt F) (outLoc d)} {o : Buf (Elt F) (outB.view.loc (tile d i))} (hn : n < 4) (es : src = ![n, 0, 0]) (ed : dst = ![n, 64 * (i 1).val + 32 * (i 0).val, 0])
    (h : OutTo i I n f) (ho : Done i I 32 0 o) :
    OutTo i I (n + 1) ((outRowA dst hd).view.write (Elt F) f ((outRowB src hs).view.read (Elt F) o) Finset.univ) := by
  intro y hy hy0
  have h1 : (y 1).val / 32 = 2 * (i 1).val + (i 0).val := mem_piece.mp hy
  by_cases e : (y 0).val = n
  · have hr : (y 1).val - (64 * (i 1).val + 32 * (i 0).val) < 32 := by omega
    let x : S32x200.Idx := ix2 ⟨(y 1).val - (64 * (i 1).val + 32 * (i 0).val), hr⟩ (y 2)
    have hx := emb_block (A := 4) (M := 1024) (K := 32) (N := 200) ed hd squeezes_S1x32x200_S32x200 x
    have hb := emb_block (A := 4) (M := 32) (K := 32) (N := 200) es hs squeezes_S1x32x200_S32x200 x
    have ey : (Rect.unit (s := S4x1024x200) dst S1x32x200.size hd).emb (Shape.reshapeEquiv squeezes_S1x32x200_S32x200.numel_eq x) = y := by
      funext a
      apply Fin.ext
      fin_cases a
      · exact hx.1.trans e.symm
      · refine hx.2.1.trans ?_
        show 64 * (i 1).val + 32 * (i 0).val + ((y 1).val - (64 * (i 1).val + 32 * (i 0).val)) = (y 1).val
        omega
      · exact hx.2.2
    have key := congrFun (View.read_write_univ (v := (outRowA dst hd).view) (Val := Elt F) f ((outRowB src hs).view.read (Elt F) o)) x
    have key' : outA.view.read (Elt F) ((outRowA dst hd).view.write (Elt F) f ((outRowB src hs).view.read (Elt F) o) Finset.univ)
        ((Rect.unit (s := S4x1024x200) dst S1x32x200.size hd).emb (Shape.reshapeEquiv squeezes_S1x32x200_S32x200.numel_eq x))
        = outB.view.read (Elt F) o ((Rect.unit (s := S4x32x200) src S1x32x200.size hs).emb (Shape.reshapeEquiv squeezes_S1x32x200_S32x200.numel_eq x)) := key
    rw [ey] at key'
    rw [key', ho _ (.inl (by rw [hb.2.1]; show 0 + _ < 32; simpa [x] using hr))]
    have e1 : rowNo i ((Rect.unit (s := S4x32x200) src S1x32x200.size hs).emb (Shape.reshapeEquiv squeezes_S1x32x200_S32x200.numel_eq x) 1).val = y 1 := by
      rw [hb.2.1]
      apply Fin.ext
      refine (rowNo_val (by show 0 + _ < 32; simpa [x] using hr)).trans ?_
      show 64 * (i 1).val + 32 * (i 0).val + (0 + ((y 1).val - (64 * (i 1).val + 32 * (i 0).val))) = (y 1).val
      omega
    rw [e1, hb.1, hb.2.2, e]
    rfl
  · have hk : outA.view.read (Elt F) ((outRowA dst hd).view.write (Elt F) f ((outRowB src hs).view.read (Elt F) o) Finset.univ) y = outA.view.read (Elt F) f y := by
      refine View.write_of_not_mem (v := (outRowA dst hd).view) (Val := Elt F) f _ _ (i := y) ?_
      intro hm
      obtain ⟨x, -, ex⟩ := Finset.mem_map.mp hm
      have hx := emb_block (A := 4) (M := 1024) (K := 32) (N := 200) ed hd squeezes_S1x32x200_S32x200 x
      exact e ((congrArg (fun z : S4x1024x200.Idx => (z 0).val) ex).symm.trans hx.1)
    rw [hk]
    exact h y hy (by omega)

/-- Copying one batch's block out. -/
theorem wp_copyOut {α : Type} {Q : α → sProp 𝕄} {sem : DmaSems sig S_} (hn : n < 4) (es : src = ![n, 0, 0]) (ed : dst = ![n, 64 * (i 1).val + 32 * (i 0).val, 0])
    {O : CellTallies nD τ sig (HIx 1)} {k : PUnit → Prog (TileEff F i) α} :
    iprop(MayWaits (tile d i) (none : HIx 1) O ∗ Out i I 32 0 ∗ Put i I n ∗ semVal (tile d i, .dma sem.sem) 0 ∗ Owing d i O)
      ⊢ iprop((Out i I 32 0 ∗ Put i I (n + 1) ∗ semVal (tile d i, .dma sem.sem) 0 ∗ Owing d i O -∗ wp frame (wpE defs₀ 𝒱₀ (tile d i) none) Set.univ (k ⟨⟩) Q)
        -∗ wp frame (wpE defs₀ 𝒱₀ (tile d i) none) Set.univ (copyOut i sem src dst hs hd >>= k) Q) := by
  unfold Out Put Owing copyOut
  simp only [bind_assoc]
  simp only [pure_bind, Prog.bind_lift]
  iintro ⟨#Hm, ⟨%o, %ho, Ho⟩, ⟨%f, %hf, Hf⟩, Hv, ⟨%W, HO⟩⟩ Hk
  ihave Ho := (pointsTo_split_subset (Finset.subset_univ (outRowB src hs).view.set)).1 $$ Ho
  icases Ho with ⟨Ho, Hr⟩
  iapply (wp_dmaLocal countersEmb 𝒱₀ (tile d i) none (src := outRowB src hs) (dst := outRowA dst hd) (sm := .dma sem.sem) (q := fullShare) (fs := o) (fd := f) (Sd := piece (tileNo i))
    (none : HIx 1) (outRowA dst hd).view.dmaCredit rfl ((outRowA dst hd).view.dmaCredit_pos (by decide)) (block_subset ed)) $$ [Ho Hf Hv]
  · isplitl [Ho]; iassumption
    isplitl [Hf] <;> iassumption
  iintro Hfl
  ihave Hw := (MayWaits.elim (.dma sem.sem)) $$ Hm
  iapply (wp_waitLocalO countersEmb 𝒱₀ (tile d i) none (none : HIx 1) rfl) $$ [Hfl HO Hw]
  · isplitl [Hfl]; iassumption
    isplitl [HO] <;> iassumption
  iintro ⟨⟨Hf, Ho⟩, Hv, HO⟩
  iapply Hk
  isplitl [Ho Hr]
  · iexists o
    isplitr
    · ipureintro; exact ho
    · iapply (pointsTo_split_subset (Finset.subset_univ (outRowB src hs).view.set)).2
      isplitl [Ho] <;> iassumption
  isplitl [Hf]
  · iexists _
    isplitr
    rotate_left
    · iassumption
    · ipureintro
      exact hf.copy hn es ed ho
  isplitl [Hv]; iassumption
  iexists _; iassumption

end Cert.Proof.Patch
-- ==== Proof.Sparse.TileRows.lean ====
/-
  A tile's loop over its pairs of rows, and the whole of its program.
-/
module

public import proofs.«01_k».proof.Proof.Sparse.TileOut

@[expose] public section

noncomputable section

namespace Cert.Proof.Patch

open Cert.KernelIdeal Cert.KernelIdeal.Gen
open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

variable {d : Dev nD} {i : grid0.Coords} {I : Inputs F d} {q0 q1 : PosShare TreeShare} {O : CellTallies nD τ sig (HIx 1)}

theorem cond1_iff : ∀ s : Fin k0_t1_loop.trips, k0_cond1 s = 1#1 ↔ s.val < 15 := by decide +kernel

/-- The first set of buffers before pair `n`: the pair's first row is on its way, if there is such a pair. -/
def Coming (i : grid0.Coords) (I : Inputs F d) (q : PosShare TreeShare) (n : ℕ) : sProp 𝕄 :=
  if n < 16 then Flying i I bufs0 q (rowNo i (2 * n)) else Idle i I bufs0 q

/-- Before pair `n`. -/
def Pairs (i : grid0.Coords) (I : Inputs F d) (q0 q1 : PosShare TreeShare) (O : CellTallies nD τ sig (HIx 1)) (n : ℕ) : sProp 𝕄 :=
  iprop(MayWaits (tile d i) (none : HIx 1) O ∗ Tab i I ∗ Out i I (2 * n) 0 ∗ Coming i I q0 n ∗ Idle i I bufs1 q1 ∗ Owing d i O)

/-- Starting the next pair's first row. -/
theorem wp_fetchNext {α : Type} {Q : α → sProp 𝕄} {s : Fin k0_t1_loop.trips} {k : PUnit → Prog (TileEff F i) α} :
    Idle i I bufs0 q0 ⊢ iprop((Coming i I q0 (s.val + 1) -∗ wp frame (wpE defs₀ 𝒱₀ (tile d i) none) Set.univ (k ⟨⟩) Q)
        -∗ wp frame (wpE defs₀ 𝒱₀ (tile d i) none) Set.univ (fetchNext i s >>= k) Q) := by
  unfold fetchNext Coming
  by_cases h : k0_cond1 s = 1#1
  · have hs : s.val < 15 := (cond1_iff s).mp h
    have hv : (rowNo i (2 * (s.val + 1))).val = 64 * (i 1).val + 32 * (i 0).val + 2 * s.val + 2 := by
      rw [rowNo_val (by omega)]; omega
    rw [dif_pos h, if_pos (by omega)]
    exact wp_fetch (v := rowNo i (2 * (s.val + 1))) (by rw [k0_off55_eq, hv]) (by rw [k0_off56_eq, hv]) (by rw [k0_off57_eq, hv])
  · have hs : ¬ s.val + 1 < 16 := by
      intro hh
      exact h ((cond1_iff s).mpr (by omega))
    rw [dif_neg h, if_neg hs, pure_bind]
    iintro H Hk
    iapply Hk
    iassumption

set_option maxRecDepth 20000 in
/-- One pair of rows. -/
theorem wp_rows (hI : I.InRange) (s : Fin k0_t1_loop.trips) (u : PUnit) :
    Pairs i I q0 q1 O s.val ⊢ wp frame (wpE defs₀ 𝒱₀ (tile d i) none) Set.univ (rows i s) fun _ => Pairs i I q0 q1 O (s.val + 1) := by
  have hs : s.val < 16 := lt_of_lt_of_eq s.isLt t1_trips
  have h0 : (rowNo i (2 * s.val)).val = 64 * (i 1).val + 32 * (i 0).val + 2 * s.val := rowNo_val (by omega)
  have h1 : (rowNo i (2 * s.val + 1)).val = 64 * (i 1).val + 32 * (i 0).val + 2 * s.val + 1 := rowNo_val (by omega)
  have e2 : 2 * (s.val + 1) = 2 * s.val + 1 + 1 := by omega
  unfold Pairs rows
  rw [e2]
  rw [show Coming i I q0 s.val = Flying i I bufs0 q0 (rowNo i (2 * s.val)) from if_pos hs]
  iintro ⟨#Hm, HT, HO, HF, HI, HW⟩
  iapply (wp_fetch (d := d) (i := i) (B := bufs1) (v := rowNo i (2 * s.val + 1)) (by rw [k0_off4_eq, h1]) (by rw [k0_off5_eq, h1]) (by rw [k0_off6_eq, h1])) $$ HI
  iintro HF1
  iapply (wp_awaitRow (d := d) (i := i) (B := bufs0) (v := rowNo i (2 * s.val)) (O := O)) $$ [HF HW]
  · isplitr; iassumption
    isplitl [HF] <;> iassumption
  iintro ⟨HR, HW⟩
  iapply (wp_groups (d := d) (i := i) (B := bufs0) (q := q0) hI (off := off0 s) (h := off0_inb s) (off0_eq s)) $$ [HT HR HO]
  · isplitl [HT]; iassumption
    isplitl [HR] <;> iassumption
  iintro ⟨HT, HR, HO⟩
  ihave HI := ready_idle $$ HR
  iapply (wp_fetchNext (d := d) (i := i) (s := s)) $$ HI
  iintro HC
  iapply (wp_awaitRow (d := d) (i := i) (B := bufs1) (v := rowNo i (2 * s.val + 1)) (O := O)) $$ [HF1 HW]
  · isplitr; iassumption
    isplitl [HF1] <;> iassumption
  iintro ⟨HR, HW⟩
  iapply (wp_groups (d := d) (i := i) (B := bufs1) (q := q1) hI (off := off1 s) (h := off1_inb s) (off1_eq s)) $$ [HT HR HO]
  · isplitl [HT]; iassumption
    isplitl [HR] <;> iassumption
  iintro ⟨HT, HR, HO⟩
  ihave HI := ready_idle $$ HR
  rw [wp_pure]
  imodintro
  isplitr; iassumption
  isplitl [HT]; iassumption
  isplitl [HO]; iassumption
  isplitl [HC]; iassumption
  isplitl [HI] <;> iassumption

/-- The semaphores of the table's copy and of the four copies out, at rest. -/
def RestOut (d : Dev nD) (i : grid0.Coords) : sProp 𝕄 :=
  iprop(semVal (tile d i, .dma cc0_scoped0.sem) 0 ∗ semVal (tile d i, .dma cc0_scoped1.sem) 0 ∗ semVal (tile d i, .dma cc0_scoped2.sem) 0 ∗ semVal (tile d i, .dma cc0_scoped3.sem) 0)

set_option maxRecDepth 20000 in
/-- The tile's program: from shares of the operands and its piece of the result, the piece holds the result. -/
theorem wp_tile (hI : I.InRange) {qt : PosShare TreeShare} :
    iprop(MayWaits (tile d i) (none : HIx 1) O ∗ (tabLoc d ↦{qt} I.T) ∗ (∃ f, outLoc d ↦[piece (tileNo i)]{fullShare} f)
        ∗ (∃ f, tabB.view.loc (tile d i) ↦{fullShare} f) ∗ (∃ f, outB.view.loc (tile d i) ↦{fullShare} f)
        ∗ Idle i I bufs0 q0 ∗ Idle i I bufs1 q1 ∗ semVal (tile d i, .dma cc0_scratch8.sem) 0 ∗ RestOut d i ∗ Owing d i O)
      ⊢ wp frame (wpE defs₀ 𝒱₀ (tile d i) none) Set.univ (tileProg i) fun _ => iprop((tabLoc d ↦{qt} I.T) ∗ Put i I 4
        ∗ (∃ f, tabB.view.loc (tile d i) ↦{fullShare} f) ∗ (∃ f, outB.view.loc (tile d i) ↦{fullShare} f)
        ∗ Idle i I bufs0 q0 ∗ Idle i I bufs1 q1 ∗ semVal (tile d i, .dma cc0_scratch8.sem) 0 ∗ RestOut d i ∗ Owing d i O) := by
  have h0 : (rowNo i (2 * 0)).val = 64 * (i 1).val + 32 * (i 0).val := rowNo_val (by omega)
  unfold tileProg RestOut
  simp only [Prog.bind_lift]
  iintro ⟨#Hm, HT, ⟨%f, Hf⟩, ⟨%y, Hy⟩, ⟨%o, Ho⟩, HI0, HI1, Vt, ⟨V0, V1, V2, V3⟩, HW⟩
  iapply (wp_issue (d := d) (i := i) (src := tabA) (dst := tabB) (sem := cc0_scratch8.sem) (q := qt) (X := I.T) (f := y) (show 0 < S32768.numel by decide)) $$ [HT Hy Vt]
  · isplitl [HT]; iassumption
    isplitl [Hy] <;> iassumption
  iintro HF
  iapply (wp_fetch (d := d) (i := i) (B := bufs0) (v := rowNo i (2 * 0)) (by rw [k0_off1_eq, h0]) (by rw [k0_off2_eq, h0]) (by rw [k0_off3_eq, h0])) $$ HI0
  iintro HC
  ihave HW := (show Owing d i O ⊢ iprop(∃ W, owes (tile d i) O W) from BI.BIBase.Entails.rfl) $$ HW
  icases HW with ⟨%W, HW⟩
  iapply (wp_await (d := d) (i := i) (dst := tabB) (sem := cc0_scratch8.sem) (ℓ := tabLoc d) (q := qt) (X := I.T) (R := tabA.view.read (Elt F) I.T) (O := O) (W := W)) $$ [HF HW]
  · isplitl [HF]; iassumption
    isplitl [HW]; iassumption
    iassumption
  iintro %g ⟨%eg, Hy, HT, Vt, HW⟩
  iapply (wp_loop (d := d) (i := i) k0_t1_loop k0_t1_ok (fun s _ => rows i s) (Pairs i I q0 q1 O) (wp_rows hI)) $$ [HC HI1 Hy Ho HW]
  · unfold Pairs Tab Out Owing
    isplitr; iassumption
    isplitl [Hy]
    · iexists g; isplitr; (· ipureintro; exact eg); iassumption
    isplitl [Ho]
    · iexists o
      isplitr
      · ipureintro
        intro y hy
        omega
      · iassumption
    isplitl [HC]
    · rw [show Coming i I q0 0 = Flying i I bufs0 q0 (rowNo i (2 * 0)) from if_pos (by decide)]
      iassumption
    isplitl [HI1]; iassumption
    iexists (insert (SemLoc.dma cc0_scratch8.sem, none) W); iassumption
  rw [t1_trips]
  unfold Pairs
  rw [show Coming i I q0 16 = Idle i I bufs0 q0 from if_neg (by decide)]
  iintro ⟨-, HY, HO, HI0, HI1, HW⟩
  ihave HP := (show iprop(outLoc d ↦[piece (tileNo i)]{fullShare} f) ⊢ Put i I 0 from by
    unfold Put
    iintro H
    iexists f
    isplitr
    · ipureintro
      intro y _ hy
      exact absurd hy (Nat.not_lt_zero _)
    · iassumption) $$ Hf
  iapply (wp_copyOut (d := d) (i := i) (I := I) (sem := cc0_scoped0) (n := 0) (O := O) (by decide) rfl (k0_off103_eq i)) $$ [HO HP V0 HW]
  · isplitr; iassumption
    isplitl [HO]; iassumption
    isplitl [HP]; iassumption
    isplitl [V0] <;> iassumption
  iintro ⟨HO, HP, V0, HW⟩
  iapply (wp_copyOut (d := d) (i := i) (I := I) (sem := cc0_scoped1) (n := 1) (O := O) (by decide) rfl (k0_off104_eq i)) $$ [HO HP V1 HW]
  · isplitr; iassumption
    isplitl [HO]; iassumption
    isplitl [HP]; iassumption
    isplitl [V1] <;> iassumption
  iintro ⟨HO, HP, V1, HW⟩
  iapply (wp_copyOut (d := d) (i := i) (I := I) (sem := cc0_scoped2) (n := 2) (O := O) (by decide) rfl (k0_off105_eq i)) $$ [HO HP V2 HW]
  · isplitr; iassumption
    isplitl [HO]; iassumption
    isplitl [HP]; iassumption
    isplitl [V2] <;> iassumption
  iintro ⟨HO, HP, V2, HW⟩
  iapply (wp_copyOut (d := d) (i := i) (I := I) (sem := cc0_scoped3) (n := 3) (O := O) (by decide) rfl (k0_off106_eq i)) $$ [HO HP V3 HW]
  · isplitr; iassumption
    isplitl [HO]; iassumption
    isplitl [HP]; iassumption
    isplitl [V3] <;> iassumption
  iintro ⟨HO, HP, V3, HW⟩
  unfold Tab Out
  icases HY with ⟨%y', -, HY⟩
  icases HO with ⟨%o', -, HO⟩
  rw [wp_pure]
  imodintro
  isplitl [HT]; iassumption
  isplitl [HP]; iassumption
  isplitl [HY]; · iexists y'; iassumption
  isplitl [HO]; · iexists o'; iassumption
  isplitl [HI0]; iassumption
  isplitl [HI1]; iassumption
  isplitl [Vt]; iassumption
  isplitr [HW]
  · isplitl [V0]; iassumption
    isplitl [V1]; iassumption
    isplitl [V2] <;> iassumption
  · iassumption

end Cert.Proof.Patch
-- ==== Proof.Sparse.TileBody.lean ====
/- The tile's program from what the launch hands a tile: its own buffers and semaphores, its share of the operands, its piece of the result. -/
module
public import proofs.«01_k».proof.Proof.Sparse.TileRows

@[expose] public section

noncomputable section

namespace Cert.Proof.Patch

open Cert.KernelIdeal Cert.KernelIdeal.Gen
open Idealize.ShloMosaic
open Idealize.ShloMosaic.SparseCore (V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

/-! ## A tile's semaphores and buffers -/

/-- The semaphores the tile's program uses. -/
def tileSems : Finset (SemLoc sig) :=
  {.dma cc0_scratch8.sem, .dma cc0_scratch9.sem, .dma cc0_scratch11.sem, .dma cc0_scratch13.sem, .dma cc0_scratch10.sem, .dma cc0_scratch12.sem,
    .dma cc0_scratch14.sem, .dma cc0_scoped0.sem, .dma cc0_scoped1.sem, .dma cc0_scoped2.sem, .dma cc0_scoped3.sem}

/-- The buffers the tile's program uses. -/
def tileRefs : Finset (Ref sig .scVector) :=
  {cc0_scratch0, cc0_scratch7, cc0_scratch1, cc0_scratch3, cc0_scratch5, cc0_scratch2, cc0_scratch4, cc0_scratch6}

variable (d : Dev nD) (i : grid0.Coords)

/-- The cell of a semaphore on the tile. -/
def cellOf : SemLoc sig ↪ GSem nD τ sig := ⟨fun s => (tile d i, s), fun _ _ h => (Prod.mk.inj h).2⟩

/-- The tile's place for a buffer of its kind. -/
def placeOf : Ref sig .scVector ↪ DevRef τ sig := ⟨(Proc.scVector (cV i) (jV i)).devRef, Proc.devRef_injective _⟩

/-- The tile's semaphores that its program does not use, and its buffers likewise. -/
def otherSems : sProp 𝕄 := bigSep (ownCells (tile d i) \ tileSems.map (cellOf d i)) fun g => semVal g 0
def otherBufs : sProp 𝕄 := bigSep (ownRefs (τ := τ) (.scVector (cV i) (jV i)) \ tileRefs.map (placeOf i)) fun b => iprop(∃ f, ((d, b) : Loc nD τ sig) ↦{fullShare} f)

theorem tileSems_scoped : ∀ s ∈ tileSems, s.isScoped .scVector = true := by decide

theorem tileSems_sub : tileSems.map (cellOf d i) ⊆ ownCells (tile d i) := by
  intro g hg
  obtain ⟨s, hs, rfl⟩ := Finset.mem_map.mp hg
  exact mem_ownCells.mpr ⟨rfl, tileSems_scoped s hs⟩

theorem tileRefs_owner : ∀ b ∈ tileRefs, ((Proc.scVector (cV i) (jV i)).devRef b : DevRef τ sig).owner = .proc (.scVector (cV i) (jV i)) := by
  intro b hb
  simp only [tileRefs, Finset.mem_insert, Finset.mem_singleton] at hb
  rcases hb with h | h | h | h | h | h | h | h <;> subst h <;> rfl

theorem tileRefs_sub : tileRefs.map (placeOf i) ⊆ ownRefs (τ := τ) (.scVector (cV i) (jV i)) := by
  intro b hb
  obtain ⟨r, hr, rfl⟩ := Finset.mem_map.mp hb
  exact SparseCore.Cfg.mem_ownRefs_of_owner (tileRefs_owner i r hr)

/-- The tile's semaphores at zero: those its program uses, and the others. -/
theorem ownSems0_tile :
    (ownSems0 (tile d i) : sProp 𝕄) = iprop((semVal (tile d i, .dma cc0_scratch8.sem) 0 ∗ semVal (tile d i, .dma cc0_scratch9.sem) 0
      ∗ semVal (tile d i, .dma cc0_scratch11.sem) 0 ∗ semVal (tile d i, .dma cc0_scratch13.sem) 0 ∗ semVal (tile d i, .dma cc0_scratch10.sem) 0
      ∗ semVal (tile d i, .dma cc0_scratch12.sem) 0 ∗ semVal (tile d i, .dma cc0_scratch14.sem) 0 ∗ semVal (tile d i, .dma cc0_scoped0.sem) 0
      ∗ semVal (tile d i, .dma cc0_scoped1.sem) 0 ∗ semVal (tile d i, .dma cc0_scoped2.sem) 0 ∗ semVal (tile d i, .dma cc0_scoped3.sem) 0) ∗ otherSems d i) := by
  unfold ownSems0 otherSems
  rw [SparseCore.bigSep_sdiff_split' (tileSems_sub d i), bigSep_map]
  congr 1
  unfold tileSems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-- A buffer of the tile at some contents. -/
abbrev someOf {s : Shape} {e : EltTy} (b : Memref sig .scVector .vmem s e) : sProp 𝕄 := iprop(∃ f, b.view.loc (tile d i) ↦{fullShare} f)

/-- The tile's buffers: those its program uses, and the others. -/
theorem ownBufs_tile :
    (ownBufs (tile d i) : sProp 𝕄) = iprop((someOf d i tabB ∗ someOf d i outB ∗ someOf d i bufs0.w ∗ someOf d i bufs0.p
      ∗ someOf d i bufs0.b ∗ someOf d i bufs1.w ∗ someOf d i bufs1.p ∗ someOf d i bufs1.b) ∗ otherBufs d i) := by
  unfold ownBufs otherBufs
  refine (SparseCore.bigSep_sdiff_split' (tileRefs_sub i)).trans ?_
  rw [bigSep_map]
  congr 1
  unfold tileRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## A tile's share of the arrays -/

variable {d}

/-- The share of an operand that tile number `n` reads. -/
abbrev tok (n : Fin 32) : PosShare TreeShare := shareTok fullShare 32 n

/-- What tile number `n` starts from: shares of the operands, its piece of the result at any contents. -/
def Given (I : Inputs F d) (n : Fin 32) : sProp 𝕄 :=
  iprop((tabLoc d ↦{tok n} I.T) ∗ Src I (tok n) ∗ ∃ f, outLoc d ↦[piece n.val]{fullShare} f)

/-- Every entry of piece `n` holds the result. -/
def Right (I : Inputs F d) (n : ℕ) (f : Buf (Elt F) (outLoc d)) : Prop :=
  ∀ y ∈ piece n, outA.view.read (Elt F) f y = I.cell (y 1) (y 0).val (y 2).val

/-- What the tile leaves: its piece, holding the result. -/
def Made (I : Inputs F d) (n : Fin 32) : sProp 𝕄 := iprop(∃ f, ⌜Right I n.val f⌝ ∗ outLoc d ↦[piece n.val]{fullShare} f)

theorem Put_Right {I : Inputs F d} : Put i I 4 ⊢ (iprop(∃ f, ⌜Right I (tileNo i) f⌝ ∗ outLoc d ↦[piece (tileNo i)]{fullShare} f) : sProp 𝕄) := by
  unfold Put
  iintro ⟨%f, %hf, H⟩
  iexists f
  isplitr
  · ipureintro
    exact fun y hy => hf y hy (y 0).isLt
  · iassumption

theorem Src_halves {I : Inputs F d} {q : PosShare TreeShare} : Src I q ⊢ (iprop(Src I q.left ∗ Src I q.right) : sProp 𝕄) := by
  unfold Src
  iintro ⟨Hw, Hp, Hb⟩
  ihave Hw := (pointsTo_share (PosShare.mem_left_op_right q)).1 $$ Hw
  ihave Hp := (pointsTo_share (PosShare.mem_left_op_right q)).1 $$ Hp
  ihave Hb := (pointsTo_share (PosShare.mem_left_op_right q)).1 $$ Hb
  icases Hw with ⟨Hw, Hw'⟩
  icases Hp with ⟨Hp, Hp'⟩
  icases Hb with ⟨Hb, Hb'⟩
  isplitl [Hw Hp Hb]
  · isplitl [Hw]; iassumption
    isplitl [Hp] <;> iassumption
  · isplitl [Hw']; iassumption
    isplitl [Hp'] <;> iassumption

/-- The number of a tile, as one of 32. -/
def numOf (i : grid0.Coords) : Fin 32 :=
  ⟨tileNo i, by have h0 : (i 0).val < 2 := (i 0).isLt; have h1 : (i 1).val < 16 := (i 1).isLt; unfold tileNo; omega⟩

/-! ## The task -/

set_option maxRecDepth 20000 in
/-- The kernel's program on a tile: from what the launch hands the tile, it leaves the piece of the result holding the result, and the
    tile's own buffers and semaphores as a task must leave them. -/
theorem tile_task {I : Inputs F d} (hI : I.InRange) (O : CellTallies nD τ sig (HIx 1)) (W : Waits sig (HIx 1)) (hO : ∀ g, O g none = 0) :
    iprop(levAts (K (F := F)).L (K (F := F)).lev ∗ emp ∗ Given I (numOf i)
        ∗ scopedBufs (tile d i) ∗ scopedSems0 (tile d i) ∗ owes (tile d i) O W)
      ⊢ wp frame (wpE (defs₀ (F := F)) 𝒱₀ (tile d i) none) Set.univ (bodyProg (F := F) i)
          fun _ => iprop(Made I (numOf i) ∗ scopedBufs (tile d i) ∗ scopedSems0 (tile d i)
            ∗ ∃ W', ⌜∀ p ∈ W', p ∈ W ∨ p.2 = none ∨ p.2 = some (0 : Fin 1)⌝ ∗ owes (tile d i) O W') := by
  rw [(K (F := F)).scopedBufs_V facts d (cV i) (jV i), SparseCore.Cfg.scopedSems0_V (Val := Elt F) d (cV i) (jV i), ownSems0_tile, ownBufs_tile, body_eq]
  unfold Given
  iintro ⟨#Hlv, -, ⟨HT, HS, Hf⟩, ⟨⟨Bt, Bo, B1, B3, B5, B2, B4, B6⟩, HB⟩, ⟨⟨Vt, V9, V11, V13, V10, V12, V14, C0, C1, C2, C3⟩, HV⟩, HO⟩
  ihave Hmw := (show levAts (K (F := F)).L (K (F := F)).lev ⊢ Transfers.MayWaits (tile d i) (default : HIx 1) O from
    (K (F := F)).mayWaits_none (thr := tile d i) hO) $$ Hlv
  ihave HS := Src_halves $$ HS
  icases HS with ⟨HS0, HS1⟩
  iapply (wp_wand_r frame (wpE (defs₀ (F := F)) 𝒱₀ (tile d i) none) Set.univ
    (Q := fun _ => iprop((tabLoc d ↦{tok (numOf i)} I.T) ∗ Put i I 4
        ∗ (∃ f, tabB.view.loc (tile d i) ↦{fullShare} f) ∗ (∃ f, outB.view.loc (tile d i) ↦{fullShare} f)
        ∗ Idle i I bufs0 (tok (numOf i)).left ∗ Idle i I bufs1 (tok (numOf i)).right ∗ semVal (tile d i, .dma cc0_scratch8.sem) 0 ∗ RestOut d i ∗ Owing d i O))) $$ [HT Hf Bt Bo B1 B3 B5 B2 B4 B6 HB Vt V9 V11 V13 V10 V12 V14 C0 C1 C2 C3 HV HO HS0 HS1 Hmw]
  isplitr [HB HV]
  · iapply (wp_tile (d := d) (i := i) (I := I) hI (qt := tok (numOf i)) (q0 := (tok (numOf i)).left) (q1 := (tok (numOf i)).right) (O := O))
    isplitr; · iassumption
    isplitl [HT]; · iassumption
    isplitl [Hf]; · iexact Hf
    isplitl [Bt]; · iexact Bt
    isplitl [Bo]; · iexact Bo
    isplitl [B1 B3 B5 V9 V11 V13 HS0]
    · unfold Idle Rest
      isplitl [B1]; · iexact B1
      isplitl [B3]; · iexact B3
      isplitl [B5]; · iexact B5
      isplitr [HS0]
      · isplitl [V9]; · iexact V9
        isplitl [V11]; · iexact V11
        iexact V13
      · iassumption
    isplitl [B2 B4 B6 V10 V12 V14 HS1]
    · unfold Idle Rest
      isplitl [B2]; · iexact B2
      isplitl [B4]; · iexact B4
      isplitl [B6]; · iexact B6
      isplitr [HS1]
      · isplitl [V10]; · iexact V10
        isplitl [V12]; · iexact V12
        iexact V14
      · iassumption
    isplitl [Vt]; · iassumption
    isplitl [C0 C1 C2 C3]
    · unfold RestOut
      isplitl [C0]; iassumption
      isplitl [C1]; iassumption
      isplitl [C2] <;> iassumption
    · unfold Owing
      iexists W
      iassumption
  · iintro %_ ⟨HT, HP, Bt, Bo, HI0, HI1, Vt, HC, HW⟩
    ihave HM := (Put_Right (d := d) i (I := I)) $$ HP
    unfold Idle Rest RestOut Owing
    icases HI0 with ⟨B1, B3, B5, ⟨V9, V11, V13⟩, -⟩
    icases HI1 with ⟨B2, B4, B6, ⟨V10, V12, V14⟩, -⟩
    icases HC with ⟨C0, C1, C2, C3⟩
    icases HW with ⟨%W', HW⟩
    isplitl [HM]
    · unfold Made
      iexact HM
    isplitl [Bt Bo B1 B3 B5 B2 B4 B6 HB]
    · isplitr [HB]
      · isplitl [Bt]; · iexact Bt
        isplitl [Bo]; · iexact Bo
        isplitl [B1]; · iexact B1
        isplitl [B3]; · iexact B3
        isplitl [B5]; · iexact B5
        isplitl [B2]; · iexact B2
        isplitl [B4]; · iexact B4
        iexact B6
      · iexact HB
    isplitr [HW]
    · isplitr [HV]
      · isplitl [Vt]; · iexact Vt
        isplitl [V9]; · iexact V9
        isplitl [V11]; · iexact V11
        isplitl [V13]; · iexact V13
        isplitl [V10]; · iexact V10
        isplitl [V12]; · iexact V12
        isplitl [V14]; · iexact V14
        isplitl [C0]; · iexact C0
        isplitl [C1]; · iexact C1
        isplitl [C2]; · iexact C2
        iexact C3
      · iexact HV
    · iexists W'
      isplitr
      · ipureintro
        intro p _
        rcases p.2 with _ | q
        · exact .inr (.inl rfl)
        · exact .inr (.inr (congrArg some (Subsingleton.elim q 0)))
      · iassumption

end Cert.Proof.Patch
-- ==== Proof.Sparse.HostOps.lean ====
/- The host operations before the call: the arrays they leave, in terms of the arguments. -/
module
public import proofs.«01_k».proof.Proof.Sparse.TileBody
public import Idealize.ShloMosaic.Lib.StableHlo.Run
public import Idealize.ShloMosaic.Lib.Pipeline.Frame

@[expose] public section

noncomputable section

namespace Cert.Proof.Patch

open Cert.KernelIdeal Cert.KernelIdeal.Gen
open Idealize.ShloMosaic Idealize.ShloMosaic.TcCoe Idealize.ShloMosaic.StableHlo
open Idealize.ShloMosaic.Pipeline (ucRefs sub_ucRefs)
open Idealize.SL.Sem

variable {F : FTy → Type} [FloatOps F]

/-- The operations, in order: the positions at the first entry of each group of eight, turned so that a vertex's row is contiguous; the values
    through bf16 and back, one plane per channel; the weights turned likewise. -/
def hostOps : List (HloOp τ sig (Elt F)) :=
  [StableHlo.unary main_arg3 main_v0 ((Host.slice S1024x200x8x1 ![0, 0, 0, 0] ![1, 1, 8, 1] · slicesBy_S1024x200x64x2_S1024x200x8x1_0s1_0s1_0s8_0s1) : (⟨S1024x200x64x2, .i32⟩ : BufTy).Contents (Elt F) → (⟨S1024x200x8x1, .i32⟩ : BufTy).Contents (Elt F)),
    StableHlo.reshape main_v0 main_v1 (rfl : (.i32 : EltTy) = .i32) shapeCasts_S1024x200x8x1_S1024x200x8,
    StableHlo.unary main_v1 main_v2 ((transpose S1024x8x200 [0, 2, 1] · transposes_S1024x200x8_S1024x8x200_0_2_1) : (⟨S1024x200x8, .i32⟩ : BufTy).Contents (Elt F) → (⟨S1024x8x200, .i32⟩ : BufTy).Contents (Elt F)),
    StableHlo.reshape main_v2 main_v3 (rfl : (.i32 : EltTy) = .i32) shapeCasts_S1024x8x200_S1024x1600,
    StableHlo.unary main_arg0 main_v4 ((truncf .bf16 · bitsLt_bf16_f32) : (⟨S4x1024x8, .f32⟩ : BufTy).Contents (Elt F) → (⟨S4x1024x8, .bf16⟩ : BufTy).Contents (Elt F)),
    StableHlo.unary main_v4 main_v5 ((extf .f32 · bitsLt_bf16_f32) : (⟨S4x1024x8, .bf16⟩ : BufTy).Contents (Elt F) → (⟨S4x1024x8, .f32⟩ : BufTy).Contents (Elt F)),
    StableHlo.unary main_v5 main_v6 ((transpose S4x8x1024 [0, 2, 1] · transposes_S4x1024x8_S4x8x1024_0_2_1) : (⟨S4x1024x8, .f32⟩ : BufTy).Contents (Elt F) → (⟨S4x8x1024, .f32⟩ : BufTy).Contents (Elt F)),
    StableHlo.reshape main_v6 main_v7 (rfl : (.f32 : EltTy) = .f32) shapeCasts_S4x8x1024_S32768,
    StableHlo.unary main_arg1 main_v8 ((transpose S1024x64x200 [0, 2, 1] · transposes_S1024x200x64_S1024x64x200_0_2_1) : (⟨S1024x200x64, .f32⟩ : BufTy).Contents (Elt F) → (⟨S1024x64x200, .f32⟩ : BufTy).Contents (Elt F)),
    StableHlo.reshape main_v8 main_v9 (rfl : (.f32 : EltTy) = .f32) shapeCasts_S1024x64x200_S1024x12800]

/-- The program is those operations, then the call. -/
theorem main_ops (d : Dev nD) : main (F := F) d = (seq hostOps >>= fun _ => ((K (F := F)).run d 0 >>= fun _ => pure ⟨⟩)) := rfl

theorem hostOps_fresh : ∀ op ∈ (hostOps (F := F)), op.fresh = ∅ := by
  intro op h
  simp only [hostOps, List.mem_cons, List.not_mem_nil, or_false] at h
  rcases h with h | h | h | h | h | h | h | h | h | h <;> subst h <;> rfl

set_option maxRecDepth 8192 in
theorem hostOps_sub : ∀ op ∈ (hostOps (F := F)), op.bufs ⊆ ucRefs τ sig :=
  List.forall_iff_forall_mem.mp (show (hostOps (F := F)).Forall fun op => op.bufs ⊆ ucRefs τ sig from
    ⟨sub_ucRefs _ (unary_bufs_sub ..), sub_ucRefs _ (reshape_bufs_sub ..), sub_ucRefs _ (unary_bufs_sub ..), sub_ucRefs _ (reshape_bufs_sub ..), sub_ucRefs _ (unary_bufs_sub ..),
      sub_ucRefs _ (unary_bufs_sub ..), sub_ucRefs _ (unary_bufs_sub ..), sub_ucRefs _ (reshape_bufs_sub ..), sub_ucRefs _ (unary_bufs_sub ..), sub_ucRefs _ (reshape_bufs_sub ..)⟩)

variable (m : (ℓ : Loc nD τ sig) → Buf (Elt F) ℓ) (d : Dev nD)

/-- What device `d`'s arrays hold after the operations. -/
def hostV : Valuation τ sig (Elt F) := after hostOps (launchContents m d)

/-- The arguments are as they were. -/
theorem hostV_arg0 : hostV m d main_arg0 = m ((d.tc : Thread nD τ).loc main_arg0) := by
  unfold hostV hostOps; after_results_simp <;> rfl
theorem hostV_arg1 : hostV m d main_arg1 = m ((d.tc : Thread nD τ).loc main_arg1) := by
  unfold hostV hostOps; after_results_simp <;> rfl
theorem hostV_arg2 : hostV m d main_arg2 = m ((d.tc : Thread nD τ).loc main_arg2) := by
  unfold hostV hostOps; after_results_simp <;> rfl
theorem hostV_arg3 : hostV m d main_arg3 = m ((d.tc : Thread nD τ).loc main_arg3) := by
  unfold hostV hostOps; after_results_simp <;> rfl

/-- The table: the values rounded through bf16, a plane per channel. -/
theorem hostV_v7 : hostV m d main_v7 = shapeCast S32768 (transpose S4x8x1024 [0, 2, 1] (extf .f32 (truncf .bf16 (m ((d.tc : Thread nD τ).loc main_arg0)) bitsLt_bf16_f32) bitsLt_bf16_f32) transposes_S4x1024x8_S4x8x1024_0_2_1) shapeCasts_S4x8x1024_S32768 := by
  unfold hostV hostOps; after_results_simp <;> rfl

/-- The positions: those of every eighth entry, turned. -/
theorem hostV_v3 : hostV m d main_v3 = shapeCast S1024x1600 (transpose S1024x8x200 [0, 2, 1]
    (shapeCast S1024x200x8 (Host.slice S1024x200x8x1 ![0, 0, 0, 0] ![1, 1, 8, 1] (m ((d.tc : Thread nD τ).loc main_arg3)) slicesBy_S1024x200x64x2_S1024x200x8x1_0s1_0s1_0s8_0s1)
      shapeCasts_S1024x200x8x1_S1024x200x8) transposes_S1024x200x8_S1024x8x200_0_2_1) shapeCasts_S1024x8x200_S1024x1600 := by
  unfold hostV hostOps; after_results_simp <;> rfl

/-- The weights, turned. -/
theorem hostV_v9 : hostV m d main_v9 = shapeCast S1024x12800 (transpose S1024x64x200 [0, 2, 1] (m ((d.tc : Thread nD τ).loc main_arg1)) transposes_S1024x200x64_S1024x64x200_0_2_1)
    shapeCasts_S1024x64x200_S1024x12800 := by
  unfold hostV hostOps; after_results_simp <;> rfl

/-- The inputs of the call. -/
def inputs : Inputs F d := ⟨hostV m d main_v7, hostV m d main_v3, hostV m d main_v9, hostV m d main_arg2⟩

end Cert.Proof.Patch
-- ==== Proof.Sparse.Launch.lean ====
/- The launch: what the call takes and brings back, and the program's run. -/
module
public import proofs.«01_k».proof.Proof.Sparse.HostOps

@[expose] public section

noncomputable section

namespace Cert.Proof.Patch

open Cert.KernelIdeal Cert.KernelIdeal.Gen
open Idealize.ShloMosaic Idealize.ShloMosaic.TcCoe
open Idealize.ShloMosaic.SparseCore (V)
open Idealize.ShloMosaic.SparseCore.Cfg (HIx Pay)
open Idealize.ShloMosaic.StableHlo (held held_sub_split seq wp_seq launchContents)
open Idealize.ShloMosaic.Pipeline (ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

/-! ## What the call carries -/

/-- Core `c` and subcore `s` to the tile's number `2 s + c`. -/
def numEquiv : Fin 2 × Fin 16 ≃ Fin 32 := (Equiv.prodComm (Fin 2) (Fin 16)).trans finProdFinEquiv

variable (I : (d : Dev nD) → Inputs F d)

/-- Each core takes what its sixteen tiles start from, and brings back what they leave. -/
def P : (K (F := F)).Pay (nD := nD) (Val := Elt F) (Name := ℕ) (U := UU) where
  st := fun q d c => match q with | 0 => bigSep Finset.univ fun s : Fin 16 => Given (I d) (numEquiv (Fin.cast nCore_zero c, s))
  dn := fun q d c => match q with | 0 => bigSep Finset.univ fun s : Fin 16 => Made (I d) (numEquiv (Fin.cast nCore_zero c, s))
  go := fun q d c s => match q with | 0 => Given (I d) (numEquiv (Fin.cast nCore_zero c, Fin.cast nSub_zero s))
  td := fun q d c s => match q with | 0 => Made (I d) (numEquiv (Fin.cast nCore_zero c, Fin.cast nSub_zero s))
  x := fun _ _ => iprop(emp)

instance Given_storable {d : Dev nD} (J : Inputs F d) (n : Fin 32) : BI.Storable (upEmb : UEmb _ 𝕄) (Given J n) := by
  unfold Given Src; infer_instance
instance Made_storable {d : Dev nD} (J : Inputs F d) (n : Fin 32) : BI.Storable (upEmb : UEmb _ 𝕄) (Made J n) := by
  unfold Made; infer_instance

instance P_storable : (P I).IsStorable where
  st q d c := match q with
    | 0 => (inferInstance : BI.Storable (upEmb : UEmb _ 𝕄) (bigSep Finset.univ fun s : Fin 16 => Given (I d) (numEquiv (Fin.cast nCore_zero c, s))))
  dn q d c := match q with
    | 0 => (inferInstance : BI.Storable (upEmb : UEmb _ 𝕄) (bigSep Finset.univ fun s : Fin 16 => Made (I d) (numEquiv (Fin.cast nCore_zero c, s))))
  go q d c s := match q with
    | 0 => (inferInstance : BI.Storable (upEmb : UEmb _ 𝕄) (Given (I d) (numEquiv (Fin.cast nCore_zero c, Fin.cast nSub_zero s))))
  td q d c s := match q with
    | 0 => (inferInstance : BI.Storable (upEmb : UEmb _ 𝕄) (Made (I d) (numEquiv (Fin.cast nCore_zero c, Fin.cast nSub_zero s))))

/-! ## The task of a tile -/

/-- The tile of core `c` and subcore `s`, as the kernel's grid point. -/
def coordsV (c : Fin (grid0.bound 0)) (s : Fin (grid0.bound 1)) : grid0.Coords :=
  fun | 0 => c | 1 => s | ⟨_ + 2, h⟩ => absurd h (Nat.not_lt.2 (Nat.le_add_left _ _))

/-- The kernel's entry of the body table is the tile's program at each tile of the grid. -/
theorem defs₀_vector (c : Fin τ.nSC) (s : Fin τ.nSub) :
    defs₀ (F := F) (.scVector c s) 0 () = SparseCore.onTile hcore0 hsub0 (fun c s => bodyProg (coordsV c s)) ⟨⟩ c s := rfl

theorem numOf_coordsV (c : Fin 2) (s : Fin 16) : numOf (coordsV c s) = numEquiv (c, s) :=
  Fin.ext (show 2 * s.val + c.val = c.val + 2 * s.val from by omega)

theorem tileObl (hI : ∀ d, (I d).InRange) : (K (F := F)).TileObl (D (F := F)) 𝒱 (P I) v₀ 0 := by
  intro d c s O W hO _ _
  simp only [show (P I).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have key := tile_task (d := d) (coordsV ⟨_, hci.1⟩ ⟨_, hci.2⟩) (hI d) O W hO
  rw [show numOf (coordsV ⟨_, hci.1⟩ ⟨_, hci.2⟩) = numEquiv (Fin.cast nCore_zero c, Fin.cast nSub_zero s) from
    numOf_coordsV (Fin.cast nCore_zero c) (Fin.cast nSub_zero s)] at key
  exact key

/-! ## The split over a core's tiles, and over the cores -/

theorem bigSep_tiles (Φ : Fin 16 → sProp 𝕄) :
    (bigSep Finset.univ fun s : Fin ((K (F := F)).nSub 0) => Φ (Fin.cast nSub_zero s)) = bigSep Finset.univ Φ :=
  bigSep_congr fun _ _ => congrArg Φ (Fin.ext rfl)

theorem vecSplit : (K (F := F)).VecSplit' (P I) 0 := by
  intro d c
  show (bigSep Finset.univ fun s : Fin 16 => Given (I d) (numEquiv (Fin.cast nCore_zero c, s))) ⊢ |={Set.univ}=> iprop(
    (bigSep Finset.univ fun s : Fin ((K (F := F)).nSub 0) => Given (I d) (numEquiv (Fin.cast nCore_zero c, Fin.cast nSub_zero s)))
    ∗ ((bigSep Finset.univ fun s : Fin ((K (F := F)).nSub 0) => Made (I d) (numEquiv (Fin.cast nCore_zero c, Fin.cast nSub_zero s)))
      -∗ bigSep Finset.univ fun s : Fin 16 => Made (I d) (numEquiv (Fin.cast nCore_zero c, s))))
  rw [bigSep_tiles (F := F) (fun s => Given (I d) (numEquiv (Fin.cast nCore_zero c, s))),
    bigSep_tiles (F := F) (fun s => Made (I d) (numEquiv (Fin.cast nCore_zero c, s)))]
  iintro H; imodintro
  isplitl [H]; · iexact H
  iintro H
  iexact H

theorem bigSep_grid (Φ : Fin 32 → sProp 𝕄) :
    (bigSep Finset.univ fun c : Fin ((K (F := F)).nCore 0) => bigSep Finset.univ fun s : Fin 16 => Φ (numEquiv (Fin.cast nCore_zero c, s)))
      = bigSep Finset.univ Φ := by
  rw [bigSep_univ_equiv numEquiv, bigSep_univ_prod]
  exact bigSep_congr fun _ _ => rfl

theorem st0_eq (d : Dev nD) : (bigSep Finset.univ fun c : Fin ((K (F := F)).nCore 0) => (P I).st 0 d c) = bigSep Finset.univ (Given (I d)) :=
  bigSep_grid (F := F) (Given (I d))
theorem dn0_eq (d : Dev nD) : (bigSep Finset.univ fun c : Fin ((K (F := F)).nCore 0) => (P I).dn 0 d c) = bigSep Finset.univ (Made (I d)) :=
  bigSep_grid (F := F) (Made (I d))

/-! ## The pieces of the result -/

theorem pieces_disjoint : ∀ n ∈ (Finset.univ : Finset (Fin 32)), ∀ n' ∈ (Finset.univ : Finset (Fin 32)), n ≠ n' → Disjoint (piece n.val) (piece n'.val) := by
  intro n _ n' _ h
  refine Finset.disjoint_left.mpr fun y hy hy' => h (Fin.ext ?_)
  exact (mem_piece.mp hy).symm.trans (mem_piece.mp hy')

theorem pieces_cover : (Finset.univ : Finset (Fin 32)).biUnion (fun n => piece n.val) = Finset.univ := by
  refine Finset.eq_univ_iff_forall.mpr fun y => Finset.mem_biUnion.mpr ?_
  have h : (y 1).val < 1024 := (y 1).isLt
  exact ⟨⟨(y 1).val / 32, by omega⟩, Finset.mem_univ _, mem_piece.mpr rfl⟩

variable {I} {d : Dev nD}

/-- The result array whole is its 32 pieces. -/
theorem out_pieces (f : Buf (Elt F) (outLoc d)) :
    (outLoc d ↦{fullShare} f : sProp 𝕄) = bigSep Finset.univ fun n : Fin 32 => outLoc d ↦[piece n.val]{fullShare} f := by
  rw [← pointsTo_biUnion Finset.univ (ℓ := outLoc d) (fun n : Fin 32 => piece n.val) pieces_disjoint, pieces_cover]

/-- The result array holds the result. -/
def AllRight (J : Inputs F d) (f : Buf (Elt F) (outLoc d)) : Prop :=
  ∀ y, outA.view.read (Elt F) f y = J.cell (y 1) (y 0).val (y 2).val

/-- The tiles' pieces, each holding the result, are the array holding it. -/
theorem made_join (J : Inputs F d) : bigSep Finset.univ (Made J) ⊢ (iprop(∃ f, ⌜AllRight J f⌝ ∗ outLoc d ↦{fullShare} f) : sProp 𝕄) := by
  have hm : ∀ n : Fin 32, (Made J n : sProp 𝕄) = iprop(∃ f : Buf (Elt F) (outLoc d), ⌜Right J n.val f⌝ ∗ outLoc d ↦[piece n.val]{fullShare} f) := fun _ => rfl
  rw [bigSep_congr fun n _ => hm n]
  by_cases hne : Nonempty (Buf (Elt F) (outLoc d))
  · refine (bigSep_exists_pi Finset.univ (fun (n : Fin 32) (f : Buf (Elt F) (outLoc d)) => iprop(⌜Right J n.val f⌝ ∗ outLoc d ↦[piece n.val]{fullShare} f))).trans ?_
    iintro ⟨%fs, H⟩
    ihave H := (bigSep_pure_sep Finset.univ (fun n : Fin 32 => Right J n.val (fs n)) (fun n => iprop(outLoc d ↦[piece n.val]{fullShare} fs n))) $$ H
    icases H with ⟨%hR, H⟩
    ihave H := (pointsTo_biUnion_join (ℓ := outLoc d) (q := fullShare) (Val := Elt F) Finset.univ (fun n : Fin 32 => piece n.val) fs (fs 0) pieces_disjoint) $$ H
    icases H with ⟨%g, %hg, H⟩
    rw [pieces_cover]
    iexists g
    isplitr
    · ipureintro
      intro y
      have h : (y 1).val < 1024 := (y 1).isLt
      have hy : y ∈ piece ((y 1).val / 32) := mem_piece.mpr rfl
      have hn : (y 1).val / 32 < 32 := by omega
      exact (hg ⟨_, hn⟩ (Finset.mem_univ _) y hy).trans (hR ⟨_, hn⟩ (Finset.mem_univ _) y hy)
    · iassumption
  · rw [SparseCore.bigSep_erase' (Finset.mem_univ (0 : Fin 32))]
    iintro ⟨⟨%f, -⟩, -⟩
    exact absurd ⟨f⟩ hne

/-! ## @main on the TensorCore -/

/-- The arrays that the proof follows: the arguments, the operands, the result. -/
def kept : Finset (DevRef τ sig) := {↑main_arg0, ↑main_arg1, ↑main_arg3, ↑main_v7, ↑main_v3, ↑main_v9, ↑main_arg2, ↑main_v10}

theorem kept_sub : kept ⊆ ucRefs τ sig := by
  unfold kept
  intro b hb
  simp only [Finset.mem_insert, Finset.mem_singleton] at hb
  rcases hb with h | h | h | h | h | h | h | h <;> subst h <;>
    exact Finset.mem_filter.mpr ⟨StableHlo.devRef_mem_tcRefs _, by decide⟩

/-- Those arrays, held at a valuation. -/
theorem held_kept (W : Valuation τ sig (Elt F)) :
    (held (SparseCore.T d) kept W : sProp 𝕄) = iprop(((d, ↑main_arg0) ↦{fullShare} W main_arg0) ∗ ((d, ↑main_arg1) ↦{fullShare} W main_arg1)
      ∗ ((d, ↑main_arg3) ↦{fullShare} W main_arg3) ∗ (tabLoc d ↦{fullShare} W main_v7) ∗ (posLoc d ↦{fullShare} W main_v3) ∗ (wLoc d ↦{fullShare} W main_v9)
      ∗ (biasLoc d ↦{fullShare} W main_arg2) ∗ (outLoc d ↦{fullShare} W main_v10)) := by
  unfold held kept
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

end Cert.Proof.Patch
-- ==== Proof.Sparse.Run.lean ====
/- The program's run: the host operations, the call, and what the arrays hold at the end. -/
module
public import proofs.«01_k».proof.Proof.Sparse.Launch

@[expose] public section

noncomputable section

namespace Cert.Proof.Patch

open Cert.KernelIdeal Cert.KernelIdeal.Gen
open Idealize.ShloMosaic Idealize.ShloMosaic.TcCoe
open Idealize.ShloMosaic.SparseCore (V)
open Idealize.ShloMosaic.SparseCore.Cfg (HIx Pay)
open Idealize.ShloMosaic.StableHlo (held held_sub_split seq wp_seq launchContents)
open Idealize.ShloMosaic.Pipeline (ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

variable {d : Dev nD}

/-- The arrays whole are what the 32 tiles start from, and a share of the biases kept back. -/
theorem deal (J : Inputs F d) :
    iprop((tabLoc d ↦{fullShare} J.T) ∗ (posLoc d ↦{fullShare} J.P) ∗ (wLoc d ↦{fullShare} J.W) ∗ (biasLoc d ↦{fullShare} J.B) ∗ ∃ f, outLoc d ↦{fullShare} f)
      ⊢ (iprop(bigSep Finset.univ (Given J) ∗ biasLoc d ↦{shareDrop fullShare 32} J.B) : sProp 𝕄) := by
  have hg : ∀ n : Fin 32, (Given J n : sProp 𝕄) = iprop((tabLoc d ↦{tok n} J.T) ∗ ((wLoc d ↦{tok n} J.W) ∗ (posLoc d ↦{tok n} J.P) ∗ (biasLoc d ↦{tok n} J.B))
    ∗ ∃ f, outLoc d ↦[piece n.val]{fullShare} f) := fun _ => rfl
  rw [bigSep_congr fun n _ => hg n, bigSep_sep', bigSep_sep', bigSep_sep', bigSep_sep']
  iintro ⟨HT, HP, HW, HB, ⟨%f, Hf⟩⟩
  ihave HT := (pointsTo_toks_split (ℓ := tabLoc d) (S := Finset.univ) (f := J.T) fullShare 32) $$ HT
  ihave HP := (pointsTo_toks_split (ℓ := posLoc d) (S := Finset.univ) (f := J.P) fullShare 32) $$ HP
  ihave HW := (pointsTo_toks_split (ℓ := wLoc d) (S := Finset.univ) (f := J.W) fullShare 32) $$ HW
  ihave HB := (pointsTo_toks_split (ℓ := biasLoc d) (S := Finset.univ) (f := J.B) fullShare 32) $$ HB
  icases HT with ⟨-, HT⟩
  icases HP with ⟨-, HP⟩
  icases HW with ⟨-, HW⟩
  icases HB with ⟨HB', HB⟩
  ihave Hf := ((Entails.of_eq (out_pieces (F := F) f)).trans (bigSep_mono fun n _ =>
    show (outLoc d ↦[piece n.val]{fullShare} f : sProp 𝕄) ⊢ iprop(∃ f, outLoc d ↦[piece n.val]{fullShare} f) from by
      iintro H
      iexists f
      iassumption)) $$ Hf
  isplitr [HB']
  · isplitl [HT]; · iexact HT
    isplitl [HW HP HB]
    · isplitl [HW]; · iexact HW
      isplitl [HP]; · iexact HP
      iexact HB
    · iexact Hf
  · iassumption

variable (m : (ℓ : Loc nD τ sig) → Buf (Elt F) ℓ) (ρ : Dev nD → PrngReg)

/-- What device `d` holds at the end: the arguments as they were, the result array at the result. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (biasLoc d ↦{shareDrop fullShare 32} m (biasLoc d)) ∗ ((SparseCore.T d).loc main_arg3 ↦{fullShare} m ((SparseCore.T d).loc main_arg3))
    ∗ ∃ f, ⌜AllRight (inputs m d) f⌝ ∗ outLoc d ↦{fullShare} f)

/-- @main on device `d`'s TensorCore. -/
theorem hmain (κ : GSem nD τ sig → ℕ) (d : Dev nD) :
    iprop((K (F := F)).ctx EH (P (inputs m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = (held (SparseCore.T d) (ucRefs τ sig) (launchContents m d) : sProp 𝕄) from
    unscopedBufs_held d (launchContents m d), main_ops]
  iintro ⟨#Hctx, Hst, ⟨Hb, Hh, Hts, -⟩, -⟩
  iapply (wp_seq (defs := (K (F := F)).defs (D (F := F))) (𝒱 := 𝒱) (bd := none) (E := Set.univ) d (ucRefs τ sig) _ hostOps hostOps_sub hostOps_fresh (launchContents m d)) $$ [Hb Hh]
  · isplitl [Hb] <;> iassumption
  iintro ⟨Hb, Hh⟩
  ihave Hh := (show held (SparseCore.T d) (ucRefs τ sig) (StableHlo.after hostOps (launchContents m d)) ⊢ (_ : sProp 𝕄) from
    Entails.of_eq ((held_sub_split (SparseCore.T d) kept_sub (hostV m d)).trans (by rw [held_kept, hostV_arg0, hostV_arg1, hostV_arg3]))) $$ Hh
  icases Hh with ⟨⟨H0, H1, H3, HT, HP, HW, HB, Ho⟩, -⟩
  ihave HG := (deal (inputs m d)) $$ [HT HP HW HB Ho]
  · isplitl [HT]; · iexact HT
    isplitl [HP]; · iexact HP
    isplitl [HW]; · iexact HW
    isplitl [HB]; · iexact HB
    iexists (hostV m d main_v10)
    iexact Ho
  icases HG with ⟨HG, HB⟩
  ihave HB := (show (biasLoc d ↦{shareDrop fullShare 32} (inputs m d).B : sProp 𝕄) ⊢ (biasLoc d ↦{shareDrop fullShare 32} m (biasLoc d)) from
    Entails.of_eq (congrArg (fun f => (biasLoc d ↦{shareDrop fullShare 32} f : sProp 𝕄)) (hostV_arg2 m d))) $$ HB
  simp only [wp_bind, wp_pure]
  iapply ((K (F := F)).wp_run (D (F := F)) 𝒱 (EH := EH) (P := P (inputs m)) κ d 0) $$ [Hst HG H0 H1 H3 HB Hb Hts]
  isplitr; · iexact Hctx
  isplitl [Hst]; · iexact Hst
  isplitl [HG]
  · rw [st0_eq]
    iexact HG
  iintro ⟨Hst, Hdn⟩
  ihave Hdn := ((Entails.of_eq (dn0_eq (inputs m) d)).trans (made_join (inputs m d))) $$ Hdn
  imodintro
  isplitl [Hst]; · iexact Hst
  isplitr [Hb Hts]
  · unfold FIN
    isplitl [H0]; · iexact H0
    isplitl [H1]; · iexact H1
    isplitl [HB]; · iexact HB
    isplitl [H3]; · iexact H3
    iexact Hdn
  isplitl [Hb] <;> iassumption

/-- What the final memory of device `d` reads. -/
def fq (d : Dev nD) (s' : Phys nD τ sig (Elt F)) : Prop :=
  AllRight (inputs m d) (s'.mem.mem (outLoc d)) ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)

/-- An array held at contents is read at them off the final memory. -/
theorem read_off (s' : Phys nD τ sig (Elt F)) {ℓ : Loc nD τ sig} {q : PosShare TreeShare} {f : Buf (Elt F) ℓ} :
    iprop(SI s' ∗ (ℓ ↦{q} f)) ⊢ (iprop(⌜s'.mem.mem ℓ = f⌝ ∗ SI s') : sProp 𝕄) := by
  iintro H
  ihave H := (persistent_entails_right (SI_pointsTo_agree (st := s') (ℓ := ℓ) (I := Finset.univ) (q := q) (f := f))) $$ H
  icases H with ⟨%h, HSI, -⟩
  isplitr
  · ipureintro
    exact funext fun i => h i (Finset.mem_univ i)
  · iassumption

theorem hfin (d : Dev nD) (s' : Phys nD τ sig (Elt F)) : iprop(FIN m d ∗ SI s') ⊢ (⌜fq m d s'⌝ : sProp 𝕄) := by
  unfold FIN
  iintro ⟨⟨H0, H1, H2, H3, ⟨%f, %hf, Ho⟩⟩, HSI⟩
  ihave H := (read_off s' (ℓ := (SparseCore.T d).loc main_arg0)) $$ [HSI H0]
  · isplitl [HSI] <;> iassumption
  icases H with ⟨%h0, HSI⟩
  ihave H := (read_off s' (ℓ := (SparseCore.T d).loc main_arg1)) $$ [HSI H1]
  · isplitl [HSI] <;> iassumption
  icases H with ⟨%h1, HSI⟩
  ihave H := (read_off s' (ℓ := biasLoc d)) $$ [HSI H2]
  · isplitl [HSI] <;> iassumption
  icases H with ⟨%h2, HSI⟩
  ihave H := (read_off s' (ℓ := (SparseCore.T d).loc main_arg3)) $$ [HSI H3]
  · isplitl [HSI] <;> iassumption
  icases H with ⟨%h3, HSI⟩
  ihave H := (read_off s' (ℓ := outLoc d)) $$ [HSI Ho]
  · isplitl [HSI] <;> iassumption
  icases H with ⟨%ho, -⟩
  ipureintro
  exact ⟨ho ▸ hf, h0, h1, h2, h3⟩

/-! ## The launch element, and the run -/

/-- The handshakes' rounds; the kernel has nothing of its own. -/
def u₀ : UU := (initOf (K (F := F)).hsCells (K (F := F)).hsToks, 1)

theorem bigSep_emps {A : Type} (s : Finset A) : (bigSep s fun _ => iprop(emp)) = (iprop(emp) : sProp 𝕄) := bigSep_emp_const s

theorem hu₀ (I : (d : Dev nD) → Inputs F d) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P I).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emps]; iempintro
  rw [show (bigSep Finset.univ fun thr : Thread nD τ => bigSep Finset.univ fun q : Fin 1 => (P I).x q thr) = bigSep Finset.univ fun _ => iprop(emp) from
    bigSep_congr fun _ _ => bigSep_univ_of_subsingleton (0 : Fin 1), bigSep_emps]
  iempintro

/-- The program runs: the result array ends at the result, the arguments end as they were, every counter at zero. -/
theorem run_main [∀ e, Nonempty (Elt F e)] (hI : ∀ d, (inputs m d).InRange) :
    θ_run (Cert.KernelIdeal.defs (F := F)) (Cert.KernelIdeal.threads (F := F)) ⟨m, fun _ => 0, ρ⟩ fun r =>
      (∀ c : Dev nD, AllRight (inputs m c) (r.2.mem (outLoc c)) ∧ r.2.mem ((SparseCore.T c).loc main_arg0) = m ((SparseCore.T c).loc main_arg0)
        ∧ r.2.mem ((SparseCore.T c).loc main_arg1) = m ((SparseCore.T c).loc main_arg1) ∧ r.2.mem ((SparseCore.T c).loc main_arg2) = m ((SparseCore.T c).loc main_arg2)
        ∧ r.2.mem ((SparseCore.T c).loc main_arg3) = m ((SparseCore.T c).loc main_arg3)) ∧ r.2.sem = fun _ => 0 :=
  SparseCore.Cfg.θ_run_sc_quiescent (K := K (F := F)) (D := D (F := F)) (𝒱 := 𝒱) (EH := EH) (P := P (inputs m)) (A := ∅) facts v₀
    (fun q hq => match q with | 0 => nomatch hq)
    (fun q _ => match q with | 0 => tileObl (inputs m) hI)
    (fun q _ => match q with | 0 => SparseCore.Cfg.VecSplit.of_plain (vecSplit (inputs m)))
    m ρ main (fun _ => iprop(emp)) (FIN m) (u₀ (F := F)) (sep_elim_left.trans (hu₀ (inputs m))) (hmain m ρ) (fq m) (hfin m) _ (fun _ h hz => ⟨h, hz⟩)

end Cert.Proof.Patch
-- ==== Proof.Value.Arrays.lean ====
/- The arrays that the call reads, element by element, in terms of the arguments. -/
module
public import proofs.«01_k».proof.Proof.Sparse.HostOps
public import Idealize.ShloMosaic.Lib.Pointwise

@[expose] public section

noncomputable section

namespace Cert.Proof.Patch

open Cert.KernelIdeal Cert.KernelIdeal.Gen
open Idealize.ShloMosaic

variable {F : FTy → Type} [FloatOps F]

/-- Turning the last two axes and laying a row out flat: element `200 k + q` of row `v` is element `[v, q, k]`. -/
theorem rows_apply {α : Type} (X : S1024x200x64.Idx → α) (v : Fin 1024) (q : Fin 200) (k : Fin 64) :
    shapeCast S1024x12800 (transpose S1024x64x200 [0, 2, 1] X transposes_S1024x200x64_S1024x64x200_0_2_1) shapeCasts_S1024x64x200_S1024x12800
      (ix2 v ⟨200 * k.val + q.val, by omega⟩) = X (ix3 v q k) := by
  pointwise

/-- The positions: word `200 j + q` of row `v` is the position at entry `[v, q, 8 j]`. -/
theorem posRows_apply (X : IVec S1024x200x64x2 32) (v : Fin 1024) (q : Fin 200) (j : Fin 8) :
    shapeCast S1024x1600 (transpose S1024x8x200 [0, 2, 1] (shapeCast S1024x200x8 (Host.slice S1024x200x8x1 ![0, 0, 0, 0] ![1, 1, 8, 1] X slicesBy_S1024x200x64x2_S1024x200x8x1_0s1_0s1_0s8_0s1)
      shapeCasts_S1024x200x8x1_S1024x200x8) transposes_S1024x200x8_S1024x8x200_0_2_1) shapeCasts_S1024x8x200_S1024x1600
      (ix2 v ⟨200 * j.val + q.val, by omega⟩) = X (ix4 v q ⟨8 * j.val, by omega⟩ 0) := by
  pointwise

/-- The planes: word `1024 (8 b + c) + p` is element `[b, p, c]`. -/
theorem planes_apply {α : Type} (X : S4x1024x8.Idx → α) (b : Fin 4) (c : Fin 8) (p : Fin 1024) :
    shapeCast S32768 (transpose S4x8x1024 [0, 2, 1] X transposes_S4x1024x8_S4x8x1024_0_2_1) shapeCasts_S4x8x1024_S32768
      (ix1 ⟨1024 * (8 * b.val + c.val) + p.val, by omega⟩) = X (ix3 b p c) := by
  pointwise

end Cert.Proof.Patch
-- ==== Proof.Value.Coords.lean ====
/- What the precondition says of the coordinates, entry by entry. -/
module
public import proofs.«01_k».proof.Pre_coords_patches
public import Idealize.ShloMosaic.Lib.Pointwise
public import Idealize.ShloMosaic.Lib.Affine

@[expose] public section

noncomputable section

namespace Cert.Proof.Patch

open Idealize.ShloMosaic

/-- The array of coordinates. -/
abbrev Coords := IVec ⟨4, ![1024, 200, 64, 2]⟩ 32

/-- The first entry of entry `k`'s group of eight. -/
def head (k : Fin 64) : Fin 64 := ⟨8 * (k.val / 8), by omega⟩

/-- The coordinates come in groups of eight that share a position, the channels counting from zero to seven in each, and every position is a row of the array. -/
structure Patches (C : Coords) : Prop where
  pos_lt : ∀ v q k, (C (ix4 v q k 0)).toNat < 1024
  pos_head : ∀ v q k, C (ix4 v q k 0) = C (ix4 v q (head k) 0)
  channel : ∀ v q k, (C (ix4 v q k 1)).toNat = k.val % 8

/-- A word that is at least zero and below 1024 as a signed number is below 1024 as a natural number. -/
theorem toNat_lt_of_signed {x : BitVec 32} (h0 : (0#32).toInt ≤ x.toInt) (h1 : x.toInt < (1024#32).toInt) : x.toNat < 1024 := by
  have e0 : (0#32).toInt = 0 := by decide
  have e1 : (1024#32).toInt = 1024 := by decide
  rw [e0] at h0
  rw [e1] at h1
  rw [BitVec.toInt_eq_toNat_cond] at h0 h1
  have hx := x.isLt
  split at h0 <;> omega

/-- The low three bits of a number below 64, as a word. -/
theorem low_bits (k : Fin 64) : (IntOp.andi (BitVec.ofNat 32 k.val) 7#32).toNat = k.val % 8 := by
  revert k; decide

section
variable {F : FTy → Type} [FloatOps F] [Cert.Pre_coords_patches.Facts] {y : FVec F ⟨3, ![4, 1024, 8]⟩ .f32} {w : FVec F ⟨3, ![1024, 200, 64]⟩ .f32}
  {b : FVec F ⟨2, ![1024, 200]⟩ .f32} {C : Coords}

/-- One entry's checks: its position's range, its channel, and that inside a group its position is the entry before's. -/
theorem entry_checks (h : Cert.Pre_coords_patches.fn y w b C = fun _ => 1#1) (v : Fin 1024) (q : Fin 200) (k : Fin 64) :
    (C (ix4 v q k 0)).toNat < 1024 ∧ (C (ix4 v q k 1)).toNat = k.val % 8
      ∧ (k.val % 8 ≠ 0 → C (ix4 v q k 0) = C (ix4 v q ⟨k.val - 1, by omega⟩ 0)) := by
  have e := congrFun h (ix4 v q k 0)
  pointwise [Cert.Pre_coords_patches.fn] at e
  rw [IntOp.andi_eq_one, IntOp.andi_eq_one, IntOp.andi_eq_one, IntOp.ori_eq_one, IntOp.cmpi_sge, IntOp.cmpi_slt, IntOp.cmpi_eq, IntOp.cmpi_eq, IntOp.cmpi_eq] at e
  obtain ⟨⟨⟨h0, h1⟩, h2⟩, h3⟩ := e
  refine ⟨toNat_lt_of_signed h0 h1, by rw [h2, low_bits], fun hk => ?_⟩
  rcases h3 with h3 | h3
  · rwa [dif_neg (by omega)] at h3
  · exact absurd ((low_bits k).symm.trans (congrArg BitVec.toNat h3)) hk

/-- The precondition says that the coordinates are patches. -/
theorem patches_of_pre (h : Cert.Pre_coords_patches.fn y w b C = fun _ => 1#1) : Patches C where
  pos_lt v q k := (entry_checks h v q k).1
  channel v q k := (entry_checks h v q k).2.1
  pos_head v q k := by
    have step : ∀ n : ℕ, ∀ k : Fin 64, k.val % 8 = n → C (ix4 v q k 0) = C (ix4 v q (head k) 0) := by
      intro n
      induction n with
      | zero =>
        intro k hk
        have e : head k = k := Fin.ext (by show 8 * (k.val / 8) = k.val; omega)
        rw [e]
      | succ n ih =>
        intro k hk
        have e : head ⟨k.val - 1, by omega⟩ = head k := Fin.ext (by show 8 * ((k.val - 1) / 8) = 8 * (k.val / 8); omega)
        rw [(entry_checks h v q k).2.2 (by omega), ih ⟨k.val - 1, by omega⟩ (by show (k.val - 1) % 8 = n; omega), e]
    exact step _ k rfl

end

end Cert.Proof.Patch
-- ==== Proof.Value.Equation.lean ====
/- Over the extended reals, the kernel's order of adding is the sum of the sixty-four products and the bias. -/
module
public import proofs.«01_k».proof.Proof.Sparse.Lane
public import Idealize.ShloMosaic.Lib.Pointwise

@[expose] public section

noncomputable section

namespace Cert.Proof.Patch

open Idealize.ShloMosaic

/-- The activation, over the extended reals: the number itself when it is at least zero, a tenth of it otherwise. -/
def act (x : EReal) : EReal := if (0 : EReal) ≤ x then x else x * Ideal.ofBits .f32 0x3DCCCCCD#32

/-- The product that channel `c` of patch `j` adds. -/
def prod (tab : ℕ → EReal) (pos : ℕ → ℕ) (w : ℕ → EReal) (b j c : ℕ) : EReal := tab (pos j + 1024 * (8 * b + c)) * w (8 * j + c)

/-- The kernel's activation is that one. -/
theorem laneLeaky_eq (x : Ideal .f32) : laneLeaky x = act x := by
  unfold laneLeaky act
  pointwise

/-- A patch adds its eight products. -/
theorem laneStep_eq (tab : ℕ → Ideal .f32) (pos : ℕ → ℕ) (w : ℕ → Ideal .f32) (b j : ℕ) (a : Ideal .f32) :
    laneStep tab (pos j) w b j a = (a + ∑ c : Fin 8, prod tab pos w b j c.val : EReal) := by
  simp only [laneStep, lanePair, laneTerm, Ideal.addf_def, Ideal.mulf_def, Fin.sum_univ_eight, prod]
  simp only [add_assoc]
  rfl

/-- Sixty-four products are eight patches' eight products each. -/
theorem sum_patches (f : ℕ → ℕ → EReal) : (∑ k : Fin 64, f (k.val / 8) (k.val % 8)) = ∑ j : Fin 8, ∑ c : Fin 8, f j.val c.val := by
  rw [← Fintype.sum_prod_type', ← (finProdFinEquiv (m := 8) (n := 8)).sum_comp]
  refine Finset.sum_congr rfl fun x _ => ?_
  have h1 : (finProdFinEquiv (m := 8) (n := 8) x).val / 8 = x.1.val := by simp [finProdFinEquiv]; omega
  have h2 : (finProdFinEquiv (m := 8) (n := 8) x).val % 8 = x.2.val := by simp [finProdFinEquiv]
  rw [h1, h2]

/-- The output element: the activation of the sixty-four products and the bias. -/
theorem lane_eq (tab : ℕ → Ideal .f32) (pos : ℕ → ℕ) (w : ℕ → Ideal .f32) (bias : Ideal .f32) (b : ℕ) :
    lane tab pos w bias b = act ((∑ k : Fin 64, prod tab pos w b (k.val / 8) (k.val % 8)) + bias) := by
  rw [sum_patches (prod tab pos w b)]
  unfold lane laneEven laneOdd
  rw [laneStep_eq, laneStep_eq, laneStep_eq, laneStep_eq, laneStep_eq, laneStep_eq, laneStep_eq, laneStep_eq, laneLeaky_eq]
  have z : (Scalar.ofBits .f32 0x00000000#32 : Ideal .f32) = (0 : EReal) := Ideal.ofBits_zero_f32
  generalize hS : (fun j : ℕ => ∑ c : Fin 8, prod tab pos w b j c.val) = S
  have hj : ∀ j : ℕ, (∑ c : Fin 8, prod tab pos w b j c.val) = S j := fun j => congrFun hS j
  simp only [hj]
  rw [Fin.sum_univ_eight, z, zero_add]
  refine congrArg act ?_
  show ((bias + S 0 + S 2 + S 4 + S 6) + (S 1 + S 3 + S 5 + S 7) : EReal) = ((((((((S 0 + S 1) + S 2) + S 3) + S 4) + S 5) + S 6) + S 7) + bias : EReal)
  abel

end Cert.Proof.Patch
-- ==== Proof.Value.Reference.lean ====
/- What the reference computes, element by element. -/
module
public import proofs.«01_k».proof.Proof.Gen.ReferenceIdeal.Run
public import proofs.«01_k».proof.Proof.Value.Coords
public import proofs.«01_k».proof.Proof.Value.Equation
public import Idealize.ShloMosaic.Lib.Pointwise
public import Idealize.ShloMosaic.Lib.WordCmp

@[expose] public section

noncomputable section

namespace Cert.Proof.Patch

open Cert.ReferenceIdeal Cert.ReferenceIdeal.Gen Cert.ReferenceIdeal.Value
open Idealize.ShloMosaic

/-- The dimension numbers of the reference's gather. -/
abbrev refGather := gather_S1024x8x4_S1024x200x64x2_S1024x200x64x4_3_01_n_n_01_3_114

/-- A small word read as a signed number and cut off at `n - 1` is itself. -/
theorem clamp_small {x : BitVec 32} {n : ℕ} (h : x.toNat < n) (hn : n ≤ 1024) : min x.toInt.toNat (n - 1) = x.toNat := by
  rw [WordCmp.toInt_eq_toNat_of_lt_half (by omega)]; omega

/-- The gather at an index whose two words are in range: the element they name. -/
theorem refGather_apply {α : Type} (X : S1024x8x4.Idx → α) (I : IVec S1024x200x64x2 32) (v : Fin 1024) (q : Fin 200) (k : Fin 64) (b : Fin 4)
    (hp : (I (ix4 v q k 0)).toNat < 1024) (hc : (I (ix4 v q k 1)).toNat < 8) :
    Host.gather refGather X I (ix4 v q k b) = X (ix3 ⟨(I (ix4 v q k 0)).toNat, hp⟩ ⟨(I (ix4 v q k 1)).toNat, hc⟩ b) := by
  unfold Host.gather
  refine congrArg X (funext fun a => Fin.ext ?_)
  show refGather.start (ix4 v q k b) I a + refGather.batchCoord (ix4 v q k b) a + refGather.offCoord (ix4 v q k b) a = _
  rw [GatherDims.batchCoord_eq_zero _ _ _ List.not_mem_nil, Nat.add_zero]
  have sI : ∀ n : Fin 2, refGather.siIdx (ix4 v q k b) n = ix4 v q k n := by
    intro n
    funext e; refine Fin.ext ?_
    match e with
    | ⟨0, _⟩ => rfl
    | ⟨1, _⟩ => rfl
    | ⟨2, _⟩ => rfl
    | ⟨3, _⟩ => rfl
  match a with
  | ⟨0, _⟩ =>
    rw [GatherDims.offCoord_eq_zero _ _ _ (fun h => ((GatherDims.mem_sKept _ _).mp h).1 (show (0 : Fin 3) ∈ ([0, 1] : List (Fin 3)) by decide)), Nat.add_zero]
    exact (congrArg (fun i => min (I i).toInt.toNat 1023) (sI 0)).trans (clamp_small hp (by decide))
  | ⟨1, _⟩ =>
    rw [GatherDims.offCoord_eq_zero _ _ _ (fun h => ((GatherDims.mem_sKept _ _).mp h).1 (show (1 : Fin 3) ∈ ([0, 1] : List (Fin 3)) by decide)), Nat.add_zero]
    exact (congrArg (fun i => min (I i).toInt.toNat 7) (sI 1)).trans (clamp_small hc (by decide))
  | ⟨2, _⟩ =>
    show refGather.start (ix4 v q k b) I 2 + refGather.offCoord (ix4 v q k b) 2 = _
    have h0 : refGather.start (ix4 v q k b) I 2 = 0 := by
      unfold GatherDims.start; rw [dif_neg (by decide)]
    rw [h0, Nat.zero_add]
    rfl

/-- The reference's indices: each coordinate, a negative one moved up by the axis's length. -/
def wrapped (C : IVec S1024x200x64x2 32) : IVec S1024x200x64x2 32 :=
  concatenate S1024x200x64x2 3 [⟨S1024x200x64x1, (broadcastInDim S1024x200x64x1 ![0, 1, 2] bcast_S1024x200x64_S1024x200x64x1_0_1_2 (select (cmpi .slt (shapeCast _ (extractStridedSlice S1024x200x64x1 ![0, 0, 0, 0] C slices_S1024x200x64x2_S1024x200x64x1_0_0_0_0) shapeCasts_S1024x200x64x1_S1024x200x64) (broadcastInDim S1024x200x64 ![] bcast_S_S1024x200x64 (constantI S_ 32 0#32))) (addi (shapeCast _ (extractStridedSlice S1024x200x64x1 ![0, 0, 0, 0] C slices_S1024x200x64x2_S1024x200x64x1_0_0_0_0) shapeCasts_S1024x200x64x1_S1024x200x64) (broadcastInDim S1024x200x64 ![] bcast_S_S1024x200x64 (constantI S_ 32 1024#32))) (shapeCast _ (extractStridedSlice S1024x200x64x1 ![0, 0, 0, 0] C slices_S1024x200x64x2_S1024x200x64x1_0_0_0_0) shapeCasts_S1024x200x64x1_S1024x200x64)))⟩,
    ⟨S1024x200x64x1, (broadcastInDim S1024x200x64x1 ![0, 1, 2] bcast_S1024x200x64_S1024x200x64x1_0_1_2 (select (cmpi .slt (shapeCast _ (extractStridedSlice S1024x200x64x1 ![0, 0, 0, 1] C slices_S1024x200x64x2_S1024x200x64x1_0_0_0_1) shapeCasts_S1024x200x64x1_S1024x200x64) (broadcastInDim S1024x200x64 ![] bcast_S_S1024x200x64 (constantI S_ 32 0#32))) (addi (shapeCast _ (extractStridedSlice S1024x200x64x1 ![0, 0, 0, 1] C slices_S1024x200x64x2_S1024x200x64x1_0_0_0_1) shapeCasts_S1024x200x64x1_S1024x200x64) (broadcastInDim S1024x200x64 ![] bcast_S_S1024x200x64 (constantI S_ 32 8#32))) (shapeCast _ (extractStridedSlice S1024x200x64x1 ![0, 0, 0, 1] C slices_S1024x200x64x2_S1024x200x64x1_0_0_0_1) shapeCasts_S1024x200x64x1_S1024x200x64)))⟩]
    concatenates_S1024x200x64x1_S1024x200x64x1_S1024x200x64x2_d3

/-- A word whose number is small is not negative. -/
theorem not_slt_zero {x : BitVec 32} (h : x.toNat < 1024) : ¬ IntOp.cmpi .slt x 0#32 = 1#1 := by
  rw [IntOp.cmpi_slt, WordCmp.toInt_eq_toNat_of_lt_half (by omega)]
  have e0 : (0#32).toInt = 0 := by decide
  omega

/-- Coordinates that are not negative stay. -/
theorem wrapped_apply (C : IVec S1024x200x64x2 32) (v : Fin 1024) (q : Fin 200) (k : Fin 64) (n : Fin 2) (h : (C (ix4 v q k n)).toNat < 1024) :
    wrapped C (ix4 v q k n) = C (ix4 v q k n) := by
  have hn := not_slt_zero h
  match n with
  | ⟨0, _⟩ => unfold wrapped; pointwise; exact if_neg hn
  | ⟨1, _⟩ => unfold wrapped; pointwise; exact if_neg hn

/-- The sum of products and bias, before the activation. -/
def preact (y : FVec Ideal S4x1024x8 .f32) (w : FVec Ideal S1024x200x64 .f32) (b : FVec Ideal S1024x200 .f32) (I : IVec S1024x200x64x2 32) : FVec Ideal S4x1024x200 .f32 :=
  addf (Host.reduceAdd (mulf (transpose S4x1024x200x64 [3, 0, 1, 2] (Host.gather refGather (transpose S1024x8x4 [1, 2, 0] y transposes_S4x1024x8_S1024x8x4_1_2_0) I) transposes_S1024x200x64x4_S4x1024x200x64_3_0_1_2)
      (broadcastInDim S4x1024x200x64 ![0, 1, 2, 3] bcast_S1x1024x200x64_S4x1024x200x64_0_1_2_3 (broadcastInDim S1x1024x200x64 ![1, 2, 3] bcast_S1024x200x64_S1x1024x200x64_1_2_3 w)))
      (constant S_ .f32 0x00000000#32) reducesTo_S4x1024x200x64_S4x1024x200_d3 h_S_)
    (broadcastInDim S4x1024x200 ![0, 1, 2] bcast_S1x1024x200_S4x1024x200_0_1_2 (broadcastInDim S1x1024x200 ![1, 2] bcast_S1024x200_S1x1024x200_1_2 b))

/-- That sum at an index, for indices in range. -/
theorem preact_apply (y : FVec Ideal S4x1024x8 .f32) (w : FVec Ideal S1024x200x64 .f32) (bias : FVec Ideal S1024x200 .f32) (I : IVec S1024x200x64x2 32)
    (hp : ∀ v q k, (I (ix4 v q k 0)).toNat < 1024) (hc : ∀ v q k, (I (ix4 v q k 1)).toNat < 8) (b : Fin 4) (v : Fin 1024) (q : Fin 200) :
    preact y w bias I (ix3 b v q)
      = ((∑ k : Fin 64, y (ix3 b ⟨(I (ix4 v q k 0)).toNat, hp v q k⟩ ⟨(I (ix4 v q k 1)).toNat, hc v q k⟩) * w (ix3 v q k)) + bias (ix2 v q) : EReal) := by
  have hg : ∀ k : Fin 64, Host.gather refGather (transpose S1024x8x4 [1, 2, 0] y transposes_S4x1024x8_S1024x8x4_1_2_0) I (ix4 v q k b)
      = y (ix3 b ⟨(I (ix4 v q k 0)).toNat, hp v q k⟩ ⟨(I (ix4 v q k 1)).toNat, hc v q k⟩) := by
    intro k
    rw [refGather_apply _ I v q k b (hp v q k) (hc v q k)]
    pointwise
  unfold preact
  pointwise
  simp only [hg]

/-- What the output holds at batch `b`, row `v`, position `q`: over the sixty-four entries, the value at the group's position in the entry's channel, times the
    entry's weight; the bias; and the activation of that. -/
def resultOf (y : S4x1024x8.Idx → EReal) (w : S1024x200x64.Idx → EReal) (bias : S1024x200.Idx → EReal) {C : IVec S1024x200x64x2 32} (hC : Patches C)
    (b : Fin 4) (v : Fin 1024) (q : Fin 200) : EReal :=
  act ((∑ k : Fin 64, y (ix3 b ⟨(C (ix4 v q (head k) 0)).toNat, hC.pos_lt v q (head k)⟩ ⟨k.val % 8, Nat.mod_lt _ (by decide)⟩) * w (ix3 v q k)) + bias (ix2 v q))

variable (m : (ℓ : Loc nD τ sig) → Buf (Elt Ideal) ℓ) (c : Dev nD)

/-- The reference's result is the activation of that sum. -/
theorem reference_act (b : Fin 4) (v : Fin 1024) (q : Fin 200) :
    res_main_v27 m c (ix3 b v q)
      = act (preact (m ((c.tc : Thread nD τ).loc main_arg0)) (m ((c.tc : Thread nD τ).loc main_arg1)) (m ((c.tc : Thread nD τ).loc main_arg2)) (wrapped (m ((c.tc : Thread nD τ).loc main_arg3))) (ix3 b v q)) := by
  have e : ∃ t : FVec Ideal S4x1024x200 .f32, t = preact (m ((c.tc : Thread nD τ).loc main_arg0)) (m ((c.tc : Thread nD τ).loc main_arg1)) (m ((c.tc : Thread nD τ).loc main_arg2)) (wrapped (m ((c.tc : Thread nD τ).loc main_arg3))) := ⟨_, rfl⟩
  obtain ⟨t, ht⟩ := e
  have h : res_main_v27 m c = select (cmpf .oge t (broadcastInDim S4x1024x200 ![] bcast_S_S4x1024x200 (constant S_ .f32 0x00000000#32))) t
      (mulf (broadcastInDim S4x1024x200 ![] bcast_S_S4x1024x200 (id (constant S_ .f32 0x3DCCCCCD#32))) t) := by
    subst ht; rfl
  rw [← ht, h]
  unfold act
  pointwise
  show (if _ then _ else (Ideal.ofBits .f32 0x3DCCCCCD#32 * t (ix3 b v q) : EReal)) = _
  rw [mul_comm]

/-- The reference's result, where the coordinates are patches. -/
theorem reference_apply {C : IVec S1024x200x64x2 32} (hm : m ((c.tc : Thread nD τ).loc main_arg3) = C) (hC : Patches C) (b : Fin 4) (v : Fin 1024) (q : Fin 200) :
    res_main_v27 m c (ix3 b v q) = resultOf (m ((c.tc : Thread nD τ).loc main_arg0)) (m ((c.tc : Thread nD τ).loc main_arg1)) (m ((c.tc : Thread nD τ).loc main_arg2)) hC b v q := by
  have e0 : ∀ v q k, wrapped C (ix4 v q k 0) = C (ix4 v q k 0) := fun v q k => wrapped_apply C v q k 0 (hC.pos_lt v q k)
  have e1 : ∀ v q k, wrapped C (ix4 v q k 1) = C (ix4 v q k 1) := fun v q k => wrapped_apply C v q k 1 (by rw [hC.channel]; omega)
  rw [reference_act, hm, preact_apply _ _ _ _ (fun v q k => by rw [e0]; exact hC.pos_lt v q k) (fun v q k => by rw [e1, hC.channel]; omega)]
  unfold resultOf
  refine congrArg act (congrArg (· + _) (Finset.sum_congr rfl fun k _ => congrArg (· * _) (congrArg _ ?_)))
  have p : (wrapped C (ix4 v q k 0)).toNat = (C (ix4 v q (head k) 0)).toNat := by rw [e0, hC.pos_head]
  have n : (wrapped C (ix4 v q k 1)).toNat = k.val % 8 := by rw [e1, hC.channel]
  simp only [p, n]

end Cert.Proof.Patch
-- ==== Proof.Value.Kernel.lean ====
/- What the call reads and writes, in terms of the arguments. -/
module
public import proofs.«01_k».proof.Proof.Sparse.Run
public import proofs.«01_k».proof.Proof.Value.Arrays
public import proofs.«01_k».proof.Proof.Value.Reference

@[expose] public section

noncomputable section

namespace Cert.Proof.Patch

open Cert.KernelIdeal Cert.KernelIdeal.Gen
open Idealize.ShloMosaic

/-- An element by its number, when the number is below the length. -/
theorem word_lt {N : ℕ} {A : Type} (X : (⟨1, ![N]⟩ : Shape).Idx → A) (h : 0 < N) {n : ℕ} (hn : n < N) : word X h n = X (ix1 ⟨n, hn⟩) :=
  (word_of X h (ix1 ⟨n, hn⟩) rfl).symm

section
variable {F : FTy → Type} [FloatOps F] (m : (ℓ : Loc nD τ sig) → Buf (Elt F) ℓ) (d : Dev nD)

/-- Row `v`'s positions: word `200 j + q` is the position at entry `[v, q, 8 j]`. -/
theorem pRow_word (v : Fin 1024) (q : Fin 200) (j : Fin 8) :
    posW ((inputs m d).pRow v) (200 * j.val + q.val) = m ((d.tc : Thread nD τ).loc main_arg3) (ix4 v q ⟨8 * j.val, by omega⟩ 0) := by
  exact (word_lt _ _ (by omega)).trans ((congrFun (hostV_v3 m d) (ix2 v ⟨200 * j.val + q.val, by omega⟩)).trans (posRows_apply _ v q j))

/-- Row `v`'s weights: word `200 k + q` is the weight at entry `[v, q, k]`. -/
theorem wRow_word (v : Fin 1024) (q : Fin 200) (k : Fin 64) :
    weightW ((inputs m d).wRow v) (200 * k.val + q.val) = m ((d.tc : Thread nD τ).loc main_arg1) (ix3 v q k) := by
  exact (word_lt _ _ (by omega)).trans ((congrFun (hostV_v9 m d) (ix2 v ⟨200 * k.val + q.val, by omega⟩)).trans (rows_apply _ v q k))

/-- Row `v`'s biases. -/
theorem bRow_word (v : Fin 1024) (q : Fin 200) :
    biasW ((inputs m d).bRow v) q.val = m ((d.tc : Thread nD τ).loc main_arg2) (ix2 v q) := by
  exact (word_lt _ _ q.isLt).trans (congrFun (hostV_arg2 m d) (ix2 v q))

/-- Every position that the call reads is a row of the table. -/
theorem inRange {C : IVec S1024x200x64x2 32} (hm : m ((d.tc : Thread nD τ).loc main_arg3) = C) (hC : Patches C) : (inputs m d).InRange := by
  intro v y
  have hy : (y 0).val < 1600 := (y 0).isLt
  have e := pRow_word m d v ⟨(y 0).val % 200, Nat.mod_lt _ (by decide)⟩ ⟨(y 0).val / 200, by omega⟩
  rw [hm] at e
  have n : (y (0 : Fin 1)).val = 200 * ((y 0).val / 200) + (y 0).val % 200 := by omega
  rw [word_of ((inputs m d).pRow v) (by decide) y n]
  refine lt_of_eq_of_lt (congrArg BitVec.toNat e) (hC.pos_lt _ _ _)

end

section
variable (m : (ℓ : Loc nD τ sig) → Buf (Elt Ideal) ℓ) (d : Dev nD)

/-- The table: word `p + 1024 (8 b + c)` is the value at `[b, p, c]`. -/
theorem tab_word (b : Fin 4) (p : Fin 1024) (c : Fin 8) :
    tabW (inputs m d).tab (p.val + 1024 * (8 * b.val + c.val)) = m ((d.tc : Thread nD τ).loc main_arg0) (ix3 b p c) := by
  rw [Nat.add_comm p.val]
  exact (word_lt _ _ (by omega)).trans ((congrFun (hostV_v7 m d) (ix1 ⟨1024 * (8 * b.val + c.val) + p.val, by omega⟩)).trans (planes_apply _ b c p))

/-- One element of the output. -/
theorem cell_apply {C : IVec S1024x200x64x2 32} (hm : m ((d.tc : Thread nD τ).loc main_arg3) = C) (hC : Patches C) (b : Fin 4) (v : Fin 1024) (q : Fin 200) :
    (inputs m d).cell v b.val q.val
      = resultOf (m ((d.tc : Thread nD τ).loc main_arg0)) (m ((d.tc : Thread nD τ).loc main_arg1)) (m ((d.tc : Thread nD τ).loc main_arg2)) hC b v q := by
  unfold Inputs.cell rowVal
  rw [lane_eq, bRow_word]
  unfold resultOf
  refine congrArg act (congrArg (· + _) (Finset.sum_congr rfl fun k _ => ?_))
  unfold prod
  have hw := wRow_word m d v q k
  have hp := pRow_word m d v q ⟨k.val / 8, by omega⟩
  rw [hm] at hp
  have ht := tab_word m d b ⟨(C (ix4 v q (head k) 0)).toNat, hC.pos_lt v q (head k)⟩ ⟨k.val % 8, Nat.mod_lt _ (by decide)⟩
  have hk : 8 * (k.val / 8) + k.val % 8 = k.val := Nat.div_add_mod _ _
  simp only [hk]
  rw [← hw, ← ht]
  refine congrArg (· * _) (congrArg (fun n => tabW (inputs m d).tab (n + 1024 * (8 * b.val + k.val % 8))) ?_)
  exact congrArg BitVec.toNat hp

/-- The whole output is the reference's result, where the coordinates are patches. -/
theorem output_eq {m' : (ℓ : Loc Cert.ReferenceIdeal.nD Cert.ReferenceIdeal.τ Cert.ReferenceIdeal.sig) → Buf (Elt Ideal) ℓ} {c' : Dev Cert.ReferenceIdeal.nD}
    (h0 : m' ((c'.tc : Thread Cert.ReferenceIdeal.nD Cert.ReferenceIdeal.τ).loc Cert.ReferenceIdeal.main_arg0) = m ((d.tc : Thread nD τ).loc main_arg0))
    (h1 : m' ((c'.tc : Thread Cert.ReferenceIdeal.nD Cert.ReferenceIdeal.τ).loc Cert.ReferenceIdeal.main_arg1) = m ((d.tc : Thread nD τ).loc main_arg1))
    (h2 : m' ((c'.tc : Thread Cert.ReferenceIdeal.nD Cert.ReferenceIdeal.τ).loc Cert.ReferenceIdeal.main_arg2) = m ((d.tc : Thread nD τ).loc main_arg2))
    (h3 : m' ((c'.tc : Thread Cert.ReferenceIdeal.nD Cert.ReferenceIdeal.τ).loc Cert.ReferenceIdeal.main_arg3) = m ((d.tc : Thread nD τ).loc main_arg3))
    (hC : Patches (m ((d.tc : Thread nD τ).loc main_arg3))) {f : Buf (Elt Ideal) (outLoc d)} (hf : AllRight (inputs m d) f) :
    f = Cert.ReferenceIdeal.Value.res_main_v27 m' c' := by
  have e : ∀ y : S4x1024x200.Idx, f y = Cert.ReferenceIdeal.Value.res_main_v27 m' c' y := by
    intro y
    obtain ⟨b, v, q, rfl⟩ : ∃ (b : Fin 4) (v : Fin 1024) (q : Fin 200), y = ix3 b v q := by
      refine ⟨y 0, y 1, y 2, funext fun a => ?_⟩
      match a with
      | ⟨0, _⟩ => rfl
      | ⟨1, _⟩ => rfl
      | ⟨2, _⟩ => rfl
    refine (hf (ix3 b v q)).trans ((cell_apply m d rfl hC b v q).trans ?_)
    rw [reference_apply m' c' h3 hC, h0, h1, h2]
  exact funext e

end

end Cert.Proof.Patch
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_coords_patches
public import proofs.«01_k».proof.Proof.Value.Kernel
public import Idealize.ShloMosaic.Adequacy
public import Idealize.ShloMosaic.Init

@[expose] public section

noncomputable section

namespace Cert.Proof

open Idealize.ShloMosaic Idealize.SL.Sem Cert.Proof.Patch

/-- The kernel as printed runs, ends at rest and leaves its arguments alone. -/
theorem frame_kernel : Cert.quiescent_Kernel := fun m ρ h =>
  (θ_run (Cert.KernelIdeal.defs (F := Bits)) _ _).mono (fun _ h => ⟨fun c => (h.1 c).2, h.2⟩)
    (run_main (F := Bits) m ρ fun d => inRange m d rfl (patches_of_pre (h d)))

/-- So does the kernel over the extended reals. -/
theorem frame_kernelIdeal : Cert.quiescent_KernelIdeal := fun m ρ h =>
  (θ_run (Cert.KernelIdeal.defs (F := Ideal)) _ _).mono (fun _ h => ⟨fun c => (h.1 c).2, h.2⟩)
    (run_main (F := Ideal) m ρ fun d => inRange m d rfl (patches_of_pre (h d)))

/-- So does the reference, from any memory. -/
theorem frame_referenceIdeal : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The two results are equal over the extended reals. -/
theorem algebraic : Cert.algebraic_KernelIdeal_ReferenceIdeal := by
  intro m ρ m' ρ' hpre hargs
  have hC : ∀ d : Dev Cert.KernelIdeal.nD, Patches (m ((d.tc : Thread Cert.KernelIdeal.nD Cert.KernelIdeal.τ).loc Cert.KernelIdeal.main_arg3)) := fun d => patches_of_pre (hpre d)
  refine ⟨fun c => Cert.ReferenceIdeal.Value.res_main_v27 m' c, ?_, Cert.ReferenceIdeal.Value.run (F := Ideal) m' ρ'⟩
  refine (θ_run (Cert.KernelIdeal.defs (F := Ideal)) _ _).mono (fun _ h c => ⟨?_, (h.1 c).2⟩) (run_main (F := Ideal) m ρ fun d => inRange m d rfl (hC d))
  exact output_eq m c (hargs c).1 (hargs c).2.1 (hargs c).2.2.1 (hargs c).2.2.2 (hC c) (h.1 c).1

theorem claim : Cert.Claim :=
  ⟨Cert.Kernel.Gen.facts, Cert.KernelIdeal.Gen.facts, Cert.ReferenceIdeal.Gen.facts, Cert.Pre_coords_patches.Gen.facts,
    frame_kernel, frame_kernelIdeal, frame_referenceIdeal, fun m ρ _ => frame_referenceIdeal m ρ trivial, trivial, algebraic⟩

end Cert.Proof

end
